-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v7_0)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v10)) (v5 : (c : Dev Cert.KernelIdeal.nD) → Buf (Elt Ideal) ((c.tc : Thread Cert.KernelIdeal.nD Cert.KernelIdeal.τ).loc Cert.KernelIdeal.main_v11)) (v6 : (c : Dev Cert.KernelIdeal.nD) → Buf (Elt Ideal) ((c.tc : Thread Cert.KernelIdeal.nD Cert.KernelIdeal.τ).loc Cert.KernelIdeal.main_v12)) (v7 : (c : Dev Cert.KernelIdeal.nD) → Buf (Elt Ideal) ((c.tc : Thread Cert.KernelIdeal.nD Cert.KernelIdeal.τ).loc Cert.KernelIdeal.main_v6_3)) (v8 : (c : Dev Cert.KernelIdeal.nD) → Buf (Elt Ideal) ((c.tc : Thread Cert.KernelIdeal.nD Cert.KernelIdeal.τ).loc Cert.KernelIdeal.main_v5_0)) (v9 : (c : Dev Cert.KernelIdeal.nD) → Buf (Elt Ideal) ((c.tc : Thread Cert.KernelIdeal.nD Cert.KernelIdeal.τ).loc Cert.KernelIdeal.main_v5_2)) (v10 : (c : Dev Cert.KernelIdeal.nD) → Buf (Elt Ideal) ((c.tc : Thread Cert.KernelIdeal.nD Cert.KernelIdeal.τ).loc Cert.KernelIdeal.main_v13)) (v11 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_v11) = v5 c
          ∧ r.2.mem ((c.tc : Thread Cert.KernelIdeal.nD Cert.KernelIdeal.τ).loc Cert.KernelIdeal.main_v12) = v6 c
          ∧ r.2.mem ((c.tc : Thread Cert.KernelIdeal.nD Cert.KernelIdeal.τ).loc Cert.KernelIdeal.main_v6_3) = v7 c
          ∧ r.2.mem ((c.tc : Thread Cert.KernelIdeal.nD Cert.KernelIdeal.τ).loc Cert.KernelIdeal.main_v5_0) = v8 c
          ∧ r.2.mem ((c.tc : Thread Cert.KernelIdeal.nD Cert.KernelIdeal.τ).loc Cert.KernelIdeal.main_v5_2) = v9 c
          ∧ r.2.mem ((c.tc : Thread Cert.KernelIdeal.nD Cert.KernelIdeal.τ).loc Cert.KernelIdeal.main_v13) = v10 c
          ∧ r.2.mem ((c.tc : Thread Cert.KernelIdeal.nD Cert.KernelIdeal.τ).loc Cert.KernelIdeal.main_v7_3) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_v0_7) = v7 c
          ∧ r.2.mem ((c.tc : Thread Cert.ReferenceIdeal.nD Cert.ReferenceIdeal.τ).loc Cert.ReferenceIdeal.main_v0_8) = v8 c
          ∧ r.2.mem ((c.tc : Thread Cert.ReferenceIdeal.nD Cert.ReferenceIdeal.τ).loc Cert.ReferenceIdeal.main_v0_9) = v9 c
          ∧ r.2.mem ((c.tc : Thread Cert.ReferenceIdeal.nD Cert.ReferenceIdeal.τ).loc Cert.ReferenceIdeal.main_v0_10) = v10 c
          ∧ r.2.mem ((c.tc : Thread Cert.ReferenceIdeal.nD Cert.ReferenceIdeal.τ).loc Cert.ReferenceIdeal.main_v0_11) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x3072x5120 : Shape := ⟨3, ![6, 3072, 5120]⟩
abbrev S5120x3456 : Shape := ⟨2, ![5120, 3456]⟩
abbrev S6x3072x3456 : Shape := ⟨3, ![6, 3072, 3456]⟩
abbrev S16 : Shape := ⟨1, ![16]⟩
abbrev S18432x5120 : Shape := ⟨2, ![18432, 5120]⟩
abbrev S18432x3456 : Shape := ⟨2, ![18432, 3456]⟩
abbrev S1x16 : Shape := ⟨2, ![1, 16]⟩
abbrev S1x1 : Shape := ⟨2, ![1, 1]⟩
abbrev S256x3456 : Shape := ⟨2, ![256, 3456]⟩
abbrev S1 : Shape := ⟨1, ![1]⟩
abbrev S8x128 : Shape := ⟨2, ![8, 128]⟩
abbrev S1x384 : Shape := ⟨2, ![1, 384]⟩
abbrev S32x8x3456 : Shape := ⟨3, ![32, 8, 3456]⟩
abbrev S8x3456 : Shape := ⟨2, ![8, 3456]⟩
abbrev S8x27x128 : Shape := ⟨3, ![8, 27, 128]⟩
abbrev S128 : Shape := ⟨1, ![128]⟩
abbrev S1x128 : Shape := ⟨2, ![1, 128]⟩
abbrev S1x15 : Shape := ⟨2, ![1, 15]⟩
abbrev S512x5120 : Shape := ⟨2, ![512, 5120]⟩
abbrev S1x512x3456 : Shape := ⟨3, ![1, 512, 3456]⟩
abbrev S2 : Shape := ⟨1, ![2]⟩
abbrev S64x8x5120 : Shape := ⟨3, ![64, 8, 5120]⟩
abbrev S8x5120 : Shape := ⟨2, ![8, 5120]⟩
abbrev S8x40x128 : Shape := ⟨3, ![8, 40, 128]⟩
abbrev S512x3456 : Shape := ⟨2, ![512, 3456]⟩
abbrev S1x512x5120 : Shape := ⟨3, ![1, 512, 5120]⟩
abbrev S64x8x3456 : Shape := ⟨3, ![64, 8, 3456]⟩
abbrev S2048x1280 : Shape := ⟨2, ![2048, 1280]⟩
abbrev S2048x3456 : Shape := ⟨2, ![2048, 3456]⟩
abbrev S1280x3456 : Shape := ⟨2, ![1280, 3456]⟩

abbrev nBuf : Space → Nat
  | .hbm => 28
  | .vmem => 40
  | .smem => 4
  | _ => 0

abbrev bufTy : (tb : Table) → Fin (tcTables nBuf tb) → BufTy
  | .hbm, ⟨0, _⟩ => ⟨S6x3072x5120, .bf16⟩
  | .hbm, ⟨1, _⟩ => ⟨S5120x3456, .f32⟩
  | .hbm, ⟨2, _⟩ => ⟨S6x3072x3456, .bf16⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S18432x5120, .bf16⟩
  | .hbm, ⟨7, _⟩ => ⟨S18432x3456, .bf16⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S5120x3456, .fp8e4m3⟩
  | .hbm, ⟨12, _⟩ => ⟨S1x16, .f32⟩
  | .hbm, ⟨13, _⟩ => ⟨S1x1, .f32⟩
  | .hbm, ⟨14, _⟩ => ⟨S6x3072x3456, .bf16⟩
  | .hbm, ⟨15, _⟩ => ⟨S18432x5120, .fp8e4m3⟩
  | .hbm, ⟨16, _⟩ => ⟨S1x16, .f32⟩
  | .hbm, ⟨17, _⟩ => ⟨S1x1, .f32⟩
  | .hbm, ⟨18, _⟩ => ⟨S6x3072x5120, .bf16⟩
  | .hbm, ⟨19, _⟩ => ⟨S18432x3456, .fp8e5m2⟩
  | .hbm, ⟨20, _⟩ => ⟨S1x16, .f32⟩
  | .hbm, ⟨21, _⟩ => ⟨S1x1, .f32⟩
  | .hbm, ⟨22, _⟩ => ⟨S5120x3456, .f32⟩
  | .hbm, ⟨23, _⟩ => ⟨S16, .f32⟩
  | .hbm, ⟨24, _⟩ => ⟨S16, .f32⟩
  | .hbm, ⟨25, _⟩ => ⟨S16, .f32⟩
  | .hbm, ⟨26, _⟩ => ⟨S6x3072x5120, .fp8e4m3⟩
  | .hbm, ⟨27, _⟩ => ⟨S6x3072x3456, .fp8e5m2⟩
  | .local _ .vmem, ⟨0, _⟩ => ⟨S1x16, .f32⟩
  | .local _ .vmem, ⟨1, _⟩ => ⟨S256x3456, .f32⟩
  | .local _ .vmem, ⟨2, _⟩ => ⟨S256x3456, .f32⟩
  | .local _ .vmem, ⟨3, _⟩ => ⟨S256x3456, .fp8e4m3⟩
  | .local _ .vmem, ⟨4, _⟩ => ⟨S256x3456, .fp8e4m3⟩
  | .local _ .vmem, ⟨5, _⟩ => ⟨S1x16, .f32⟩
  | .local _ .vmem, ⟨6, _⟩ => ⟨S1x1, .f32⟩
  | .local _ .vmem, ⟨7, _⟩ => ⟨S8x128, .f32⟩
  | .local _ .vmem, ⟨8, _⟩ => ⟨S1x16, .f32⟩
  | .local _ .vmem, ⟨9, _⟩ => ⟨S1x16, .f32⟩
  | .local _ .vmem, ⟨10, _⟩ => ⟨S512x5120, .bf16⟩
  | .local _ .vmem, ⟨11, _⟩ => ⟨S512x5120, .bf16⟩
  | .local _ .vmem, ⟨12, _⟩ => ⟨S5120x3456, .fp8e4m3⟩
  | .local _ .vmem, ⟨13, _⟩ => ⟨S1x512x3456, .bf16⟩
  | .local _ .vmem, ⟨14, _⟩ => ⟨S1x512x3456, .bf16⟩
  | .local _ .vmem, ⟨15, _⟩ => ⟨S512x5120, .fp8e4m3⟩
  | .local _ .vmem, ⟨16, _⟩ => ⟨S512x5120, .fp8e4m3⟩
  | .local _ .vmem, ⟨17, _⟩ => ⟨S1x16, .f32⟩
  | .local _ .vmem, ⟨18, _⟩ => ⟨S1x1, .f32⟩
  | .local _ .vmem, ⟨19, _⟩ => ⟨S8x128, .f32⟩
  | .local _ .vmem, ⟨20, _⟩ => ⟨S1x16, .f32⟩
  | .local _ .vmem, ⟨21, _⟩ => ⟨S1x16, .f32⟩
  | .local _ .vmem, ⟨22, _⟩ => ⟨S512x3456, .bf16⟩
  | .local _ .vmem, ⟨23, _⟩ => ⟨S512x3456, .bf16⟩
  | .local _ .vmem, ⟨24, _⟩ => ⟨S5120x3456, .fp8e4m3⟩
  | .local _ .vmem, ⟨25, _⟩ => ⟨S1x512x5120, .bf16⟩
  | .local _ .vmem, ⟨26, _⟩ => ⟨S1x512x5120, .bf16⟩
  | .local _ .vmem, ⟨27, _⟩ => ⟨S512x3456, .fp8e5m2⟩
  | .local _ .vmem, ⟨28, _⟩ => ⟨S512x3456, .fp8e5m2⟩
  | .local _ .vmem, ⟨29, _⟩ => ⟨S1x16, .f32⟩
  | .local _ .vmem, ⟨30, _⟩ => ⟨S1x1, .f32⟩
  | .local _ .vmem, ⟨31, _⟩ => ⟨S8x128, .f32⟩
  | .local _ .vmem, ⟨32, _⟩ => ⟨S1x16, .f32⟩
  | .local _ .vmem, ⟨33, _⟩ => ⟨S1x16, .f32⟩
  | .local _ .vmem, ⟨34, _⟩ => ⟨S2048x1280, .fp8e4m3⟩
  | .local _ .vmem, ⟨35, _⟩ => ⟨S2048x1280, .fp8e4m3⟩
  | .local _ .vmem, ⟨36, _⟩ => ⟨S2048x3456, .fp8e5m2⟩
  | .local _ .vmem, ⟨37, _⟩ => ⟨S2048x3456, .fp8e5m2⟩
  | .local _ .vmem, ⟨38, _⟩ => ⟨S1280x3456, .f32⟩
  | .local _ .vmem, ⟨39, _⟩ => ⟨S1280x3456, .f32⟩
  | .local _ .smem, ⟨0, _⟩ => ⟨S1, .f32⟩
  | .local _ .smem, ⟨1, _⟩ => ⟨S2, .f32⟩
  | .local _ .smem, ⟨2, _⟩ => ⟨S2, .f32⟩
  | .local _ .smem, ⟨3, _⟩ => ⟨S1, .f32⟩
  | _, _ => ⟨S6x3072x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg7_0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc2_stg6_0 : Ref sig .tc := ⟨.vmem, 29, rfl⟩
abbrev cc2_stg7_0 : Ref sig .tc := ⟨.vmem, 30, rfl⟩
abbrev cc2_scratch1 : Ref sig .tc := ⟨.vmem, 31, rfl⟩
abbrev cc3_stg0_0 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc0_scratch0 : Ref sig .tc := ⟨.smem, 0, rfl⟩
abbrev cc1_scratch0 : Ref sig .tc := ⟨.smem, 1, rfl⟩
abbrev cc2_scratch0 : Ref sig .tc := ⟨.smem, 2, rfl⟩
abbrev cc3_scratch0 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem7_0 : DmaSem sig := 17
abbrev cc2_sem0_0 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26
abbrev cc2_sem6_0 : DmaSem sig := 27
abbrev cc2_sem7_0 : DmaSem sig := 28
abbrev cc3_sem0_0 : DmaSem sig := 29
abbrev cc3_sem1_0 : DmaSem sig := 30
abbrev cc3_sem2_0 : DmaSem sig := 31
abbrev cc3_sem2_1 : DmaSem sig := 32
abbrev cc3_sem3_0 : DmaSem sig := 33
abbrev cc3_sem3_1 : DmaSem sig := 34
abbrev cc3_sem4_0 : DmaSem sig := 35
abbrev cc3_sem4_1 : DmaSem sig := 36

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v23 : BitVec 1 := Scalar.cmpi .eq arg0 c19_i32
  let v24 : BitVec 32 := Scalar.extui v23
  let c0_i32_12 : BitVec 32 := 0#32
  let v25 : BitVec 1 := Scalar.cmpi .ne v24 c0_i32_12
  v25

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3456 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3456 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![36], ![false]⟩

def k1_cond2 (i : grid1.Coords) : BitVec 1 :=
  let arg0 : BitVec 32 := BitVec.ofNat 32 (i 0).val
  let c35_i32 : BitVec 32 := 35#32
  let v36 : BitVec 1 := Scalar.cmpi .eq arg0 c35_i32
  let v37 : BitVec 32 := Scalar.extui v36
  let c0_i32_18 : BitVec 32 := 0#32
  let v38 : BitVec 1 := Scalar.cmpi .ne v37 c0_i32_18
  v38

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x5120 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S5120x3456 .fp8e4m3 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x512x3456 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x5120 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![36], ![false]⟩

def k2_cond2 (i : grid2.Coords) : BitVec 1 :=
  let arg0 : BitVec 32 := BitVec.ofNat 32 (i 0).val
  let c35_i32 : BitVec 32 := 35#32
  let v36 : BitVec 1 := Scalar.cmpi .eq arg0 c35_i32
  let v37 : BitVec 32 := Scalar.extui v36
  let c0_i32_18 : BitVec 32 := 0#32
  let v38 : BitVec 1 := Scalar.cmpi .ne v37 c0_i32_18
  v38

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x3456 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S5120x3456 .fp8e4m3 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x512x5120 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x3456 .fp8e5m2 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨2, ![4, 9], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 1 → Memref sig .tc .vmem S1x16 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S2048x1280 .fp8e4m3 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S2048x3456 .fp8e5m2 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1280x3456 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]
-- ==== ReferenceIdeal.lean ====
abbrev S6x3072x5120 : Shape := ⟨3, ![6, 3072, 5120]⟩
abbrev S5120x3456 : Shape := ⟨2, ![5120, 3456]⟩
abbrev S6x3072x3456 : Shape := ⟨3, ![6, 3072, 3456]⟩
abbrev S16 : Shape := ⟨1, ![16]⟩
abbrev S1x1 : Shape := ⟨2, ![1, 1]⟩
abbrev S1x16 : Shape := ⟨2, ![1, 16]⟩
abbrev S1 : Shape := ⟨1, ![1]⟩
abbrev S1x277 : Shape := ⟨2, ![1, 277]⟩
abbrev S1x1x277 : Shape := ⟨3, ![1, 1, 277]⟩
abbrev S1x1x1 : Shape := ⟨3, ![1, 1, 1]⟩
abbrev S1x6x3072x5120 : Shape := ⟨4, ![1, 6, 3072, 5120]⟩
abbrev S1x1x1x1 : Shape := ⟨4, ![1, 1, 1, 1]⟩
abbrev S15 : Shape := ⟨1, ![15]⟩
abbrev S1x5120x3456 : Shape := ⟨3, ![1, 5120, 3456]⟩
abbrev S1x6x3072x3456 : Shape := ⟨4, ![1, 6, 3072, 3456]⟩

abbrev nBuf : Space → Nat
  | .hbm => 18
  | .vmem => 18
  | .smem => 0
  | _ => 0

abbrev bufTy : (tb : Table) → Fin (tcTables nBuf tb) → BufTy
  | .hbm, ⟨0, _⟩ => ⟨S6x3072x5120, .bf16⟩
  | .hbm, ⟨1, _⟩ => ⟨S5120x3456, .f32⟩
  | .hbm, ⟨2, _⟩ => ⟨S6x3072x3456, .bf16⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S6x3072x3456, .bf16⟩
  | .hbm, ⟨7, _⟩ => ⟨S6x3072x5120, .bf16⟩
  | .hbm, ⟨8, _⟩ => ⟨S5120x3456, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S6x3072x5120, .fp8e4m3⟩
  | .hbm, ⟨13, _⟩ => ⟨S1x1, .f32⟩
  | .hbm, ⟨14, _⟩ => ⟨S5120x3456, .fp8e4m3⟩
  | .hbm, ⟨15, _⟩ => ⟨S1x1, .f32⟩
  | .hbm, ⟨16, _⟩ => ⟨S6x3072x3456, .fp8e5m2⟩
  | .hbm, ⟨17, _⟩ => ⟨S1x1, .f32⟩
  | .local _ .vmem, ⟨0, _⟩ => ⟨S6x3072x5120, .bf16⟩
  | .local _ .vmem, ⟨1, _⟩ => ⟨S5120x3456, .f32⟩
  | .local _ .vmem, ⟨2, _⟩ => ⟨S6x3072x3456, .bf16⟩
  | .local _ .vmem, ⟨3, _⟩ => ⟨S16, .f32⟩
  | .local _ .vmem, ⟨4, _⟩ => ⟨S16, .f32⟩
  | .local _ .vmem, ⟨5, _⟩ => ⟨S16, .f32⟩
  | .local _ .vmem, ⟨6, _⟩ => ⟨S6x3072x3456, .bf16⟩
  | .local _ .vmem, ⟨7, _⟩ => ⟨S6x3072x5120, .bf16⟩
  | .local _ .vmem, ⟨8, _⟩ => ⟨S5120x3456, .f32⟩
  | .local _ .vmem, ⟨9, _⟩ => ⟨S16, .f32⟩
  | .local _ .vmem, ⟨10, _⟩ => ⟨S16, .f32⟩
  | .local _ .vmem, ⟨11, _⟩ => ⟨S16, .f32⟩
  | .local _ .vmem, ⟨12, _⟩ => ⟨S6x3072x5120, .fp8e4m3⟩
  | .local _ .vmem, ⟨13, _⟩ => ⟨S1x1, .f32⟩
  | .local _ .vmem, ⟨14, _⟩ => ⟨S5120x3456, .fp8e4m3⟩
  | .local _ .vmem, ⟨15, _⟩ => ⟨S1x1, .f32⟩
  | .local _ .vmem, ⟨16, _⟩ => ⟨S6x3072x3456, .fp8e5m2⟩
  | .local _ .vmem, ⟨17, _⟩ => ⟨S1x1, .f32⟩
  | _, _ => ⟨S6x3072x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev main_v0_8 : Ref sig .tc := ⟨.hbm, 14, rfl⟩
abbrev main_v0_9 : Ref sig .tc := ⟨.hbm, 15, rfl⟩
abbrev main_v0_10 : Ref sig .tc := ⟨.hbm, 16, rfl⟩
abbrev main_v0_11 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S6x3072x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x3456 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x3072x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x3072x3456 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x3072x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5120x3456 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x3072x5120 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S5120x3456 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S6x3072x3456 .fp8e5m2 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Proof.K.Base.lean ====
/- Offsets that are zero. Stated at any float family. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

/-- Two scalars as the contents of a two-word scalar memory. -/
def pair (s0 s1 : Elt F .f32) : Vec F S2 .f32 := fun j => if (j 0).val = 0 then s0 else s1

/-- Storing the two words, one after the other, leaves the pair. -/
theorem smem2_read {κ : Kind} {sp : Space} (v : View sig κ sp S2 .f32) (f : v.ty.Contents (Elt F)) (s0 s1 : Elt F .f32) :
    v.read (Elt F) (v.writes (Elt F) f [⟨Rect.unit (s := S2) ![1] S1.size inb_S2_S1_1, fun _ => s1⟩, ⟨Rect.unit (s := S2) ![0] S1.size inb_S2_S1_0, fun _ => s0⟩])
      = pair s0 s1 := by
  funext y
  have hy : (y 0).val < 2 := (y 0).isLt
  unfold pair
  rw [View.read_writes_cons_unit v f inb_S2_S1_1 (fun _ => s1) _ y rfl]
  split
  · rename_i h
    have := h 0
    rw [if_neg]
    simp at this
    omega
  · rename_i h
    rw [View.read_writes_cons_unit v f inb_S2_S1_0 (fun _ => s0) _ y rfl]
    split
    · rename_i h'
      have := h' 0
      rw [if_pos]
      simp at this
      omega
    · rename_i h'
      exfalso
      simp at h h'
      omega

end Cert.Kernel.Own

end
-- ==== Proof.K.Run0.lean ====
/- The body of the weight quantisation (`quant_w`), run once per case of its two conditions, with the values every buffer holds afterwards named. Stated at any float family. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp
public import proofs.«01_k».proof.Proof.K.Base

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The weight's scale, from its amax history: a power of two, as a one-element vector. -/
def scale0 (h : Vec F S1x16 .f32) : FVec F S1x1 .f32 := k0_pay12 (k0_pay6 h) (k0_pay8 h) (k0_pay9 h) k0_pay10
/-- The scale's inverse, a scalar. -/
def inv0 (h : Vec F S1x16 .f32) : F .f32 :=
  k0_pay1 (k0_pay13 (k0_pay6 h) (k0_pay8 h) (k0_pay9 h) k0_pay10) (k0_pay14 (k0_pay6 h) (k0_pay8 h) (k0_pay9 h) k0_pay10)
    (k0_pay15 (k0_pay6 h) (k0_pay8 h) (k0_pay9 h) k0_pay10) 255#32 k0_pay16

/-- The first point's condition. -/
abbrev cond0_0 (i : grid0.Coords) : Prop := k0_cond1 i = 1#1
/-- The last point's condition. -/
abbrev cond0_1 (i : grid0.Coords) : Prop := k0_cond2 i = 1#1

set_option maxHeartbeats 2000000 in
/-- The first point: the scale and its inverse are computed from the history, the amax starts at zero and takes the block in, the block is quantised; the new history is left alone. -/
theorem run0_A (c : Dev nD) (i : grid0.Coords) (arg1 : Memref sig .tc .vmem S1x16 .f32) (harg1 : arg1.IsWhole) (arg2 : Memref sig .tc .vmem S256x3456 .f32) (harg2 : arg2.IsWhole) (arg3 : Memref sig .tc .vmem S256x3456 .fp8e4m3) (harg3 : arg3.IsWhole) (arg4 : Memref sig .tc .vmem S1x16 .f32) (harg4 : arg4.IsWhole) (arg5 : Memref sig .tc .vmem S1x1 .f32) (harg5 : arg5.IsWhole) (arg6 : Memref sig .tc .smem S1 .f32) (harg6 : arg6.IsWhole) (arg7 : Memref sig .tc .vmem S8x128 .f32) (harg7 : arg7.IsWhole) (hc0 : cond0_0 i) (hc1 : ¬cond0_1 i)
    (x0 : Vec F S1x16 .f32) (x1 : Vec F S256x3456 .f32) (x3 : Vec F S1x16 .f32)  (E : Set ℕ) (K : PUnit → sProp 𝕄) :
    iprop(owns (c : Thread nD τ) arg1 fullShare (x0 : Vec F S1x16 .f32) ∗ owns (c : Thread nD τ) arg2 fullShare (x1 : Vec F S256x3456 .f32) ∗ (∃ d, owns (c : Thread nD τ) arg3 fullShare d) ∗ owns (c : Thread nD τ) arg4 fullShare (x3 : Vec F S1x16 .f32) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare (x0 : Vec F S1x16 .f32) ∗ owns (c : Thread nD τ) arg2 fullShare (x1 : Vec F S256x3456 .f32) ∗ owns (c : Thread nD τ) arg3 fullShare (k0_pay4 x1 (inv0 x0) : Vec F S256x3456 .fp8e4m3) ∗ owns (c : Thread nD τ) arg4 fullShare (x3 : Vec F S1x16 .f32) ∗ owns (c : Thread nD τ) arg5 fullShare (scale0 x0 : Vec F S1x1 .f32) ∗ owns (c : Thread nD τ) arg6 fullShare (fun _ => inv0 x0 : Vec F S1 .f32) ∗ owns (c : Thread nD τ) arg7 fullShare (k0_pay3 x1 k0_pay2 : Vec F S8x128 .f32)) -∗ K ⟨⟩))
      ⊢ wp frame (wpE (defs₀ (F := F)) Variants.none c none) E (cc0_quant_w i arg1 harg1 arg2 harg2 arg3 harg3 arg4 harg4 arg5 harg5 arg6 harg6 arg7 harg7) K := by
  simp only [cc0_quant_w_eq_skeleton]; unfold cc0_quant_w_skel
  simp only [k0_part1_eq_skeleton, k0_part2_eq_skeleton]
  unfold owns
  iintro ⟨⟨%f0, %hf0, H0⟩, ⟨%f1, %hf1, H1⟩, ⟨%d2, %f2, -, H2⟩, ⟨%f3, %hf3, H3⟩, ⟨%d4, %f4, -, H4⟩, ⟨%d5, %f5, -, H5⟩, ⟨%d6, %f6, -, H6⟩, Hk⟩
  obtain rfl := harg1.eq_unread hf0; obtain rfl := harg2.eq_unread hf1; obtain rfl := harg4.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (View.read_writes_full _ _ _ _ _).trans ?_
    sl_unfold_words
    try simp only [View.readAt_eq_ld, harg1.read_unread, harg2.read_unread, harg4.read_unread, View.ld_unit_zero (S := S1) hz1, View.readCov_unit_zero (S := S1) _ hz1, View.ld_unit_zero (S := S1x1) hz2, View.readCov_unit_zero (S := S1x1) _ hz2, View.ld_unit_zero (S := S1x16) hz2, View.readCov_unit_zero (S := S1x16) _ hz2, View.ld_unit_zero (S := S256x3456) hz2, View.readCov_unit_zero (S := S256x3456) _ hz2, View.ld_unit_zero (S := S8x128) hz2, View.readCov_unit_zero (S := S8x128) _ hz2]
    first | done | rfl
  isplitl [H3]
  · iexists _; isplitr; · ipureintro; exact harg4.read_unread _
    iexact H3
  isplitl [H4]
  · iexists _; isplitr; swap; · iexact H4
    ipureintro
    refine (View.read_writes_full _ _ _ _ _).trans ?_
    sl_unfold_words
    try simp only [View.readAt_eq_ld, harg1.read_unread, harg2.read_unread, harg4.read_unread, View.ld_unit_zero (S := S1) hz1, View.readCov_unit_zero (S := S1) _ hz1, View.ld_unit_zero (S := S1x1) hz2, View.readCov_unit_zero (S := S1x1) _ hz2, View.ld_unit_zero (S := S1x16) hz2, View.readCov_unit_zero (S := S1x16) _ hz2, View.ld_unit_zero (S := S256x3456) hz2, View.readCov_unit_zero (S := S256x3456) _ hz2, View.ld_unit_zero (S := S8x128) hz2, View.readCov_unit_zero (S := S8x128) _ hz2]
    first | done | rfl
  isplitl [H5]
  · iexists _; isplitr; swap; · iexact H5
    ipureintro
    refine (View.read_writes_full _ _ _ _ _).trans ?_
    sl_unfold_words
    try simp only [View.readAt_eq_ld, harg1.read_unread, harg2.read_unread, harg4.read_unread, View.ld_unit_zero (S := S1) hz1, View.readCov_unit_zero (S := S1) _ hz1, View.ld_unit_zero (S := S1x1) hz2, View.readCov_unit_zero (S := S1x1) _ hz2, View.ld_unit_zero (S := S1x16) hz2, View.readCov_unit_zero (S := S1x16) _ hz2, View.ld_unit_zero (S := S256x3456) hz2, View.readCov_unit_zero (S := S256x3456) _ hz2, View.ld_unit_zero (S := S8x128) hz2, View.readCov_unit_zero (S := S8x128) _ hz2]
    first | done | rfl
  iexists _; isplitr; swap; · iexact H6
  ipureintro
  refine (View.read_writes_full _ _ _ _ _).trans ?_
  sl_unfold_words
  try simp only [View.readAt_eq_ld, harg1.read_unread, harg2.read_unread, harg4.read_unread, View.ld_unit_zero (S := S1) hz1, View.readCov_unit_zero (S := S1) _ hz1, View.ld_unit_zero (S := S1x1) hz2, View.readCov_unit_zero (S := S1x1) _ hz2, View.ld_unit_zero (S := S1x16) hz2, View.readCov_unit_zero (S := S1x16) _ hz2, View.ld_unit_zero (S := S256x3456) hz2, View.readCov_unit_zero (S := S256x3456) _ hz2, View.ld_unit_zero (S := S8x128) hz2, View.readCov_unit_zero (S := S8x128) _ hz2]
  first | done | rfl

set_option maxHeartbeats 2000000 in
/-- A point between: the amax takes the block in and the block is quantised with the inverse held in scalar memory. -/
theorem run0_B (c : Dev nD) (i : grid0.Coords) (arg1 : Memref sig .tc .vmem S1x16 .f32) (harg1 : arg1.IsWhole) (arg2 : Memref sig .tc .vmem S256x3456 .f32) (harg2 : arg2.IsWhole) (arg3 : Memref sig .tc .vmem S256x3456 .fp8e4m3) (harg3 : arg3.IsWhole) (arg4 : Memref sig .tc .vmem S1x16 .f32) (harg4 : arg4.IsWhole) (arg5 : Memref sig .tc .vmem S1x1 .f32) (harg5 : arg5.IsWhole) (arg6 : Memref sig .tc .smem S1 .f32) (harg6 : arg6.IsWhole) (arg7 : Memref sig .tc .vmem S8x128 .f32) (harg7 : arg7.IsWhole) (hc0 : ¬cond0_0 i) (hc1 : ¬cond0_1 i)
    (x0 : Vec F S1x16 .f32) (x1 : Vec F S256x3456 .f32) (x3 : Vec F S1x16 .f32) (x4 : Vec F S1x1 .f32) (x6 : Vec F S8x128 .f32) (s : Elt F .f32) (E : Set ℕ) (K : PUnit → sProp 𝕄) :
    iprop(owns (c : Thread nD τ) arg1 fullShare (x0 : Vec F S1x16 .f32) ∗ owns (c : Thread nD τ) arg2 fullShare (x1 : Vec F S256x3456 .f32) ∗ (∃ d, owns (c : Thread nD τ) arg3 fullShare d) ∗ owns (c : Thread nD τ) arg4 fullShare (x3 : Vec F S1x16 .f32) ∗ owns (c : Thread nD τ) arg5 fullShare (x4 : Vec F S1x1 .f32) ∗ owns (c : Thread nD τ) arg6 fullShare (fun _ => s : Vec F S1 .f32) ∗ owns (c : Thread nD τ) arg7 fullShare (x6 : Vec F S8x128 .f32)
        ∗ (iprop(owns (c : Thread nD τ) arg1 fullShare (x0 : Vec F S1x16 .f32) ∗ owns (c : Thread nD τ) arg2 fullShare (x1 : Vec F S256x3456 .f32) ∗ owns (c : Thread nD τ) arg3 fullShare (k0_pay4 x1 s : Vec F S256x3456 .fp8e4m3) ∗ owns (c : Thread nD τ) arg4 fullShare (x3 : Vec F S1x16 .f32) ∗ owns (c : Thread nD τ) arg5 fullShare (x4 : Vec F S1x1 .f32) ∗ owns (c : Thread nD τ) arg6 fullShare (fun _ => s : Vec F S1 .f32) ∗ owns (c : Thread nD τ) arg7 fullShare (k0_pay3 x1 x6 : Vec F S8x128 .f32)) -∗ K ⟨⟩))
      ⊢ wp frame (wpE (defs₀ (F := F)) Variants.none c none) E (cc0_quant_w i arg1 harg1 arg2 harg2 arg3 harg3 arg4 harg4 arg5 harg5 arg6 harg6 arg7 harg7) K := by
  simp only [cc0_quant_w_eq_skeleton]; unfold cc0_quant_w_skel
  simp only [k0_part1_eq_skeleton, k0_part2_eq_skeleton]
  unfold owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg4.eq_unread hf3; obtain rfl := harg5.eq_unread hf4; obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (View.read_writes_full _ _ _ _ _).trans ?_
    sl_unfold_words
    try simp only [View.readAt_eq_ld, harg1.read_unread, harg2.read_unread, harg4.read_unread, harg5.read_unread, harg6.read_unread, harg7.read_unread, View.ld_unit_zero (S := S1) hz1, View.readCov_unit_zero (S := S1) _ hz1, View.ld_unit_zero (S := S1x1) hz2, View.readCov_unit_zero (S := S1x1) _ hz2, View.ld_unit_zero (S := S1x16) hz2, View.readCov_unit_zero (S := S1x16) _ hz2, View.ld_unit_zero (S := S256x3456) hz2, View.readCov_unit_zero (S := S256x3456) _ hz2, View.ld_unit_zero (S := S8x128) hz2, View.readCov_unit_zero (S := S8x128) _ hz2]
    first | done | rfl
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr; swap; · iexact H6
  ipureintro
  refine (View.read_writes_full _ _ _ _ _).trans ?_
  sl_unfold_words
  try simp only [View.readAt_eq_ld, harg1.read_unread, harg2.read_unread, harg4.read_unread, harg5.read_unread, harg6.read_unread, harg7.read_unread, View.ld_unit_zero (S := S1) hz1, View.readCov_unit_zero (S := S1) _ hz1, View.ld_unit_zero (S := S1x1) hz2, View.readCov_unit_zero (S := S1x1) _ hz2, View.ld_unit_zero (S := S1x16) hz2, View.readCov_unit_zero (S := S1x16) _ hz2, View.ld_unit_zero (S := S256x3456) hz2, View.readCov_unit_zero (S := S256x3456) _ hz2, View.ld_unit_zero (S := S8x128) hz2, View.readCov_unit_zero (S := S8x128) _ hz2]
  first | done | rfl

set_option maxHeartbeats 2000000 in
/-- The last point: as between, and the new history is the old one shifted with the amax appended. -/
theorem run0_C (c : Dev nD) (i : grid0.Coords) (arg1 : Memref sig .tc .vmem S1x16 .f32) (harg1 : arg1.IsWhole) (arg2 : Memref sig .tc .vmem S256x3456 .f32) (harg2 : arg2.IsWhole) (arg3 : Memref sig .tc .vmem S256x3456 .fp8e4m3) (harg3 : arg3.IsWhole) (arg4 : Memref sig .tc .vmem S1x16 .f32) (harg4 : arg4.IsWhole) (arg5 : Memref sig .tc .vmem S1x1 .f32) (harg5 : arg5.IsWhole) (arg6 : Memref sig .tc .smem S1 .f32) (harg6 : arg6.IsWhole) (arg7 : Memref sig .tc .vmem S8x128 .f32) (harg7 : arg7.IsWhole) (hc0 : ¬cond0_0 i) (hc1 : cond0_1 i)
    (x0 : Vec F S1x16 .f32) (x1 : Vec F S256x3456 .f32) (x4 : Vec F S1x1 .f32) (x6 : Vec F S8x128 .f32) (s : Elt F .f32) (E : Set ℕ) (K : PUnit → sProp 𝕄) :
    iprop(owns (c : Thread nD τ) arg1 fullShare (x0 : Vec F S1x16 .f32) ∗ owns (c : Thread nD τ) arg2 fullShare (x1 : Vec F S256x3456 .f32) ∗ (∃ d, owns (c : Thread nD τ) arg3 fullShare d) ∗ (∃ d, owns (c : Thread nD τ) arg4 fullShare d) ∗ owns (c : Thread nD τ) arg5 fullShare (x4 : Vec F S1x1 .f32) ∗ owns (c : Thread nD τ) arg6 fullShare (fun _ => s : Vec F S1 .f32) ∗ owns (c : Thread nD τ) arg7 fullShare (x6 : Vec F S8x128 .f32)
        ∗ (iprop(owns (c : Thread nD τ) arg1 fullShare (x0 : Vec F S1x16 .f32) ∗ owns (c : Thread nD τ) arg2 fullShare (x1 : Vec F S256x3456 .f32) ∗ owns (c : Thread nD τ) arg3 fullShare (k0_pay4 x1 s : Vec F S256x3456 .fp8e4m3) ∗ owns (c : Thread nD τ) arg4 fullShare (k0_pay5 x0 (k0_pay3 x1 x6) : Vec F S1x16 .f32) ∗ owns (c : Thread nD τ) arg5 fullShare (x4 : Vec F S1x1 .f32) ∗ owns (c : Thread nD τ) arg6 fullShare (fun _ => s : Vec F S1 .f32) ∗ owns (c : Thread nD τ) arg7 fullShare (k0_pay3 x1 x6 : Vec F S8x128 .f32)) -∗ K ⟨⟩))
      ⊢ wp frame (wpE (defs₀ (F := F)) Variants.none c none) E (cc0_quant_w i arg1 harg1 arg2 harg2 arg3 harg3 arg4 harg4 arg5 harg5 arg6 harg6 arg7 harg7) K := by
  simp only [cc0_quant_w_eq_skeleton]; unfold cc0_quant_w_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%f6, %hf6, H6⟩, Hk⟩
  obtain rfl := harg1.eq_unread hf0; obtain rfl := harg2.eq_unread hf1; obtain rfl := harg5.eq_unread hf4; obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (View.read_writes_full _ _ _ _ _).trans ?_
    sl_unfold_words
    try simp only [View.readAt_eq_ld, harg1.read_unread, harg2.read_unread, harg5.read_unread, harg6.read_unread, harg7.read_unread, View.ld_unit_zero (S := S1) hz1, View.readCov_unit_zero (S := S1) _ hz1, View.ld_unit_zero (S := S1x1) hz2, View.readCov_unit_zero (S := S1x1) _ hz2, View.ld_unit_zero (S := S1x16) hz2, View.readCov_unit_zero (S := S1x16) _ hz2, View.ld_unit_zero (S := S256x3456) hz2, View.readCov_unit_zero (S := S256x3456) _ hz2, View.ld_unit_zero (S := S8x128) hz2, View.readCov_unit_zero (S := S8x128) _ hz2]
    first | done | rfl
  isplitl [H3]
  · iexists _; isplitr; swap; · iexact H3
    ipureintro
    refine (View.read_writes_full _ _ _ _ _).trans ?_
    sl_unfold_words
    try simp only [View.readAt_eq_ld, harg1.read_unread, harg2.read_unread, harg5.read_unread, harg6.read_unread, harg7.read_unread, View.ld_unit_zero (S := S1) hz1, View.readCov_unit_zero (S := S1) _ hz1, View.ld_unit_zero (S := S1x1) hz2, View.readCov_unit_zero (S := S1x1) _ hz2, View.ld_unit_zero (S := S1x16) hz2, View.readCov_unit_zero (S := S1x16) _ hz2, View.ld_unit_zero (S := S256x3456) hz2, View.readCov_unit_zero (S := S256x3456) _ hz2, View.ld_unit_zero (S := S8x128) hz2, View.readCov_unit_zero (S := S8x128) _ hz2]
    first | done | rfl
  isplitl [H4]
  · iexists _; isplitr; · ipureintro; exact harg5.read_unread _
    iexact H4
  isplitl [H5]
  · iexists _; isplitr; · ipureintro; exact harg6.read_unread _
    iexact H5
  iexists _; isplitr; swap; · iexact H6
  ipureintro
  refine (View.read_writes_full _ _ _ _ _).trans ?_
  sl_unfold_words
  try simp only [View.readAt_eq_ld, harg1.read_unread, harg2.read_unread, harg5.read_unread, harg6.read_unread, harg7.read_unread, View.ld_unit_zero (S := S1) hz1, View.readCov_unit_zero (S := S1) _ hz1, View.ld_unit_zero (S := S1x1) hz2, View.readCov_unit_zero (S := S1x1) _ hz2, View.ld_unit_zero (S := S1x16) hz2, View.readCov_unit_zero (S := S1x16) _ hz2, View.ld_unit_zero (S := S256x3456) hz2, View.readCov_unit_zero (S := S256x3456) _ hz2, View.ld_unit_zero (S := S8x128) hz2, View.readCov_unit_zero (S := S8x128) _ hz2]
  first | done | rfl

end Cert.Kernel.Own

end
-- ==== Proof.K.Dat0.lean ====
/- Region 0 of the program: the proof data over any entry contents of the buffers, and the body obligation. Stated at any float family. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp
public import Idealize.ShloMosaic.Lib.Pipeline.TableIdle
public import proofs.«01_k».proof.Proof.K.Run0

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- The first and the last grid point of region 0. -/
abbrev first0 : Fin cfg0.N := ⟨0, by decide⟩
abbrev last0 : Fin cfg0.N := ⟨19, by decide⟩

/-- An input window's block at a point, of the arrays at the entry contents. -/
abbrev iblk0 (c : Dev nD) (w : Fin cfg0.W) (t : Fin cfg0.N) := ((cfg0.win w).blk t).view.read (Elt F) (V c (Proc.devRef .tc (Pipeline.arrRef spec0 w)))
abbrev blk0_0 (c : Dev nD) (t : Fin cfg0.N) : Vec F S1x16 .f32 := iblk0 V c 0 t
abbrev blk0_1 (c : Dev nD) (t : Fin cfg0.N) : Vec F S256x3456 .f32 := iblk0 V c 1 t

/-- The inverse scale held in scalar memory. -/
def sI0 (c : Dev nD) : Elt F .f32 := inv0 (blk0_0 V c first0)
/-- The scratch amax after a point: the maximum folded over the blocks so far. -/
def am0 (c : Dev nD) : (n : ℕ) → n < cfg0.N → Vec F S8x128 .f32
  | 0, h => k0_pay3 (blk0_1 V c ⟨0, h⟩) k0_pay2
  | n + 1, h => k0_pay3 (blk0_1 V c ⟨n + 1, h⟩) (am0 c n (Nat.lt_of_succ_lt h))
/-- What each output's buffer holds after a point. -/
def out0_2 (c : Dev nD) (t : Fin cfg0.N) : Vec F S256x3456 .fp8e4m3 := k0_pay4 (blk0_1 V c t) (sI0 V c)
def out0_3 (c : Dev nD) : Vec F S1x16 .f32 := k0_pay5 (blk0_0 V c last0) (am0 V c last0.val last0.isLt)
def out0_4 (c : Dev nD) : Vec F S1x1 .f32 := scale0 (blk0_0 V c first0)

/-- The invariant: before the first point every scoped buffer at anything, then the scratch at what the points so far left. -/
def PhiS0 (c : Dev nD) : (n : ℕ) → n ≤ cfg0.N → sProp 𝕄
  | 0, _ => Pipeline.scopedRest (Ix := Unit) (Name := ℕ) (U := UR sig nD τ) (Lvl := ℕ) (Val := Elt F) spec0 c
  | n + 1, h => iprop(iprop(owns (c : Thread nD τ) (Memref.whole cc0_scratch1) fullShare (am0 V c n h) ∗ owns (c : Thread nD τ) (Memref.whole cc0_scratch0) fullShare (fun _ => sI0 V c)) ∗ Pipeline.scopedRestBut (Ix := Unit) (Name := ℕ) (U := UR sig nD τ) (Lvl := ℕ) (Val := Elt F) spec0 c [cc0_scratch1, cc0_scratch0])
theorem PhiS0_zero (c : Dev nD) (n : ℕ) (h : n ≤ cfg0.N) (hz : n = 0) : PhiS0 V c n h = Pipeline.scopedRest (Ix := Unit) (Name := ℕ) (U := UR sig nD τ) (Lvl := ℕ) (Val := Elt F) spec0 c := by
  subst hz; rfl
theorem PhiS0_succ (c : Dev nD) (n : ℕ) (h : n < cfg0.N) : PhiS0 V c (n + 1) h = iprop(iprop(owns (c : Thread nD τ) (Memref.whole cc0_scratch1) fullShare (am0 V c n h) ∗ owns (c : Thread nD τ) (Memref.whole cc0_scratch0) fullShare (fun _ => sI0 V c)) ∗ Pipeline.scopedRestBut (Ix := Unit) (Name := ℕ) (U := UR sig nD τ) (Lvl := ℕ) (Val := Elt F) spec0 c [cc0_scratch1, cc0_scratch0]) := rfl
theorem PhiS0_pos (c : Dev nD) (n : ℕ) (h' : n + 1 ≤ cfg0.N) (h : n < cfg0.N) : PhiS0 V c (n + 1) h' = iprop(iprop(owns (c : Thread nD τ) (Memref.whole cc0_scratch1) fullShare (am0 V c n h) ∗ owns (c : Thread nD τ) (Memref.whole cc0_scratch0) fullShare (fun _ => sI0 V c)) ∗ Pipeline.scopedRestBut (Ix := Unit) (Name := ℕ) (U := UR sig nD τ) (Lvl := ℕ) (Val := Elt F) spec0 c [cc0_scratch1, cc0_scratch0]) := rfl

/-- The region's proof data at entry contents `V`. -/
def dat0 (c : Dev nD) : Dat τ (Elt F) Unit ℕ (UR sig nD τ) ℕ cfg0 c where
  A w := V c (Proc.devRef .tc (Pipeline.arrRef spec0 w))
  after w t := match w with
    | ⟨0, _⟩ => blk0_0 V c t
    | ⟨1, _⟩ => blk0_1 V c t
    | ⟨2, _⟩ => out0_2 V c t
    | ⟨3, _⟩ => out0_3 V c
    | ⟨4, _⟩ => out0_4 V c
  Φ t := PhiS0 V c t.val (Nat.le_of_lt_succ t.isLt)
  q _ := fullShare
  owed _ := 0

theorem dat0_A (c : Dev nD) (w : Fin cfg0.W) : (dat0 V c).A w = V c (Proc.devRef .tc (Pipeline.arrRef spec0 w)) := by dsimp only [dat0]
theorem PhiS0_castSucc (c : Dev nD) (t : Fin cfg0.N) : (dat0 V c).Φ t.castSucc = PhiS0 V c t.val (Nat.le_of_lt t.isLt) := by
  dsimp only [dat0]; exact Pipeline.Dat.Φ_castSucc (PhiS0 V c) t
theorem after0_0 (c : Dev nD) (t : Fin cfg0.N) : (dat0 V c).after 0 t = blk0_0 V c t := by dsimp only [dat0]
theorem after0_1 (c : Dev nD) (t : Fin cfg0.N) : (dat0 V c).after 1 t = blk0_1 V c t := by dsimp only [dat0]
theorem after0_2 (c : Dev nD) (t : Fin cfg0.N) : (dat0 V c).after 2 t = out0_2 V c t := by dsimp only [dat0]
theorem after0_3 (c : Dev nD) (t : Fin cfg0.N) : (dat0 V c).after 3 t = out0_3 V c := by dsimp only [dat0]
theorem after0_4 (c : Dev nD) (t : Fin cfg0.N) : (dat0 V c).after 4 t = out0_4 V c := by dsimp only [dat0]
theorem before0_0 (c : Dev nD) (t : Fin cfg0.N) (d) : (dat0 V c).before 0 t d = blk0_0 V c t :=
  ((dat0 V c).before_in_eq_fetched 0 rfl (fun _ => rfl) (fun _ _ _ => rfl) (fun t => by rw [after0_0]; unfold Dat.blockOf; rw [dat0_A]; try rfl) t d).trans (by unfold Dat.fetched Dat.blockOf; rw [dat0_A]; try rfl)
theorem before0_1 (c : Dev nD) (t : Fin cfg0.N) (d) : (dat0 V c).before 1 t d = blk0_1 V c t :=
  ((dat0 V c).before_in_eq_fetched 1 rfl (fun _ => rfl) (fun _ _ _ => rfl) (fun t => by rw [after0_1]; unfold Dat.blockOf; rw [dat0_A]; try rfl) t d).trans (by unfold Dat.fetched Dat.blockOf; rw [dat0_A]; try rfl)

/-- The conditions, as the point's number. -/
theorem hcond0_0 : ∀ t : Fin cfg0.N, cond0_0 (grid0.coords t) ↔ t.val % 20 = 0 :=
  (fun t => by
    have ht : t.val < 20 := Nat.lt_of_lt_of_eq t.isLt N_0
    have e0 : (grid0.coords t 0).val = t.val / 1 % 20 := Pipeline.Grid.coords_val t 0 (by decide) rfl
    simp only [cond0_0, k0_cond1, e0]
    word_cmp : ∀ t : Fin grid0.N, cond0_0 (grid0.coords t) ↔ t.val % 20 = 0)
theorem hcond0_1 : ∀ t : Fin cfg0.N, cond0_1 (grid0.coords t) ↔ t.val % 20 = 19 :=
  (fun t => by
    have ht : t.val < 20 := Nat.lt_of_lt_of_eq t.isLt N_0
    have e0 : (grid0.coords t 0).val = t.val / 1 % 20 := Pipeline.Grid.coords_val t 0 (by decide) rfl
    simp only [cond0_1, k0_cond2, e0]
    word_cmp : ∀ t : Fin grid0.N, cond0_1 (grid0.coords t) ↔ t.val % 20 = 19)
theorem idle0_3_iff (t : Fin cfg0.N) : cfg0.idle 3 (cfg0.grid.coords t) = true ↔ ¬ cond0_1 (grid0.coords t) := by
  show (!(k0_cond2 (grid0.coords t) == 1#1)) = true ↔ _
  simp [cond0_1]
theorem idle0_4_iff (t : Fin cfg0.N) : cfg0.idle 4 (cfg0.grid.coords t) = true ↔ ¬ cond0_0 (grid0.coords t) := by
  show (!(k0_cond1 (grid0.coords t) == 1#1)) = true ↔ _
  simp [cond0_0]
/-- The new history's buffer is at anything until the last point; the scale's is at the scale after the first. -/
theorem fresh0_3 : ∀ t : Fin cfg0.N, cfg0.fresh 3 t.val = true := (by decide +kernel : ∀ t : Fin grid0.N, cfg0.fresh 3 t.val = true)
theorem fresh0_4 : ∀ t : Fin cfg0.N, t.val ≠ 0 → cfg0.fresh 4 t.val = false := (by decide +kernel : ∀ t : Fin grid0.N, t.val ≠ 0 → cfg0.fresh 4 t.val = false)
theorem before0_3 (c : Dev nD) (t : Fin cfg0.N) (d) : (dat0 V c).before 3 t d = d := by
  rw [(dat0 V c).before_out_traj 3 rfl (fun _ _ => rfl) (fun t _ _ _ => by rw [after0_3, after0_3]) t.val t rfl d, fresh0_3, if_pos rfl]
theorem before0_4 (c : Dev nD) (t : Fin cfg0.N) (ht : t.val ≠ 0) (d) : (dat0 V c).before 4 t d = out0_4 V c := by
  rw [(dat0 V c).before_out_traj 4 rfl (fun _ _ => rfl) (fun t _ _ _ => by rw [after0_4, after0_4]) t.val t rfl d, fresh0_4 t ht, if_neg Bool.false_ne_true, after0_4]

/-- What the body is called with at a point, -/
def bodyPre0 (c : Dev nD) (t : Fin cfg0.N) : sProp 𝕄 :=
  iprop((dat0 V c).Φ t.castSucc ∗ (dat0 V c).owesAt () t.castSucc ∗ (∃ d, owns (c : Thread nD τ) ((cfg0.win 0).stage (cfg0.slots t 0)) fullShare ((dat0 V c).before 0 t d)) ∗ (∃ d, owns (c : Thread nD τ) ((cfg0.win 1).stage (cfg0.slots t 1)) fullShare ((dat0 V c).before 1 t d)) ∗ (∃ d, owns (c : Thread nD τ) ((cfg0.win 2).stage (cfg0.slots t 2)) fullShare ((dat0 V c).before 2 t d)) ∗ (∃ d, owns (c : Thread nD τ) ((cfg0.win 3).stage (cfg0.slots t 3)) fullShare ((dat0 V c).before 3 t d)) ∗ (∃ d, owns (c : Thread nD τ) ((cfg0.win 4).stage (cfg0.slots t 4)) fullShare ((dat0 V c).before 4 t d)))
/-- and what it hands back. -/
def bodyPost0 (c : Dev nD) (t : Fin cfg0.N) : sProp 𝕄 :=
  iprop((dat0 V c).Φ t.succ ∗ (dat0 V c).owesAt () t.succ ∗ (dat0 V c).leavesExact 0 t ∗ (dat0 V c).leavesExact 1 t ∗ (dat0 V c).leavesExact 2 t ∗ (dat0 V c).leavesExact 3 t ∗ (dat0 V c).leavesExact 4 t)

set_option maxHeartbeats 1000000 in
/-- The body at every point: the case's run, the scratch taken from and handed back to the invariant. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, PhiS0_castSucc]
  have hN : t.val < 20 := lt_of_lt_of_eq t.isLt (show cfg0.N = 20 from N_0)
  by_cases h0 : t.val % 20 = 0
  · have h1 : ¬ t.val % 20 = 19 := by omega
    have hc0 := (hcond0_0 t).mpr h0
    have hc1 : ¬ cond0_1 (grid0.coords t) := fun h => h1 ((hcond0_1 t).mp h)
    rw [show (dat0 V c).leavesExact 0 t = owns (c : Thread nD τ) ((cfg0.win 0).stage (cfg0.slots t 0)) fullShare ((dat0 V c).after 0 t) from rfl, after0_0]
    rw [show (dat0 V c).leavesExact 1 t = owns (c : Thread nD τ) ((cfg0.win 1).stage (cfg0.slots t 1)) fullShare ((dat0 V c).after 1 t) from rfl, after0_1]
    rw [show (dat0 V c).leavesExact 2 t = owns (c : Thread nD τ) ((cfg0.win 2).stage (cfg0.slots t 2)) fullShare ((dat0 V c).after 2 t) from rfl, after0_2]
    rw [(dat0 V c).leavesExact_idle 3 t ((idle0_3_iff t).mpr hc1) (Bool.eq_false_iff.mpr fun h => h1 ((flush0_3 t).mp h))]
    rw [show (dat0 V c).leavesExact 4 t = owns (c : Thread nD τ) ((cfg0.win 4).stage (cfg0.slots t 4)) fullShare ((dat0 V c).after 4 t) from by
      unfold Dat.leavesExact; rw [Bool.eq_false_iff.mpr fun h => (idle0_4_iff t).mp h hc0], after0_4]
    rw [PhiS0_zero V c _ _ (by omega), scopedRest0_split]
    obtain rfl : t = first0 := Fin.ext (by simp only; omega)
    iintro ⟨⟨⟨⟨%fs1, HS1⟩, ⟨%fs0, HS0⟩⟩, Hg⟩, Ho, ⟨%d0, H0⟩, ⟨%d1, H1⟩, ⟨%d2, H2⟩, ⟨%d3, H3⟩, ⟨%d4, H4⟩⟩
    iapply (run0_A c (grid0.coords first0) _ _ _ _ _ _ _ _ _ _ _ _ _ _ hc0 hc1 (blk0_0 V c first0) (blk0_1 V c first0) _ Set.univ _)
    isplitl [H0]; · iexact H0
    isplitl [H1]; · iexact H1
    isplitl [H2]; · iexists _; iexact H2
    isplitl [H3]; · iexact H3
    isplitl [H4]; · iexists _; iexact H4
    isplitl [HS0]; · iexists fs0; rw [owns_whole]; iexact HS0
    isplitl [HS1]; · iexists fs1; rw [owns_whole]; iexact HS1
    iintro ⟨H0, H1, H2, H3, H4, HS0, HS1⟩
    isplitl [HS1 HS0 Hg]
    · isplitl [HS1 HS0]
      · isplitl [HS1]; · iexact HS1
        iexact HS0
      iexact Hg
    isplitl [Ho]; · iexact Ho
    isplitl [H0]; · iexact H0
    isplitl [H1]; · iexact H1
    isplitl [H2]; · iexact H2
    isplitl [H3]; · iexists d3; iexact H3
    iexact H4
  · have hc0 : ¬ cond0_0 (grid0.coords t) := fun h => h0 ((hcond0_0 t).mp h)
    by_cases h1 : t.val % 20 = 19
    · have hc1 := (hcond0_1 t).mpr h1
      obtain rfl : t = last0 := Fin.ext (by simp only; omega)
      rw [show (dat0 V c).leavesExact 0 last0 = owns (c : Thread nD τ) ((cfg0.win 0).stage (cfg0.slots last0 0)) fullShare ((dat0 V c).after 0 last0) from rfl, after0_0]
      rw [show (dat0 V c).leavesExact 1 last0 = owns (c : Thread nD τ) ((cfg0.win 1).stage (cfg0.slots last0 1)) fullShare ((dat0 V c).after 1 last0) from rfl, after0_1]
      rw [show (dat0 V c).leavesExact 2 last0 = owns (c : Thread nD τ) ((cfg0.win 2).stage (cfg0.slots last0 2)) fullShare ((dat0 V c).after 2 last0) from rfl, after0_2]
      rw [show (dat0 V c).leavesExact 3 last0 = owns (c : Thread nD τ) ((cfg0.win 3).stage (cfg0.slots last0 3)) fullShare ((dat0 V c).after 3 last0) from by
        unfold Dat.leavesExact; rw [Bool.eq_false_iff.mpr fun h => (idle0_3_iff last0).mp h hc1], after0_3]
      rw [show (dat0 V c).leavesExact 4 last0 = owns (c : Thread nD τ) ((cfg0.win 4).stage (cfg0.slots last0 4)) fullShare ((dat0 V c).after 4 last0) from by
        unfold Dat.leavesExact; rw [(idle0_4_iff last0).mpr hc0, (flush0_4 last0).mpr h1], after0_4]
      rw [show PhiS0 V c (last0 : Fin cfg0.N).val _ = PhiS0 V c (18 + 1) (by decide) from rfl, PhiS0_pos V c 18 _ (by decide)]
      simp only [before0_4 V c last0 (by decide)]
      iintro ⟨⟨⟨HS1, HS0⟩, Hg⟩, Ho, ⟨%d0, H0⟩, ⟨%d1, H1⟩, ⟨%d2, H2⟩, ⟨%d3, H3⟩, ⟨%d4, H4⟩⟩
      iapply (run0_C c (grid0.coords last0) _ _ _ _ _ _ _ _ _ _ _ _ _ _ hc0 hc1 (blk0_0 V c last0) (blk0_1 V c last0) _ (am0 V c 18 (by decide)) (sI0 V c) Set.univ _)
      isplitl [H0]; · iexact H0
      isplitl [H1]; · iexact H1
      isplitl [H2]; · iexists _; iexact H2
      isplitl [H3]; · iexists _; iexact H3
      isplitl [H4]; · iexact H4
      isplitl [HS0]; · iexact HS0
      isplitl [HS1]; · iexact HS1
      iintro ⟨H0, H1, H2, H3, H4, HS0, HS1⟩
      isplitl [HS1 HS0 Hg]
      · isplitl [HS1 HS0]
        · isplitl [HS1]; · iexact HS1
          iexact HS0
        iexact Hg
      isplitl [Ho]; · iexact Ho
      isplitl [H0]; · iexact H0
      isplitl [H1]; · iexact H1
      isplitl [H2]; · iexact H2
      isplitl [H3]; · iexact H3
      iexact H4
    · have hc1 : ¬ cond0_1 (grid0.coords t) := fun h => h1 ((hcond0_1 t).mp h)
      rw [show (dat0 V c).leavesExact 0 t = owns (c : Thread nD τ) ((cfg0.win 0).stage (cfg0.slots t 0)) fullShare ((dat0 V c).after 0 t) from rfl, after0_0]
      rw [show (dat0 V c).leavesExact 1 t = owns (c : Thread nD τ) ((cfg0.win 1).stage (cfg0.slots t 1)) fullShare ((dat0 V c).after 1 t) from rfl, after0_1]
      rw [show (dat0 V c).leavesExact 2 t = owns (c : Thread nD τ) ((cfg0.win 2).stage (cfg0.slots t 2)) fullShare ((dat0 V c).after 2 t) from rfl, after0_2]
      rw [(dat0 V c).leavesExact_idle 3 t ((idle0_3_iff t).mpr hc1) (Bool.eq_false_iff.mpr fun h => h1 ((flush0_3 t).mp h))]
      rw [(dat0 V c).leavesExact_idle 4 t ((idle0_4_iff t).mpr hc0) (Bool.eq_false_iff.mpr fun h => h1 ((flush0_4 t).mp h))]
      obtain ⟨n, hn⟩ : ∃ n, t.val = n + 1 := ⟨t.val - 1, by omega⟩
      obtain ⟨tv, ht⟩ := t
      simp only at hn; subst hn
      rw [PhiS0_pos V c n _ (by omega)]
      simp only [before0_4 V c ⟨n + 1, ht⟩ (Nat.succ_ne_zero n)]
      iintro ⟨⟨⟨HS1, HS0⟩, Hg⟩, Ho, ⟨%d0, H0⟩, ⟨%d1, H1⟩, ⟨%d2, H2⟩, ⟨%d3, H3⟩, ⟨%d4, H4⟩⟩
      iapply (run0_B c (grid0.coords ⟨n + 1, ht⟩) _ _ _ _ _ _ _ _ _ _ _ _ _ _ hc0 hc1 (blk0_0 V c ⟨n + 1, ht⟩) (blk0_1 V c ⟨n + 1, ht⟩) _ _ (am0 V c n (by omega)) (sI0 V c) Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS1 HS0 Hg]
      · isplitl [HS1 HS0]
        · isplitl [HS1]; · iexact HS1
          iexact HS0
        iexact Hg
      isplitl [Ho]; · iexact Ho
      isplitl [H0]; · iexact H0
      isplitl [H1]; · iexact H1
      isplitl [H2]; · iexact H2
      isplitl [H3]; · iexists d3; iexact H3
      iexists d4; iexact H4

theorem defs₀_row0 (t : Fin cfg0.N) : defs₀ (F := F) .tc cfg0.body (cfg0.bodyArgs t (cfg0.slots t)) = bodyAt0 t := by
  unfold defs₀; rw [Defs.onTc_tc]
/-- The body obligation of region 0. -/
theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl
/-- The invariant at the start, from the scoped buffers, -/
theorem hin0 (c : Dev nD) : iprop(Pipeline.scopedRest spec0 c ∗ BI.emp) ⊢ (dat0 V c).Φ 0 := by
  rw [show (dat0 V c).Φ 0 = PhiS0 V c 0 (Nat.zero_le _) from rfl, PhiS0_zero V c _ _ rfl]
  iintro ⟨H, -⟩; iexact H
/-- and the scoped buffers back at the end. -/
theorem hout0 (c : Dev nD) : (dat0 V c).Φ (Fin.last cfg0.N) ⊢ iprop(Pipeline.scopedRest spec0 c ∗ BI.emp) := by
  rw [show (dat0 V c).Φ (Fin.last cfg0.N) = PhiS0 V c (19 + 1) (by decide) from rfl, PhiS0_pos V c 19 _ (by decide), scopedRest0_split]
  simp only [owns_whole]
  iintro ⟨⟨HS1, HS0⟩, Hg⟩
  isplitl [HS1 HS0 Hg]
  · isplitl [HS1 HS0]
    · isplitl [HS1]; · iexists (am0 V c 19 (by decide)); iexact HS1
      iexists (fun _ => sI0 V c); iexact HS0
    iexact Hg
  iempintro

end Cert.Kernel.Own

end
-- ==== Proof.K.Run1.lean ====
/- The body of the forward matmul (`fwd`), run once per case of its two conditions, with the values every buffer holds afterwards named. Stated at any float family. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp
public import proofs.«01_k».proof.Proof.K.Base

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The activation's scale, from its amax history: a power of two, as a one-element vector. -/
def scale1 (h : Vec F S1x16 .f32) : FVec F S1x1 .f32 := k1_pay9 (k1_pay3 h) (k1_pay5 h) (k1_pay6 h) k1_pay7
/-- The scale's inverse, a scalar. -/
def inv1 (h : Vec F S1x16 .f32) : F .f32 :=
  k1_pay19 (k1_pay14 (k1_pay10 (k1_pay3 h) (k1_pay5 h) (k1_pay6 h) k1_pay7) (k1_pay11 (k1_pay3 h) (k1_pay5 h) (k1_pay6 h) k1_pay7) (k1_pay12 (k1_pay3 h) (k1_pay5 h) (k1_pay6 h) k1_pay7) 255#32 k1_pay13)
/-- The product of the activation's scale and the weight's. -/
def prod1 (h : Vec F S1x16 .f32) (hw : Vec F S1x16 .f32) : F .f32 :=
  k1_pay20 (scale1 h) (k1_pay15 hw) (k1_pay16 hw) (k1_pay17 hw) (k1_pay18 hw)

/-- The first point's condition. -/
abbrev cond1_0 (i : grid1.Coords) : Prop := k1_cond1 i = 1#1
/-- The last point's condition. -/
abbrev cond1_1 (i : grid1.Coords) : Prop := k1_cond2 i = 1#1

set_option maxHeartbeats 2000000 in
/-- The first point: the scale, its inverse and the product of the scales are computed from the histories, the amax starts at zero and takes the block in, the block is quantised, multiplied and scaled; the new history is left alone. -/
theorem run1_A (c : Dev nD) (i : grid1.Coords) (arg1 : Memref sig .tc .vmem S1x16 .f32) (harg1 : arg1.IsWhole) (arg2 : Memref sig .tc .vmem S1x16 .f32) (harg2 : arg2.IsWhole) (arg3 : Memref sig .tc .vmem S512x5120 .bf16) (harg3 : arg3.IsWhole) (arg4 : Memref sig .tc .vmem S5120x3456 .fp8e4m3) (harg4 : arg4.IsWhole) (arg5 : Memref sig .tc .vmem S1x512x3456 .bf16) (harg5 : arg5.IsWhole) (arg6 : Memref sig .tc .vmem S512x5120 .fp8e4m3) (harg6 : arg6.IsWhole) (arg7 : Memref sig .tc .vmem S1x16 .f32) (harg7 : arg7.IsWhole) (arg8 : Memref sig .tc .vmem S1x1 .f32) (harg8 : arg8.IsWhole) (arg9 : Memref sig .tc .smem S2 .f32) (harg9 : arg9.IsWhole) (arg10 : Memref sig .tc .vmem S8x128 .f32) (harg10 : arg10.IsWhole) (hc0 : cond1_0 i) (hc1 : ¬cond1_1 i)
    (x0 : Vec F S1x16 .f32) (x1 : Vec F S1x16 .f32) (x2 : Vec F S512x5120 .bf16) (x3 : Vec F S5120x3456 .fp8e4m3) (x6 : Vec F S1x16 .f32)  (E : Set ℕ) (K : PUnit → sProp 𝕄) :
    iprop(owns (c : Thread nD τ) arg1 fullShare (x0 : Vec F S1x16 .f32) ∗ owns (c : Thread nD τ) arg2 fullShare (x1 : Vec F S1x16 .f32) ∗ owns (c : Thread nD τ) arg3 fullShare (x2 : Vec F S512x5120 .bf16) ∗ owns (c : Thread nD τ) arg4 fullShare (x3 : Vec F S5120x3456 .fp8e4m3) ∗ (∃ d, owns (c : Thread nD τ) arg5 fullShare d) ∗ (∃ d, owns (c : Thread nD τ) arg6 fullShare d) ∗ owns (c : Thread nD τ) arg7 fullShare (x6 : Vec F S1x16 .f32) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare (x0 : Vec F S1x16 .f32) ∗ owns (c : Thread nD τ) arg2 fullShare (x1 : Vec F S1x16 .f32) ∗ owns (c : Thread nD τ) arg3 fullShare (x2 : Vec F S512x5120 .bf16) ∗ owns (c : Thread nD τ) arg4 fullShare (x3 : Vec F S5120x3456 .fp8e4m3) ∗ owns (c : Thread nD τ) arg5 fullShare (k1_pay1 (k1_pay25 x2 (inv1 x0) x3 (prod1 x0 x1)) : Vec F S1x512x3456 .bf16) ∗ owns (c : Thread nD τ) arg6 fullShare (k1_pay24 x2 (inv1 x0) : Vec F S512x5120 .fp8e4m3) ∗ owns (c : Thread nD τ) arg7 fullShare (x6 : Vec F S1x16 .f32) ∗ owns (c : Thread nD τ) arg8 fullShare (scale1 x0 : Vec F S1x1 .f32) ∗ owns (c : Thread nD τ) arg9 fullShare (pair (inv1 x0) (prod1 x0 x1) : Vec F S2 .f32) ∗ owns (c : Thread nD τ) arg10 fullShare (k1_pay23 x2 k1_pay21 : Vec F S8x128 .f32)) -∗ K ⟨⟩))
      ⊢ wp frame (wpE (defs₀ (F := F)) Variants.none c none) E (cc1_fwd i arg1 harg1 arg2 harg2 arg3 harg3 arg4 harg4 arg5 harg5 arg6 harg6 arg7 harg7 arg8 harg8 arg9 harg9 arg10 harg10) K := by
  simp only [cc1_fwd_eq_skeleton]; unfold cc1_fwd_skel
  simp only [k1_part5_eq_skeleton, k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine (View.read_writes_full _ _ _ _ _).trans ?_
    sl_unfold_words
    try simp only [View.readAt_eq_ld, harg1.read_unread, harg2.read_unread, harg3.read_unread, harg4.read_unread, harg7.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
    first | done | rfl
  isplitl [H5]
  · iexists _; isplitr; swap; · iexact H5
    ipureintro
    refine (View.read_writes_full _ _ _ _ _).trans ?_
    sl_unfold_words
    try simp only [View.readAt_eq_ld, harg1.read_unread, harg2.read_unread, harg3.read_unread, harg4.read_unread, harg7.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
    first | done | rfl
  isplitl [H6]
  · iexists _; isplitr; · ipureintro; exact harg7.read_unread _
    iexact H6
  isplitl [H7]
  · iexists _; isplitr; swap; · iexact H7
    ipureintro
    refine (View.read_writes_full _ _ _ _ _).trans ?_
    sl_unfold_words
    try simp only [View.readAt_eq_ld, harg1.read_unread, harg2.read_unread, harg3.read_unread, harg4.read_unread, harg7.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
    first | done | rfl
  isplitl [H8]
  · iexists _; isplitr; swap; · iexact H8
    ipureintro
    refine (smem2_read _ _ _ _).trans ?_
    sl_unfold_words
    try simp only [View.readAt_eq_ld, harg1.read_unread, harg2.read_unread, harg3.read_unread, harg4.read_unread, harg7.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
    first | done | rfl
  iexists _; isplitr; swap; · iexact H9
  ipureintro
  refine (View.read_writes_full _ _ _ _ _).trans ?_
  sl_unfold_words
  try simp only [View.readAt_eq_ld, harg1.read_unread, harg2.read_unread, harg3.read_unread, harg4.read_unread, harg7.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
  first | done | rfl

set_option maxHeartbeats 2000000 in
/-- A point between: the amax takes the block in, and the block is quantised, multiplied and scaled with the two scalars held in scalar memory. -/
theorem run1_B (c : Dev nD) (i : grid1.Coords) (arg1 : Memref sig .tc .vmem S1x16 .f32) (harg1 : arg1.IsWhole) (arg2 : Memref sig .tc .vmem S1x16 .f32) (harg2 : arg2.IsWhole) (arg3 : Memref sig .tc .vmem S512x5120 .bf16) (harg3 : arg3.IsWhole) (arg4 : Memref sig .tc .vmem S5120x3456 .fp8e4m3) (harg4 : arg4.IsWhole) (arg5 : Memref sig .tc .vmem S1x512x3456 .bf16) (harg5 : arg5.IsWhole) (arg6 : Memref sig .tc .vmem S512x5120 .fp8e4m3) (harg6 : arg6.IsWhole) (arg7 : Memref sig .tc .vmem S1x16 .f32) (harg7 : arg7.IsWhole) (arg8 : Memref sig .tc .vmem S1x1 .f32) (harg8 : arg8.IsWhole) (arg9 : Memref sig .tc .smem S2 .f32) (harg9 : arg9.IsWhole) (arg10 : Memref sig .tc .vmem S8x128 .f32) (harg10 : arg10.IsWhole) (hc0 : ¬cond1_0 i) (hc1 : ¬cond1_1 i)
    (x0 : Vec F S1x16 .f32) (x1 : Vec F S1x16 .f32) (x2 : Vec F S512x5120 .bf16) (x3 : Vec F S5120x3456 .fp8e4m3) (x6 : Vec F S1x16 .f32) (x7 : Vec F S1x1 .f32) (x9 : Vec F S8x128 .f32) (s0 s1 : Elt F .f32) (E : Set ℕ) (K : PUnit → sProp 𝕄) :
    iprop(owns (c : Thread nD τ) arg1 fullShare (x0 : Vec F S1x16 .f32) ∗ owns (c : Thread nD τ) arg2 fullShare (x1 : Vec F S1x16 .f32) ∗ owns (c : Thread nD τ) arg3 fullShare (x2 : Vec F S512x5120 .bf16) ∗ owns (c : Thread nD τ) arg4 fullShare (x3 : Vec F S5120x3456 .fp8e4m3) ∗ (∃ d, owns (c : Thread nD τ) arg5 fullShare d) ∗ (∃ d, owns (c : Thread nD τ) arg6 fullShare d) ∗ owns (c : Thread nD τ) arg7 fullShare (x6 : Vec F S1x16 .f32) ∗ owns (c : Thread nD τ) arg8 fullShare (x7 : Vec F S1x1 .f32) ∗ owns (c : Thread nD τ) arg9 fullShare (pair s0 s1 : Vec F S2 .f32) ∗ owns (c : Thread nD τ) arg10 fullShare (x9 : Vec F S8x128 .f32)
        ∗ (iprop(owns (c : Thread nD τ) arg1 fullShare (x0 : Vec F S1x16 .f32) ∗ owns (c : Thread nD τ) arg2 fullShare (x1 : Vec F S1x16 .f32) ∗ owns (c : Thread nD τ) arg3 fullShare (x2 : Vec F S512x5120 .bf16) ∗ owns (c : Thread nD τ) arg4 fullShare (x3 : Vec F S5120x3456 .fp8e4m3) ∗ owns (c : Thread nD τ) arg5 fullShare (k1_pay1 (k1_pay25 x2 s0 x3 s1) : Vec F S1x512x3456 .bf16) ∗ owns (c : Thread nD τ) arg6 fullShare (k1_pay24 x2 s0 : Vec F S512x5120 .fp8e4m3) ∗ owns (c : Thread nD τ) arg7 fullShare (x6 : Vec F S1x16 .f32) ∗ owns (c : Thread nD τ) arg8 fullShare (x7 : Vec F S1x1 .f32) ∗ owns (c : Thread nD τ) arg9 fullShare (pair s0 s1 : Vec F S2 .f32) ∗ owns (c : Thread nD τ) arg10 fullShare (k1_pay23 x2 x9 : Vec F S8x128 .f32)) -∗ K ⟨⟩))
      ⊢ wp frame (wpE (defs₀ (F := F)) Variants.none c none) E (cc1_fwd i arg1 harg1 arg2 harg2 arg3 harg3 arg4 harg4 arg5 harg5 arg6 harg6 arg7 harg7 arg8 harg8 arg9 harg9 arg10 harg10) K := by
  simp only [cc1_fwd_eq_skeleton]; unfold cc1_fwd_skel
  simp only [k1_part5_eq_skeleton, k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg7.eq_unread hf6; obtain rfl := harg8.eq_unread hf7; obtain rfl := harg9.eq_unread hf8; obtain rfl := harg10.eq_unread hf9
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine (View.read_writes_full _ _ _ _ _).trans ?_
    sl_unfold_words
    try simp only [View.readAt_eq_ld, harg1.read_unread, harg2.read_unread, harg3.read_unread, harg4.read_unread, harg7.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
    first | done | rfl
  isplitl [H5]
  · iexists _; isplitr; swap; · iexact H5
    ipureintro
    refine (View.read_writes_full _ _ _ _ _).trans ?_
    sl_unfold_words
    try simp only [View.readAt_eq_ld, harg1.read_unread, harg2.read_unread, harg3.read_unread, harg4.read_unread, harg7.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
    first | done | rfl
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  iexists _; isplitr; swap; · iexact H9
  ipureintro
  refine (View.read_writes_full _ _ _ _ _).trans ?_
  sl_unfold_words
  try simp only [View.readAt_eq_ld, harg1.read_unread, harg2.read_unread, harg3.read_unread, harg4.read_unread, harg7.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
  first | done | rfl

set_option maxHeartbeats 2000000 in
/-- The last point: as between, and the new history is the old one shifted with the amax appended. -/
theorem run1_C (c : Dev nD) (i : grid1.Coords) (arg1 : Memref sig .tc .vmem S1x16 .f32) (harg1 : arg1.IsWhole) (arg2 : Memref sig .tc .vmem S1x16 .f32) (harg2 : arg2.IsWhole) (arg3 : Memref sig .tc .vmem S512x5120 .bf16) (harg3 : arg3.IsWhole) (arg4 : Memref sig .tc .vmem S5120x3456 .fp8e4m3) (harg4 : arg4.IsWhole) (arg5 : Memref sig .tc .vmem S1x512x3456 .bf16) (harg5 : arg5.IsWhole) (arg6 : Memref sig .tc .vmem S512x5120 .fp8e4m3) (harg6 : arg6.IsWhole) (arg7 : Memref sig .tc .vmem S1x16 .f32) (harg7 : arg7.IsWhole) (arg8 : Memref sig .tc .vmem S1x1 .f32) (harg8 : arg8.IsWhole) (arg9 : Memref sig .tc .smem S2 .f32) (harg9 : arg9.IsWhole) (arg10 : Memref sig .tc .vmem S8x128 .f32) (harg10 : arg10.IsWhole) (hc0 : ¬cond1_0 i) (hc1 : cond1_1 i)
    (x0 : Vec F S1x16 .f32) (x1 : Vec F S1x16 .f32) (x2 : Vec F S512x5120 .bf16) (x3 : Vec F S5120x3456 .fp8e4m3) (x7 : Vec F S1x1 .f32) (x9 : Vec F S8x128 .f32) (s0 s1 : Elt F .f32) (E : Set ℕ) (K : PUnit → sProp 𝕄) :
    iprop(owns (c : Thread nD τ) arg1 fullShare (x0 : Vec F S1x16 .f32) ∗ owns (c : Thread nD τ) arg2 fullShare (x1 : Vec F S1x16 .f32) ∗ owns (c : Thread nD τ) arg3 fullShare (x2 : Vec F S512x5120 .bf16) ∗ owns (c : Thread nD τ) arg4 fullShare (x3 : Vec F S5120x3456 .fp8e4m3) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare (x7 : Vec F S1x1 .f32) ∗ owns (c : Thread nD τ) arg9 fullShare (pair s0 s1 : Vec F S2 .f32) ∗ owns (c : Thread nD τ) arg10 fullShare (x9 : Vec F S8x128 .f32)
        ∗ (iprop(owns (c : Thread nD τ) arg1 fullShare (x0 : Vec F S1x16 .f32) ∗ owns (c : Thread nD τ) arg2 fullShare (x1 : Vec F S1x16 .f32) ∗ owns (c : Thread nD τ) arg3 fullShare (x2 : Vec F S512x5120 .bf16) ∗ owns (c : Thread nD τ) arg4 fullShare (x3 : Vec F S5120x3456 .fp8e4m3) ∗ owns (c : Thread nD τ) arg5 fullShare (k1_pay1 (k1_pay25 x2 s0 x3 s1) : Vec F S1x512x3456 .bf16) ∗ owns (c : Thread nD τ) arg6 fullShare (k1_pay24 x2 s0 : Vec F S512x5120 .fp8e4m3) ∗ owns (c : Thread nD τ) arg7 fullShare (k1_pay2 x0 (k1_pay23 x2 x9) : Vec F S1x16 .f32) ∗ owns (c : Thread nD τ) arg8 fullShare (x7 : Vec F S1x1 .f32) ∗ owns (c : Thread nD τ) arg9 fullShare (pair s0 s1 : Vec F S2 .f32) ∗ owns (c : Thread nD τ) arg10 fullShare (k1_pay23 x2 x9 : Vec F S8x128 .f32)) -∗ K ⟨⟩))
      ⊢ wp frame (wpE (defs₀ (F := F)) Variants.none c none) E (cc1_fwd i arg1 harg1 arg2 harg2 arg3 harg3 arg4 harg4 arg5 harg5 arg6 harg6 arg7 harg7 arg8 harg8 arg9 harg9 arg10 harg10) K := by
  simp only [cc1_fwd_eq_skeleton]; unfold cc1_fwd_skel
  simp only [k1_part5_eq_skeleton, k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg8.eq_unread hf7; obtain rfl := harg9.eq_unread hf8; obtain rfl := harg10.eq_unread hf9
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine (View.read_writes_full _ _ _ _ _).trans ?_
    sl_unfold_words
    try simp only [View.readAt_eq_ld, harg1.read_unread, harg2.read_unread, harg3.read_unread, harg4.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
    first | done | rfl
  isplitl [H5]
  · iexists _; isplitr; swap; · iexact H5
    ipureintro
    refine (View.read_writes_full _ _ _ _ _).trans ?_
    sl_unfold_words
    try simp only [View.readAt_eq_ld, harg1.read_unread, harg2.read_unread, harg3.read_unread, harg4.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
    first | done | rfl
  isplitl [H6]
  · iexists _; isplitr; swap; · iexact H6
    ipureintro
    refine (View.read_writes_full _ _ _ _ _).trans ?_
    sl_unfold_words
    try simp only [View.readAt_eq_ld, harg1.read_unread, harg2.read_unread, harg3.read_unread, harg4.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
    first | done | rfl
  isplitl [H7]
  · iexists _; isplitr; · ipureintro; exact harg8.read_unread _
    iexact H7
  isplitl [H8]
  · iexists _; isplitr; · ipureintro; exact harg9.read_unread _
    iexact H8
  iexists _; isplitr; swap; · iexact H9
  ipureintro
  refine (View.read_writes_full _ _ _ _ _).trans ?_
  sl_unfold_words
  try simp only [View.readAt_eq_ld, harg1.read_unread, harg2.read_unread, harg3.read_unread, harg4.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
  first | done | rfl

end Cert.Kernel.Own

end
-- ==== Proof.K.Dat1.lean ====
/- Region 1 of the program: the proof data over any entry contents of the buffers, and the body obligation. Stated at any float family. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp
public import Idealize.ShloMosaic.Lib.Pipeline.TableIdle
public import proofs.«01_k».proof.Proof.K.Run1

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- The first and the last grid point of region 1. -/
abbrev first1 : Fin cfg1.N := ⟨0, by decide⟩
abbrev last1 : Fin cfg1.N := ⟨35, by decide⟩

/-- An input window's block at a point, of the arrays at the entry contents. -/
abbrev iblk1 (c : Dev nD) (w : Fin cfg1.W) (t : Fin cfg1.N) := ((cfg1.win w).blk t).view.read (Elt F) (V c (Proc.devRef .tc (Pipeline.arrRef spec1 w)))
abbrev blk1_0 (c : Dev nD) (t : Fin cfg1.N) : Vec F S1x16 .f32 := iblk1 V c 0 t
abbrev blk1_1 (c : Dev nD) (t : Fin cfg1.N) : Vec F S1x16 .f32 := iblk1 V c 1 t
abbrev blk1_2 (c : Dev nD) (t : Fin cfg1.N) : Vec F S512x5120 .bf16 := iblk1 V c 2 t
abbrev blk1_3 (c : Dev nD) (t : Fin cfg1.N) : Vec F S5120x3456 .fp8e4m3 := iblk1 V c 3 t

/-- The inverse scale and the product of the scales, held in scalar memory. -/
def sI1 (c : Dev nD) : Elt F .f32 := inv1 (blk1_0 V c first1)
def sP1 (c : Dev nD) : Elt F .f32 := prod1 (blk1_0 V c first1) (blk1_1 V c first1)
/-- The scratch amax after a point: the maximum folded over the blocks so far. -/
def am1 (c : Dev nD) : (n : ℕ) → n < cfg1.N → Vec F S8x128 .f32
  | 0, h => k1_pay23 (blk1_2 V c ⟨0, h⟩) k1_pay21
  | n + 1, h => k1_pay23 (blk1_2 V c ⟨n + 1, h⟩) (am1 c n (Nat.lt_of_succ_lt h))
/-- What each output's buffer holds after a point. -/
def out1_4 (c : Dev nD) (t : Fin cfg1.N) : Vec F S1x512x3456 .bf16 := k1_pay1 (k1_pay25 (blk1_2 V c t) (sI1 V c) (blk1_3 V c t) (sP1 V c))
def out1_5 (c : Dev nD) (t : Fin cfg1.N) : Vec F S512x5120 .fp8e4m3 := k1_pay24 (blk1_2 V c t) (sI1 V c)
def out1_6 (c : Dev nD) : Vec F S1x16 .f32 := k1_pay2 (blk1_0 V c last1) (am1 V c last1.val last1.isLt)
def out1_7 (c : Dev nD) : Vec F S1x1 .f32 := scale1 (blk1_0 V c first1)

/-- The invariant: before the first point every scoped buffer at anything, then the scratch at what the points so far left. -/
def PhiS1 (c : Dev nD) : (n : ℕ) → n ≤ cfg1.N → sProp 𝕄
  | 0, _ => Pipeline.scopedRest (Ix := Unit) (Name := ℕ) (U := UR sig nD τ) (Lvl := ℕ) (Val := Elt F) spec1 c
  | n + 1, h => iprop(iprop(owns (c : Thread nD τ) (Memref.whole cc1_scratch1) fullShare (am1 V c n h) ∗ owns (c : Thread nD τ) (Memref.whole cc1_scratch0) fullShare (pair (sI1 V c) (sP1 V c))) ∗ Pipeline.scopedRestBut (Ix := Unit) (Name := ℕ) (U := UR sig nD τ) (Lvl := ℕ) (Val := Elt F) spec1 c [cc1_scratch1, cc1_scratch0])
theorem PhiS1_zero (c : Dev nD) (n : ℕ) (h : n ≤ cfg1.N) (hz : n = 0) : PhiS1 V c n h = Pipeline.scopedRest (Ix := Unit) (Name := ℕ) (U := UR sig nD τ) (Lvl := ℕ) (Val := Elt F) spec1 c := by
  subst hz; rfl
theorem PhiS1_succ (c : Dev nD) (n : ℕ) (h : n < cfg1.N) : PhiS1 V c (n + 1) h = iprop(iprop(owns (c : Thread nD τ) (Memref.whole cc1_scratch1) fullShare (am1 V c n h) ∗ owns (c : Thread nD τ) (Memref.whole cc1_scratch0) fullShare (pair (sI1 V c) (sP1 V c))) ∗ Pipeline.scopedRestBut (Ix := Unit) (Name := ℕ) (U := UR sig nD τ) (Lvl := ℕ) (Val := Elt F) spec1 c [cc1_scratch1, cc1_scratch0]) := rfl
theorem PhiS1_pos (c : Dev nD) (n : ℕ) (h' : n + 1 ≤ cfg1.N) (h : n < cfg1.N) : PhiS1 V c (n + 1) h' = iprop(iprop(owns (c : Thread nD τ) (Memref.whole cc1_scratch1) fullShare (am1 V c n h) ∗ owns (c : Thread nD τ) (Memref.whole cc1_scratch0) fullShare (pair (sI1 V c) (sP1 V c))) ∗ Pipeline.scopedRestBut (Ix := Unit) (Name := ℕ) (U := UR sig nD τ) (Lvl := ℕ) (Val := Elt F) spec1 c [cc1_scratch1, cc1_scratch0]) := rfl

/-- The region's proof data at entry contents `V`. -/
def dat1 (c : Dev nD) : Dat τ (Elt F) Unit ℕ (UR sig nD τ) ℕ cfg1 c where
  A w := V c (Proc.devRef .tc (Pipeline.arrRef spec1 w))
  after w t := match w with
    | ⟨0, _⟩ => blk1_0 V c t
    | ⟨1, _⟩ => blk1_1 V c t
    | ⟨2, _⟩ => blk1_2 V c t
    | ⟨3, _⟩ => blk1_3 V c t
    | ⟨4, _⟩ => out1_4 V c t
    | ⟨5, _⟩ => out1_5 V c t
    | ⟨6, _⟩ => out1_6 V c
    | ⟨7, _⟩ => out1_7 V c
  Φ t := PhiS1 V c t.val (Nat.le_of_lt_succ t.isLt)
  q _ := fullShare
  owed _ := 0

theorem dat1_A (c : Dev nD) (w : Fin cfg1.W) : (dat1 V c).A w = V c (Proc.devRef .tc (Pipeline.arrRef spec1 w)) := by dsimp only [dat1]
theorem PhiS1_castSucc (c : Dev nD) (t : Fin cfg1.N) : (dat1 V c).Φ t.castSucc = PhiS1 V c t.val (Nat.le_of_lt t.isLt) := by
  dsimp only [dat1]; exact Pipeline.Dat.Φ_castSucc (PhiS1 V c) t
theorem after1_0 (c : Dev nD) (t : Fin cfg1.N) : (dat1 V c).after 0 t = blk1_0 V c t := by dsimp only [dat1]
theorem after1_1 (c : Dev nD) (t : Fin cfg1.N) : (dat1 V c).after 1 t = blk1_1 V c t := by dsimp only [dat1]
theorem after1_2 (c : Dev nD) (t : Fin cfg1.N) : (dat1 V c).after 2 t = blk1_2 V c t := by dsimp only [dat1]
theorem after1_3 (c : Dev nD) (t : Fin cfg1.N) : (dat1 V c).after 3 t = blk1_3 V c t := by dsimp only [dat1]
theorem after1_4 (c : Dev nD) (t : Fin cfg1.N) : (dat1 V c).after 4 t = out1_4 V c t := by dsimp only [dat1]
theorem after1_5 (c : Dev nD) (t : Fin cfg1.N) : (dat1 V c).after 5 t = out1_5 V c t := by dsimp only [dat1]
theorem after1_6 (c : Dev nD) (t : Fin cfg1.N) : (dat1 V c).after 6 t = out1_6 V c := by dsimp only [dat1]
theorem after1_7 (c : Dev nD) (t : Fin cfg1.N) : (dat1 V c).after 7 t = out1_7 V c := by dsimp only [dat1]
theorem before1_0 (c : Dev nD) (t : Fin cfg1.N) (d) : (dat1 V c).before 0 t d = blk1_0 V c t :=
  ((dat1 V c).before_in_eq_fetched 0 rfl (fun _ => rfl) (fun _ _ _ => rfl) (fun t => by rw [after1_0]; unfold Dat.blockOf; rw [dat1_A]; try rfl) t d).trans (by unfold Dat.fetched Dat.blockOf; rw [dat1_A]; try rfl)
theorem before1_1 (c : Dev nD) (t : Fin cfg1.N) (d) : (dat1 V c).before 1 t d = blk1_1 V c t :=
  ((dat1 V c).before_in_eq_fetched 1 rfl (fun _ => rfl) (fun _ _ _ => rfl) (fun t => by rw [after1_1]; unfold Dat.blockOf; rw [dat1_A]; try rfl) t d).trans (by unfold Dat.fetched Dat.blockOf; rw [dat1_A]; try rfl)
theorem before1_2 (c : Dev nD) (t : Fin cfg1.N) (d) : (dat1 V c).before 2 t d = blk1_2 V c t :=
  ((dat1 V c).before_in_eq_fetched 2 rfl (fun _ => rfl) (fun _ _ _ => rfl) (fun t => by rw [after1_2]; unfold Dat.blockOf; rw [dat1_A]; try rfl) t d).trans (by unfold Dat.fetched Dat.blockOf; rw [dat1_A]; try rfl)
theorem before1_3 (c : Dev nD) (t : Fin cfg1.N) (d) : (dat1 V c).before 3 t d = blk1_3 V c t :=
  ((dat1 V c).before_in_eq_fetched 3 rfl (fun _ => rfl) (fun _ _ _ => rfl) (fun t => by rw [after1_3]; unfold Dat.blockOf; rw [dat1_A]; try rfl) t d).trans (by unfold Dat.fetched Dat.blockOf; rw [dat1_A]; try rfl)

/-- The conditions, as the point's number. -/
theorem hcond1_0 : ∀ t : Fin cfg1.N, cond1_0 (grid1.coords t) ↔ t.val % 36 = 0 :=
  (fun t => by
    have ht : t.val < 36 := Nat.lt_of_lt_of_eq t.isLt N_1
    have e0 : (grid1.coords t 0).val = t.val / 1 % 36 := Pipeline.Grid.coords_val t 0 (by decide) rfl
    simp only [cond1_0, k1_cond1, e0]
    word_cmp : ∀ t : Fin grid1.N, cond1_0 (grid1.coords t) ↔ t.val % 36 = 0)
theorem hcond1_1 : ∀ t : Fin cfg1.N, cond1_1 (grid1.coords t) ↔ t.val % 36 = 35 :=
  (fun t => by
    have ht : t.val < 36 := Nat.lt_of_lt_of_eq t.isLt N_1
    have e0 : (grid1.coords t 0).val = t.val / 1 % 36 := Pipeline.Grid.coords_val t 0 (by decide) rfl
    simp only [cond1_1, k1_cond2, e0]
    word_cmp : ∀ t : Fin grid1.N, cond1_1 (grid1.coords t) ↔ t.val % 36 = 35)
theorem idle1_6_iff (t : Fin cfg1.N) : cfg1.idle 6 (cfg1.grid.coords t) = true ↔ ¬ cond1_1 (grid1.coords t) := by
  show (!(k1_cond2 (grid1.coords t) == 1#1)) = true ↔ _
  simp [cond1_1]
theorem idle1_7_iff (t : Fin cfg1.N) : cfg1.idle 7 (cfg1.grid.coords t) = true ↔ ¬ cond1_0 (grid1.coords t) := by
  show (!(k1_cond1 (grid1.coords t) == 1#1)) = true ↔ _
  simp [cond1_0]
/-- The new history's buffer is at anything until the last point; the scale's is at the scale after the first. -/
theorem fresh1_6 : ∀ t : Fin cfg1.N, cfg1.fresh 6 t.val = true := (by decide +kernel : ∀ t : Fin grid1.N, cfg1.fresh 6 t.val = true)
theorem fresh1_7 : ∀ t : Fin cfg1.N, t.val ≠ 0 → cfg1.fresh 7 t.val = false := (by decide +kernel : ∀ t : Fin grid1.N, t.val ≠ 0 → cfg1.fresh 7 t.val = false)
theorem before1_6 (c : Dev nD) (t : Fin cfg1.N) (d) : (dat1 V c).before 6 t d = d := by
  rw [(dat1 V c).before_out_traj 6 rfl (fun _ _ => rfl) (fun t _ _ _ => by rw [after1_6, after1_6]) t.val t rfl d, fresh1_6, if_pos rfl]
theorem before1_7 (c : Dev nD) (t : Fin cfg1.N) (ht : t.val ≠ 0) (d) : (dat1 V c).before 7 t d = out1_7 V c := by
  rw [(dat1 V c).before_out_traj 7 rfl (fun _ _ => rfl) (fun t _ _ _ => by rw [after1_7, after1_7]) t.val t rfl d, fresh1_7 t ht, if_neg Bool.false_ne_true, after1_7]

/-- What the body is called with at a point, -/
def bodyPre1 (c : Dev nD) (t : Fin cfg1.N) : sProp 𝕄 :=
  iprop((dat1 V c).Φ t.castSucc ∗ (dat1 V c).owesAt () t.castSucc ∗ (∃ d, owns (c : Thread nD τ) ((cfg1.win 0).stage (cfg1.slots t 0)) fullShare ((dat1 V c).before 0 t d)) ∗ (∃ d, owns (c : Thread nD τ) ((cfg1.win 1).stage (cfg1.slots t 1)) fullShare ((dat1 V c).before 1 t d)) ∗ (∃ d, owns (c : Thread nD τ) ((cfg1.win 2).stage (cfg1.slots t 2)) fullShare ((dat1 V c).before 2 t d)) ∗ (∃ d, owns (c : Thread nD τ) ((cfg1.win 3).stage (cfg1.slots t 3)) fullShare ((dat1 V c).before 3 t d)) ∗ (∃ d, owns (c : Thread nD τ) ((cfg1.win 4).stage (cfg1.slots t 4)) fullShare ((dat1 V c).before 4 t d)) ∗ (∃ d, owns (c : Thread nD τ) ((cfg1.win 5).stage (cfg1.slots t 5)) fullShare ((dat1 V c).before 5 t d)) ∗ (∃ d, owns (c : Thread nD τ) ((cfg1.win 6).stage (cfg1.slots t 6)) fullShare ((dat1 V c).before 6 t d)) ∗ (∃ d, owns (c : Thread nD τ) ((cfg1.win 7).stage (cfg1.slots t 7)) fullShare ((dat1 V c).before 7 t d)))
/-- and what it hands back. -/
def bodyPost1 (c : Dev nD) (t : Fin cfg1.N) : sProp 𝕄 :=
  iprop((dat1 V c).Φ t.succ ∗ (dat1 V c).owesAt () t.succ ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t)

set_option maxHeartbeats 1000000 in
/-- The body at every point: the case's run, the scratch taken from and handed back to the invariant. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ, PhiS1_castSucc]
  have hN : t.val < 36 := lt_of_lt_of_eq t.isLt (show cfg1.N = 36 from N_1)
  by_cases h0 : t.val % 36 = 0
  · have h1 : ¬ t.val % 36 = 35 := by omega
    have hc0 := (hcond1_0 t).mpr h0
    have hc1 : ¬ cond1_1 (grid1.coords t) := fun h => h1 ((hcond1_1 t).mp h)
    rw [show (dat1 V c).leavesExact 0 t = owns (c : Thread nD τ) ((cfg1.win 0).stage (cfg1.slots t 0)) fullShare ((dat1 V c).after 0 t) from rfl, after1_0]
    rw [show (dat1 V c).leavesExact 1 t = owns (c : Thread nD τ) ((cfg1.win 1).stage (cfg1.slots t 1)) fullShare ((dat1 V c).after 1 t) from rfl, after1_1]
    rw [show (dat1 V c).leavesExact 2 t = owns (c : Thread nD τ) ((cfg1.win 2).stage (cfg1.slots t 2)) fullShare ((dat1 V c).after 2 t) from rfl, after1_2]
    rw [show (dat1 V c).leavesExact 3 t = owns (c : Thread nD τ) ((cfg1.win 3).stage (cfg1.slots t 3)) fullShare ((dat1 V c).after 3 t) from rfl, after1_3]
    rw [show (dat1 V c).leavesExact 4 t = owns (c : Thread nD τ) ((cfg1.win 4).stage (cfg1.slots t 4)) fullShare ((dat1 V c).after 4 t) from rfl, after1_4]
    rw [show (dat1 V c).leavesExact 5 t = owns (c : Thread nD τ) ((cfg1.win 5).stage (cfg1.slots t 5)) fullShare ((dat1 V c).after 5 t) from rfl, after1_5]
    rw [(dat1 V c).leavesExact_idle 6 t ((idle1_6_iff t).mpr hc1) (Bool.eq_false_iff.mpr fun h => h1 ((flush1_6 t).mp h))]
    rw [show (dat1 V c).leavesExact 7 t = owns (c : Thread nD τ) ((cfg1.win 7).stage (cfg1.slots t 7)) fullShare ((dat1 V c).after 7 t) from by
      unfold Dat.leavesExact; rw [Bool.eq_false_iff.mpr fun h => (idle1_7_iff t).mp h hc0], after1_7]
    rw [PhiS1_zero V c _ _ (by omega), scopedRest1_split]
    obtain rfl : t = first1 := Fin.ext (by simp only; omega)
    iintro ⟨⟨⟨⟨%fs1, HS1⟩, ⟨%fs0, HS0⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_A c (grid1.coords first1) _ _ _ _ _ _ _ _ _ _ _ _ _ _ _ _ _ _ _ _ hc0 hc1 (blk1_0 V c first1) (blk1_1 V c first1) (blk1_2 V c first1) (blk1_3 V c first1) _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexists _; iexact H7
    isplitl [HS0]; · iexists fs0; rw [owns_whole]; iexact HS0
    isplitl [HS1]; · iexists fs1; rw [owns_whole]; iexact HS1
    iintro ⟨H0, H1, H2, H3, H4, H5, H6, H7, HS0, HS1⟩
    isplitl [HS1 HS0 Hg]
    · isplitl [HS1 HS0]
      · isplitl [HS1]; · iexact HS1
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    iexact H7
  · have hc0 : ¬ cond1_0 (grid1.coords t) := fun h => h0 ((hcond1_0 t).mp h)
    by_cases h1 : t.val % 36 = 35
    · have hc1 := (hcond1_1 t).mpr h1
      obtain rfl : t = last1 := Fin.ext (by simp only; omega)
      rw [show (dat1 V c).leavesExact 0 last1 = owns (c : Thread nD τ) ((cfg1.win 0).stage (cfg1.slots last1 0)) fullShare ((dat1 V c).after 0 last1) from rfl, after1_0]
      rw [show (dat1 V c).leavesExact 1 last1 = owns (c : Thread nD τ) ((cfg1.win 1).stage (cfg1.slots last1 1)) fullShare ((dat1 V c).after 1 last1) from rfl, after1_1]
      rw [show (dat1 V c).leavesExact 2 last1 = owns (c : Thread nD τ) ((cfg1.win 2).stage (cfg1.slots last1 2)) fullShare ((dat1 V c).after 2 last1) from rfl, after1_2]
      rw [show (dat1 V c).leavesExact 3 last1 = owns (c : Thread nD τ) ((cfg1.win 3).stage (cfg1.slots last1 3)) fullShare ((dat1 V c).after 3 last1) from rfl, after1_3]
      rw [show (dat1 V c).leavesExact 4 last1 = owns (c : Thread nD τ) ((cfg1.win 4).stage (cfg1.slots last1 4)) fullShare ((dat1 V c).after 4 last1) from rfl, after1_4]
      rw [show (dat1 V c).leavesExact 5 last1 = owns (c : Thread nD τ) ((cfg1.win 5).stage (cfg1.slots last1 5)) fullShare ((dat1 V c).after 5 last1) from rfl, after1_5]
      rw [show (dat1 V c).leavesExact 6 last1 = owns (c : Thread nD τ) ((cfg1.win 6).stage (cfg1.slots last1 6)) fullShare ((dat1 V c).after 6 last1) from by
        unfold Dat.leavesExact; rw [Bool.eq_false_iff.mpr fun h => (idle1_6_iff last1).mp h hc1], after1_6]
      rw [show (dat1 V c).leavesExact 7 last1 = owns (c : Thread nD τ) ((cfg1.win 7).stage (cfg1.slots last1 7)) fullShare ((dat1 V c).after 7 last1) from by
        unfold Dat.leavesExact; rw [(idle1_7_iff last1).mpr hc0, (flush1_7 last1).mpr h1], after1_7]
      rw [show PhiS1 V c (last1 : Fin cfg1.N).val _ = PhiS1 V c (34 + 1) (by decide) from rfl, PhiS1_pos V c 34 _ (by decide)]
      simp only [before1_7 V c last1 (by decide)]
      iintro ⟨⟨⟨HS1, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_C c (grid1.coords last1) _ _ _ _ _ _ _ _ _ _ _ _ _ _ _ _ _ _ _ _ hc0 hc1 (blk1_0 V c last1) (blk1_1 V c last1) (blk1_2 V c last1) (blk1_3 V c last1) _ (am1 V c 34 (by decide)) (sI1 V c) (sP1 V c) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexact H7
      isplitl [HS0]; · iexact HS0
      isplitl [HS1]; · iexact HS1
      iintro ⟨H0, H1, H2, H3, H4, H5, H6, H7, HS0, HS1⟩
      isplitl [HS1 HS0 Hg]
      · isplitl [HS1 HS0]
        · isplitl [HS1]; · iexact HS1
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬ cond1_1 (grid1.coords t) := fun h => h1 ((hcond1_1 t).mp h)
      rw [show (dat1 V c).leavesExact 0 t = owns (c : Thread nD τ) ((cfg1.win 0).stage (cfg1.slots t 0)) fullShare ((dat1 V c).after 0 t) from rfl, after1_0]
      rw [show (dat1 V c).leavesExact 1 t = owns (c : Thread nD τ) ((cfg1.win 1).stage (cfg1.slots t 1)) fullShare ((dat1 V c).after 1 t) from rfl, after1_1]
      rw [show (dat1 V c).leavesExact 2 t = owns (c : Thread nD τ) ((cfg1.win 2).stage (cfg1.slots t 2)) fullShare ((dat1 V c).after 2 t) from rfl, after1_2]
      rw [show (dat1 V c).leavesExact 3 t = owns (c : Thread nD τ) ((cfg1.win 3).stage (cfg1.slots t 3)) fullShare ((dat1 V c).after 3 t) from rfl, after1_3]
      rw [show (dat1 V c).leavesExact 4 t = owns (c : Thread nD τ) ((cfg1.win 4).stage (cfg1.slots t 4)) fullShare ((dat1 V c).after 4 t) from rfl, after1_4]
      rw [show (dat1 V c).leavesExact 5 t = owns (c : Thread nD τ) ((cfg1.win 5).stage (cfg1.slots t 5)) fullShare ((dat1 V c).after 5 t) from rfl, after1_5]
      rw [(dat1 V c).leavesExact_idle 6 t ((idle1_6_iff t).mpr hc1) (Bool.eq_false_iff.mpr fun h => h1 ((flush1_6 t).mp h))]
      rw [(dat1 V c).leavesExact_idle 7 t ((idle1_7_iff t).mpr hc0) (Bool.eq_false_iff.mpr fun h => h1 ((flush1_7 t).mp h))]
      obtain ⟨n, hn⟩ : ∃ n, t.val = n + 1 := ⟨t.val - 1, by omega⟩
      obtain ⟨tv, ht⟩ := t
      simp only at hn; subst hn
      rw [PhiS1_pos V c n _ (by omega)]
      simp only [before1_7 V c ⟨n + 1, ht⟩ (Nat.succ_ne_zero n)]
      iintro ⟨⟨⟨HS1, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_B c (grid1.coords ⟨n + 1, ht⟩) _ _ _ _ _ _ _ _ _ _ _ _ _ _ _ _ _ _ _ _ hc0 hc1 (blk1_0 V c ⟨n + 1, ht⟩) (blk1_1 V c ⟨n + 1, ht⟩) (blk1_2 V c ⟨n + 1, ht⟩) (blk1_3 V c ⟨n + 1, ht⟩) _ _ (am1 V c n (by omega)) (sI1 V c) (sP1 V c) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS1 HS0 Hg]
      · isplitl [HS1 HS0]
        · isplitl [HS1]; · iexact HS1
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7

theorem defs₀_row1 (t : Fin cfg1.N) : defs₀ (F := F) .tc cfg1.body (cfg1.bodyArgs t (cfg1.slots t)) = bodyAt1 t := by
  unfold defs₀; rw [Defs.onTc_tc]
/-- The body obligation of region 1. -/
theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl
/-- The invariant at the start, from the scoped buffers, -/
theorem hin1 (c : Dev nD) : iprop(Pipeline.scopedRest spec1 c ∗ BI.emp) ⊢ (dat1 V c).Φ 0 := by
  rw [show (dat1 V c).Φ 0 = PhiS1 V c 0 (Nat.zero_le _) from rfl, PhiS1_zero V c _ _ rfl]
  iintro ⟨H, -⟩; iexact H
/-- and the scoped buffers back at the end. -/
theorem hout1 (c : Dev nD) : (dat1 V c).Φ (Fin.last cfg1.N) ⊢ iprop(Pipeline.scopedRest spec1 c ∗ BI.emp) := by
  rw [show (dat1 V c).Φ (Fin.last cfg1.N) = PhiS1 V c (35 + 1) (by decide) from rfl, PhiS1_pos V c 35 _ (by decide), scopedRest1_split]
  simp only [owns_whole]
  iintro ⟨⟨HS1, HS0⟩, Hg⟩
  isplitl [HS1 HS0 Hg]
  · isplitl [HS1 HS0]
    · isplitl [HS1]; · iexists (am1 V c 35 (by decide)); iexact HS1
      iexists (pair (sI1 V c) (sP1 V c)); iexact HS0
    iexact Hg
  iempintro

end Cert.Kernel.Own

end
-- ==== Proof.K.Run2.lean ====
/- The body of the backward matmul for dx (`bwd_dx`), run once per case of its two conditions, with the values every buffer holds afterwards named. Stated at any float family. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp
public import proofs.«01_k».proof.Proof.K.Base

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The activation's scale, from its amax history: a power of two, as a one-element vector. -/
def scale2 (h : Vec F S1x16 .f32) : FVec F S1x1 .f32 := k2_pay9 (k2_pay3 h) (k2_pay5 h) (k2_pay6 h) k2_pay7
/-- The scale's inverse, a scalar. -/
def inv2 (h : Vec F S1x16 .f32) : F .f32 :=
  k2_pay19 (k2_pay14 (k2_pay10 (k2_pay3 h) (k2_pay5 h) (k2_pay6 h) k2_pay7) (k2_pay11 (k2_pay3 h) (k2_pay5 h) (k2_pay6 h) k2_pay7) (k2_pay12 (k2_pay3 h) (k2_pay5 h) (k2_pay6 h) k2_pay7) 255#32 k2_pay13)
/-- The product of the activation's scale and the weight's. -/
def prod2 (h : Vec F S1x16 .f32) (hw : Vec F S1x16 .f32) : F .f32 :=
  k2_pay20 (scale2 h) (k2_pay15 hw) (k2_pay16 hw) (k2_pay17 hw) (k2_pay18 hw)

/-- The first point's condition. -/
abbrev cond2_0 (i : grid2.Coords) : Prop := k2_cond1 i = 1#1
/-- The last point's condition. -/
abbrev cond2_1 (i : grid2.Coords) : Prop := k2_cond2 i = 1#1

set_option maxHeartbeats 2000000 in
/-- The first point: the scale, its inverse and the product of the scales are computed from the histories, the amax starts at zero and takes the block in, the block is quantised, multiplied and scaled; the new history is left alone. -/
theorem run2_A (c : Dev nD) (i : grid2.Coords) (arg1 : Memref sig .tc .vmem S1x16 .f32) (harg1 : arg1.IsWhole) (arg2 : Memref sig .tc .vmem S1x16 .f32) (harg2 : arg2.IsWhole) (arg3 : Memref sig .tc .vmem S512x3456 .bf16) (harg3 : arg3.IsWhole) (arg4 : Memref sig .tc .vmem S5120x3456 .fp8e4m3) (harg4 : arg4.IsWhole) (arg5 : Memref sig .tc .vmem S1x512x5120 .bf16) (harg5 : arg5.IsWhole) (arg6 : Memref sig .tc .vmem S512x3456 .fp8e5m2) (harg6 : arg6.IsWhole) (arg7 : Memref sig .tc .vmem S1x16 .f32) (harg7 : arg7.IsWhole) (arg8 : Memref sig .tc .vmem S1x1 .f32) (harg8 : arg8.IsWhole) (arg9 : Memref sig .tc .smem S2 .f32) (harg9 : arg9.IsWhole) (arg10 : Memref sig .tc .vmem S8x128 .f32) (harg10 : arg10.IsWhole) (hc0 : cond2_0 i) (hc1 : ¬cond2_1 i)
    (x0 : Vec F S1x16 .f32) (x1 : Vec F S1x16 .f32) (x2 : Vec F S512x3456 .bf16) (x3 : Vec F S5120x3456 .fp8e4m3) (x6 : Vec F S1x16 .f32)  (E : Set ℕ) (K : PUnit → sProp 𝕄) :
    iprop(owns (c : Thread nD τ) arg1 fullShare (x0 : Vec F S1x16 .f32) ∗ owns (c : Thread nD τ) arg2 fullShare (x1 : Vec F S1x16 .f32) ∗ owns (c : Thread nD τ) arg3 fullShare (x2 : Vec F S512x3456 .bf16) ∗ owns (c : Thread nD τ) arg4 fullShare (x3 : Vec F S5120x3456 .fp8e4m3) ∗ (∃ d, owns (c : Thread nD τ) arg5 fullShare d) ∗ (∃ d, owns (c : Thread nD τ) arg6 fullShare d) ∗ owns (c : Thread nD τ) arg7 fullShare (x6 : Vec F S1x16 .f32) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare (x0 : Vec F S1x16 .f32) ∗ owns (c : Thread nD τ) arg2 fullShare (x1 : Vec F S1x16 .f32) ∗ owns (c : Thread nD τ) arg3 fullShare (x2 : Vec F S512x3456 .bf16) ∗ owns (c : Thread nD τ) arg4 fullShare (x3 : Vec F S5120x3456 .fp8e4m3) ∗ owns (c : Thread nD τ) arg5 fullShare (k2_pay1 (k2_pay25 x2 (inv2 x0) x3 (prod2 x0 x1)) : Vec F S1x512x5120 .bf16) ∗ owns (c : Thread nD τ) arg6 fullShare (k2_pay24 x2 (inv2 x0) : Vec F S512x3456 .fp8e5m2) ∗ owns (c : Thread nD τ) arg7 fullShare (x6 : Vec F S1x16 .f32) ∗ owns (c : Thread nD τ) arg8 fullShare (scale2 x0 : Vec F S1x1 .f32) ∗ owns (c : Thread nD τ) arg9 fullShare (pair (inv2 x0) (prod2 x0 x1) : Vec F S2 .f32) ∗ owns (c : Thread nD τ) arg10 fullShare (k2_pay23 x2 k2_pay21 : Vec F S8x128 .f32)) -∗ K ⟨⟩))
      ⊢ wp frame (wpE (defs₀ (F := F)) Variants.none c none) E (cc2_bwd_dx i arg1 harg1 arg2 harg2 arg3 harg3 arg4 harg4 arg5 harg5 arg6 harg6 arg7 harg7 arg8 harg8 arg9 harg9 arg10 harg10) K := by
  simp only [cc2_bwd_dx_eq_skeleton]; unfold cc2_bwd_dx_skel
  simp only [k2_part5_eq_skeleton, k2_part1_eq_skeleton, k2_part2_eq_skeleton, k2_part3_eq_skeleton, k2_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine (View.read_writes_full _ _ _ _ _).trans ?_
    sl_unfold_words
    try simp only [View.readAt_eq_ld, harg1.read_unread, harg2.read_unread, harg3.read_unread, harg4.read_unread, harg7.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
    first | done | rfl
  isplitl [H5]
  · iexists _; isplitr; swap; · iexact H5
    ipureintro
    refine (View.read_writes_full _ _ _ _ _).trans ?_
    sl_unfold_words
    try simp only [View.readAt_eq_ld, harg1.read_unread, harg2.read_unread, harg3.read_unread, harg4.read_unread, harg7.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
    first | done | rfl
  isplitl [H6]
  · iexists _; isplitr; · ipureintro; exact harg7.read_unread _
    iexact H6
  isplitl [H7]
  · iexists _; isplitr; swap; · iexact H7
    ipureintro
    refine (View.read_writes_full _ _ _ _ _).trans ?_
    sl_unfold_words
    try simp only [View.readAt_eq_ld, harg1.read_unread, harg2.read_unread, harg3.read_unread, harg4.read_unread, harg7.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
    first | done | rfl
  isplitl [H8]
  · iexists _; isplitr; swap; · iexact H8
    ipureintro
    refine (smem2_read _ _ _ _).trans ?_
    sl_unfold_words
    try simp only [View.readAt_eq_ld, harg1.read_unread, harg2.read_unread, harg3.read_unread, harg4.read_unread, harg7.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
    first | done | rfl
  iexists _; isplitr; swap; · iexact H9
  ipureintro
  refine (View.read_writes_full _ _ _ _ _).trans ?_
  sl_unfold_words
  try simp only [View.readAt_eq_ld, harg1.read_unread, harg2.read_unread, harg3.read_unread, harg4.read_unread, harg7.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
  first | done | rfl

set_option maxHeartbeats 2000000 in
/-- A point between: the amax takes the block in, and the block is quantised, multiplied and scaled with the two scalars held in scalar memory. -/
theorem run2_B (c : Dev nD) (i : grid2.Coords) (arg1 : Memref sig .tc .vmem S1x16 .f32) (harg1 : arg1.IsWhole) (arg2 : Memref sig .tc .vmem S1x16 .f32) (harg2 : arg2.IsWhole) (arg3 : Memref sig .tc .vmem S512x3456 .bf16) (harg3 : arg3.IsWhole) (arg4 : Memref sig .tc .vmem S5120x3456 .fp8e4m3) (harg4 : arg4.IsWhole) (arg5 : Memref sig .tc .vmem S1x512x5120 .bf16) (harg5 : arg5.IsWhole) (arg6 : Memref sig .tc .vmem S512x3456 .fp8e5m2) (harg6 : arg6.IsWhole) (arg7 : Memref sig .tc .vmem S1x16 .f32) (harg7 : arg7.IsWhole) (arg8 : Memref sig .tc .vmem S1x1 .f32) (harg8 : arg8.IsWhole) (arg9 : Memref sig .tc .smem S2 .f32) (harg9 : arg9.IsWhole) (arg10 : Memref sig .tc .vmem S8x128 .f32) (harg10 : arg10.IsWhole) (hc0 : ¬cond2_0 i) (hc1 : ¬cond2_1 i)
    (x0 : Vec F S1x16 .f32) (x1 : Vec F S1x16 .f32) (x2 : Vec F S512x3456 .bf16) (x3 : Vec F S5120x3456 .fp8e4m3) (x6 : Vec F S1x16 .f32) (x7 : Vec F S1x1 .f32) (x9 : Vec F S8x128 .f32) (s0 s1 : Elt F .f32) (E : Set ℕ) (K : PUnit → sProp 𝕄) :
    iprop(owns (c : Thread nD τ) arg1 fullShare (x0 : Vec F S1x16 .f32) ∗ owns (c : Thread nD τ) arg2 fullShare (x1 : Vec F S1x16 .f32) ∗ owns (c : Thread nD τ) arg3 fullShare (x2 : Vec F S512x3456 .bf16) ∗ owns (c : Thread nD τ) arg4 fullShare (x3 : Vec F S5120x3456 .fp8e4m3) ∗ (∃ d, owns (c : Thread nD τ) arg5 fullShare d) ∗ (∃ d, owns (c : Thread nD τ) arg6 fullShare d) ∗ owns (c : Thread nD τ) arg7 fullShare (x6 : Vec F S1x16 .f32) ∗ owns (c : Thread nD τ) arg8 fullShare (x7 : Vec F S1x1 .f32) ∗ owns (c : Thread nD τ) arg9 fullShare (pair s0 s1 : Vec F S2 .f32) ∗ owns (c : Thread nD τ) arg10 fullShare (x9 : Vec F S8x128 .f32)
        ∗ (iprop(owns (c : Thread nD τ) arg1 fullShare (x0 : Vec F S1x16 .f32) ∗ owns (c : Thread nD τ) arg2 fullShare (x1 : Vec F S1x16 .f32) ∗ owns (c : Thread nD τ) arg3 fullShare (x2 : Vec F S512x3456 .bf16) ∗ owns (c : Thread nD τ) arg4 fullShare (x3 : Vec F S5120x3456 .fp8e4m3) ∗ owns (c : Thread nD τ) arg5 fullShare (k2_pay1 (k2_pay25 x2 s0 x3 s1) : Vec F S1x512x5120 .bf16) ∗ owns (c : Thread nD τ) arg6 fullShare (k2_pay24 x2 s0 : Vec F S512x3456 .fp8e5m2) ∗ owns (c : Thread nD τ) arg7 fullShare (x6 : Vec F S1x16 .f32) ∗ owns (c : Thread nD τ) arg8 fullShare (x7 : Vec F S1x1 .f32) ∗ owns (c : Thread nD τ) arg9 fullShare (pair s0 s1 : Vec F S2 .f32) ∗ owns (c : Thread nD τ) arg10 fullShare (k2_pay23 x2 x9 : Vec F S8x128 .f32)) -∗ K ⟨⟩))
      ⊢ wp frame (wpE (defs₀ (F := F)) Variants.none c none) E (cc2_bwd_dx i arg1 harg1 arg2 harg2 arg3 harg3 arg4 harg4 arg5 harg5 arg6 harg6 arg7 harg7 arg8 harg8 arg9 harg9 arg10 harg10) K := by
  simp only [cc2_bwd_dx_eq_skeleton]; unfold cc2_bwd_dx_skel
  simp only [k2_part5_eq_skeleton, k2_part1_eq_skeleton, k2_part2_eq_skeleton, k2_part3_eq_skeleton, k2_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg7.eq_unread hf6; obtain rfl := harg8.eq_unread hf7; obtain rfl := harg9.eq_unread hf8; obtain rfl := harg10.eq_unread hf9
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine (View.read_writes_full _ _ _ _ _).trans ?_
    sl_unfold_words
    try simp only [View.readAt_eq_ld, harg1.read_unread, harg2.read_unread, harg3.read_unread, harg4.read_unread, harg7.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
    first | done | rfl
  isplitl [H5]
  · iexists _; isplitr; swap; · iexact H5
    ipureintro
    refine (View.read_writes_full _ _ _ _ _).trans ?_
    sl_unfold_words
    try simp only [View.readAt_eq_ld, harg1.read_unread, harg2.read_unread, harg3.read_unread, harg4.read_unread, harg7.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
    first | done | rfl
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  iexists _; isplitr; swap; · iexact H9
  ipureintro
  refine (View.read_writes_full _ _ _ _ _).trans ?_
  sl_unfold_words
  try simp only [View.readAt_eq_ld, harg1.read_unread, harg2.read_unread, harg3.read_unread, harg4.read_unread, harg7.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
  first | done | rfl

set_option maxHeartbeats 2000000 in
/-- The last point: as between, and the new history is the old one shifted with the amax appended. -/
theorem run2_C (c : Dev nD) (i : grid2.Coords) (arg1 : Memref sig .tc .vmem S1x16 .f32) (harg1 : arg1.IsWhole) (arg2 : Memref sig .tc .vmem S1x16 .f32) (harg2 : arg2.IsWhole) (arg3 : Memref sig .tc .vmem S512x3456 .bf16) (harg3 : arg3.IsWhole) (arg4 : Memref sig .tc .vmem S5120x3456 .fp8e4m3) (harg4 : arg4.IsWhole) (arg5 : Memref sig .tc .vmem S1x512x5120 .bf16) (harg5 : arg5.IsWhole) (arg6 : Memref sig .tc .vmem S512x3456 .fp8e5m2) (harg6 : arg6.IsWhole) (arg7 : Memref sig .tc .vmem S1x16 .f32) (harg7 : arg7.IsWhole) (arg8 : Memref sig .tc .vmem S1x1 .f32) (harg8 : arg8.IsWhole) (arg9 : Memref sig .tc .smem S2 .f32) (harg9 : arg9.IsWhole) (arg10 : Memref sig .tc .vmem S8x128 .f32) (harg10 : arg10.IsWhole) (hc0 : ¬cond2_0 i) (hc1 : cond2_1 i)
    (x0 : Vec F S1x16 .f32) (x1 : Vec F S1x16 .f32) (x2 : Vec F S512x3456 .bf16) (x3 : Vec F S5120x3456 .fp8e4m3) (x7 : Vec F S1x1 .f32) (x9 : Vec F S8x128 .f32) (s0 s1 : Elt F .f32) (E : Set ℕ) (K : PUnit → sProp 𝕄) :
    iprop(owns (c : Thread nD τ) arg1 fullShare (x0 : Vec F S1x16 .f32) ∗ owns (c : Thread nD τ) arg2 fullShare (x1 : Vec F S1x16 .f32) ∗ owns (c : Thread nD τ) arg3 fullShare (x2 : Vec F S512x3456 .bf16) ∗ owns (c : Thread nD τ) arg4 fullShare (x3 : Vec F S5120x3456 .fp8e4m3) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare (x7 : Vec F S1x1 .f32) ∗ owns (c : Thread nD τ) arg9 fullShare (pair s0 s1 : Vec F S2 .f32) ∗ owns (c : Thread nD τ) arg10 fullShare (x9 : Vec F S8x128 .f32)
        ∗ (iprop(owns (c : Thread nD τ) arg1 fullShare (x0 : Vec F S1x16 .f32) ∗ owns (c : Thread nD τ) arg2 fullShare (x1 : Vec F S1x16 .f32) ∗ owns (c : Thread nD τ) arg3 fullShare (x2 : Vec F S512x3456 .bf16) ∗ owns (c : Thread nD τ) arg4 fullShare (x3 : Vec F S5120x3456 .fp8e4m3) ∗ owns (c : Thread nD τ) arg5 fullShare (k2_pay1 (k2_pay25 x2 s0 x3 s1) : Vec F S1x512x5120 .bf16) ∗ owns (c : Thread nD τ) arg6 fullShare (k2_pay24 x2 s0 : Vec F S512x3456 .fp8e5m2) ∗ owns (c : Thread nD τ) arg7 fullShare (k2_pay2 x0 (k2_pay23 x2 x9) : Vec F S1x16 .f32) ∗ owns (c : Thread nD τ) arg8 fullShare (x7 : Vec F S1x1 .f32) ∗ owns (c : Thread nD τ) arg9 fullShare (pair s0 s1 : Vec F S2 .f32) ∗ owns (c : Thread nD τ) arg10 fullShare (k2_pay23 x2 x9 : Vec F S8x128 .f32)) -∗ K ⟨⟩))
      ⊢ wp frame (wpE (defs₀ (F := F)) Variants.none c none) E (cc2_bwd_dx i arg1 harg1 arg2 harg2 arg3 harg3 arg4 harg4 arg5 harg5 arg6 harg6 arg7 harg7 arg8 harg8 arg9 harg9 arg10 harg10) K := by
  simp only [cc2_bwd_dx_eq_skeleton]; unfold cc2_bwd_dx_skel
  simp only [k2_part5_eq_skeleton, k2_part1_eq_skeleton, k2_part2_eq_skeleton, k2_part3_eq_skeleton, k2_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg8.eq_unread hf7; obtain rfl := harg9.eq_unread hf8; obtain rfl := harg10.eq_unread hf9
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine (View.read_writes_full _ _ _ _ _).trans ?_
    sl_unfold_words
    try simp only [View.readAt_eq_ld, harg1.read_unread, harg2.read_unread, harg3.read_unread, harg4.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
    first | done | rfl
  isplitl [H5]
  · iexists _; isplitr; swap; · iexact H5
    ipureintro
    refine (View.read_writes_full _ _ _ _ _).trans ?_
    sl_unfold_words
    try simp only [View.readAt_eq_ld, harg1.read_unread, harg2.read_unread, harg3.read_unread, harg4.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
    first | done | rfl
  isplitl [H6]
  · iexists _; isplitr; swap; · iexact H6
    ipureintro
    refine (View.read_writes_full _ _ _ _ _).trans ?_
    sl_unfold_words
    try simp only [View.readAt_eq_ld, harg1.read_unread, harg2.read_unread, harg3.read_unread, harg4.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
    first | done | rfl
  isplitl [H7]
  · iexists _; isplitr; · ipureintro; exact harg8.read_unread _
    iexact H7
  isplitl [H8]
  · iexists _; isplitr; · ipureintro; exact harg9.read_unread _
    iexact H8
  iexists _; isplitr; swap; · iexact H9
  ipureintro
  refine (View.read_writes_full _ _ _ _ _).trans ?_
  sl_unfold_words
  try simp only [View.readAt_eq_ld, harg1.read_unread, harg2.read_unread, harg3.read_unread, harg4.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
  first | done | rfl

end Cert.Kernel.Own

end
-- ==== Proof.K.Dat2.lean ====
/- Region 2 of the program: the proof data over any entry contents of the buffers, and the body obligation. Stated at any float family. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp
public import Idealize.ShloMosaic.Lib.Pipeline.TableIdle
public import proofs.«01_k».proof.Proof.K.Run2

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- The first and the last grid point of region 2. -/
abbrev first2 : Fin cfg2.N := ⟨0, by decide⟩
abbrev last2 : Fin cfg2.N := ⟨35, by decide⟩

/-- An input window's block at a point, of the arrays at the entry contents. -/
abbrev iblk2 (c : Dev nD) (w : Fin cfg2.W) (t : Fin cfg2.N) := ((cfg2.win w).blk t).view.read (Elt F) (V c (Proc.devRef .tc (Pipeline.arrRef spec2 w)))
abbrev blk2_0 (c : Dev nD) (t : Fin cfg2.N) : Vec F S1x16 .f32 := iblk2 V c 0 t
abbrev blk2_1 (c : Dev nD) (t : Fin cfg2.N) : Vec F S1x16 .f32 := iblk2 V c 1 t
abbrev blk2_2 (c : Dev nD) (t : Fin cfg2.N) : Vec F S512x3456 .bf16 := iblk2 V c 2 t
abbrev blk2_3 (c : Dev nD) (t : Fin cfg2.N) : Vec F S5120x3456 .fp8e4m3 := iblk2 V c 3 t

/-- The inverse scale and the product of the scales, held in scalar memory. -/
def sI2 (c : Dev nD) : Elt F .f32 := inv2 (blk2_0 V c first2)
def sP2 (c : Dev nD) : Elt F .f32 := prod2 (blk2_0 V c first2) (blk2_1 V c first2)
/-- The scratch amax after a point: the maximum folded over the blocks so far. -/
def am2 (c : Dev nD) : (n : ℕ) → n < cfg2.N → Vec F S8x128 .f32
  | 0, h => k2_pay23 (blk2_2 V c ⟨0, h⟩) k2_pay21
  | n + 1, h => k2_pay23 (blk2_2 V c ⟨n + 1, h⟩) (am2 c n (Nat.lt_of_succ_lt h))
/-- What each output's buffer holds after a point. -/
def out2_4 (c : Dev nD) (t : Fin cfg2.N) : Vec F S1x512x5120 .bf16 := k2_pay1 (k2_pay25 (blk2_2 V c t) (sI2 V c) (blk2_3 V c t) (sP2 V c))
def out2_5 (c : Dev nD) (t : Fin cfg2.N) : Vec F S512x3456 .fp8e5m2 := k2_pay24 (blk2_2 V c t) (sI2 V c)
def out2_6 (c : Dev nD) : Vec F S1x16 .f32 := k2_pay2 (blk2_0 V c last2) (am2 V c last2.val last2.isLt)
def out2_7 (c : Dev nD) : Vec F S1x1 .f32 := scale2 (blk2_0 V c first2)

/-- The invariant: before the first point every scoped buffer at anything, then the scratch at what the points so far left. -/
def PhiS2 (c : Dev nD) : (n : ℕ) → n ≤ cfg2.N → sProp 𝕄
  | 0, _ => Pipeline.scopedRest (Ix := Unit) (Name := ℕ) (U := UR sig nD τ) (Lvl := ℕ) (Val := Elt F) spec2 c
  | n + 1, h => iprop(iprop(owns (c : Thread nD τ) (Memref.whole cc2_scratch1) fullShare (am2 V c n h) ∗ owns (c : Thread nD τ) (Memref.whole cc2_scratch0) fullShare (pair (sI2 V c) (sP2 V c))) ∗ Pipeline.scopedRestBut (Ix := Unit) (Name := ℕ) (U := UR sig nD τ) (Lvl := ℕ) (Val := Elt F) spec2 c [cc2_scratch1, cc2_scratch0])
theorem PhiS2_zero (c : Dev nD) (n : ℕ) (h : n ≤ cfg2.N) (hz : n = 0) : PhiS2 V c n h = Pipeline.scopedRest (Ix := Unit) (Name := ℕ) (U := UR sig nD τ) (Lvl := ℕ) (Val := Elt F) spec2 c := by
  subst hz; rfl
theorem PhiS2_succ (c : Dev nD) (n : ℕ) (h : n < cfg2.N) : PhiS2 V c (n + 1) h = iprop(iprop(owns (c : Thread nD τ) (Memref.whole cc2_scratch1) fullShare (am2 V c n h) ∗ owns (c : Thread nD τ) (Memref.whole cc2_scratch0) fullShare (pair (sI2 V c) (sP2 V c))) ∗ Pipeline.scopedRestBut (Ix := Unit) (Name := ℕ) (U := UR sig nD τ) (Lvl := ℕ) (Val := Elt F) spec2 c [cc2_scratch1, cc2_scratch0]) := rfl
theorem PhiS2_pos (c : Dev nD) (n : ℕ) (h' : n + 1 ≤ cfg2.N) (h : n < cfg2.N) : PhiS2 V c (n + 1) h' = iprop(iprop(owns (c : Thread nD τ) (Memref.whole cc2_scratch1) fullShare (am2 V c n h) ∗ owns (c : Thread nD τ) (Memref.whole cc2_scratch0) fullShare (pair (sI2 V c) (sP2 V c))) ∗ Pipeline.scopedRestBut (Ix := Unit) (Name := ℕ) (U := UR sig nD τ) (Lvl := ℕ) (Val := Elt F) spec2 c [cc2_scratch1, cc2_scratch0]) := rfl

/-- The region's proof data at entry contents `V`. -/
def dat2 (c : Dev nD) : Dat τ (Elt F) Unit ℕ (UR sig nD τ) ℕ cfg2 c where
  A w := V c (Proc.devRef .tc (Pipeline.arrRef spec2 w))
  after w t := match w with
    | ⟨0, _⟩ => blk2_0 V c t
    | ⟨1, _⟩ => blk2_1 V c t
    | ⟨2, _⟩ => blk2_2 V c t
    | ⟨3, _⟩ => blk2_3 V c t
    | ⟨4, _⟩ => out2_4 V c t
    | ⟨5, _⟩ => out2_5 V c t
    | ⟨6, _⟩ => out2_6 V c
    | ⟨7, _⟩ => out2_7 V c
  Φ t := PhiS2 V c t.val (Nat.le_of_lt_succ t.isLt)
  q _ := fullShare
  owed _ := 0

theorem dat2_A (c : Dev nD) (w : Fin cfg2.W) : (dat2 V c).A w = V c (Proc.devRef .tc (Pipeline.arrRef spec2 w)) := by dsimp only [dat2]
theorem PhiS2_castSucc (c : Dev nD) (t : Fin cfg2.N) : (dat2 V c).Φ t.castSucc = PhiS2 V c t.val (Nat.le_of_lt t.isLt) := by
  dsimp only [dat2]; exact Pipeline.Dat.Φ_castSucc (PhiS2 V c) t
theorem after2_0 (c : Dev nD) (t : Fin cfg2.N) : (dat2 V c).after 0 t = blk2_0 V c t := by dsimp only [dat2]
theorem after2_1 (c : Dev nD) (t : Fin cfg2.N) : (dat2 V c).after 1 t = blk2_1 V c t := by dsimp only [dat2]
theorem after2_2 (c : Dev nD) (t : Fin cfg2.N) : (dat2 V c).after 2 t = blk2_2 V c t := by dsimp only [dat2]
theorem after2_3 (c : Dev nD) (t : Fin cfg2.N) : (dat2 V c).after 3 t = blk2_3 V c t := by dsimp only [dat2]
theorem after2_4 (c : Dev nD) (t : Fin cfg2.N) : (dat2 V c).after 4 t = out2_4 V c t := by dsimp only [dat2]
theorem after2_5 (c : Dev nD) (t : Fin cfg2.N) : (dat2 V c).after 5 t = out2_5 V c t := by dsimp only [dat2]
theorem after2_6 (c : Dev nD) (t : Fin cfg2.N) : (dat2 V c).after 6 t = out2_6 V c := by dsimp only [dat2]
theorem after2_7 (c : Dev nD) (t : Fin cfg2.N) : (dat2 V c).after 7 t = out2_7 V c := by dsimp only [dat2]
theorem before2_0 (c : Dev nD) (t : Fin cfg2.N) (d) : (dat2 V c).before 0 t d = blk2_0 V c t :=
  ((dat2 V c).before_in_eq_fetched 0 rfl (fun _ => rfl) (fun _ _ _ => rfl) (fun t => by rw [after2_0]; unfold Dat.blockOf; rw [dat2_A]; try rfl) t d).trans (by unfold Dat.fetched Dat.blockOf; rw [dat2_A]; try rfl)
theorem before2_1 (c : Dev nD) (t : Fin cfg2.N) (d) : (dat2 V c).before 1 t d = blk2_1 V c t :=
  ((dat2 V c).before_in_eq_fetched 1 rfl (fun _ => rfl) (fun _ _ _ => rfl) (fun t => by rw [after2_1]; unfold Dat.blockOf; rw [dat2_A]; try rfl) t d).trans (by unfold Dat.fetched Dat.blockOf; rw [dat2_A]; try rfl)
theorem before2_2 (c : Dev nD) (t : Fin cfg2.N) (d) : (dat2 V c).before 2 t d = blk2_2 V c t :=
  ((dat2 V c).before_in_eq_fetched 2 rfl (fun _ => rfl) (fun _ _ _ => rfl) (fun t => by rw [after2_2]; unfold Dat.blockOf; rw [dat2_A]; try rfl) t d).trans (by unfold Dat.fetched Dat.blockOf; rw [dat2_A]; try rfl)
theorem before2_3 (c : Dev nD) (t : Fin cfg2.N) (d) : (dat2 V c).before 3 t d = blk2_3 V c t :=
  ((dat2 V c).before_in_eq_fetched 3 rfl (fun _ => rfl) (fun _ _ _ => rfl) (fun t => by rw [after2_3]; unfold Dat.blockOf; rw [dat2_A]; try rfl) t d).trans (by unfold Dat.fetched Dat.blockOf; rw [dat2_A]; try rfl)

/-- The conditions, as the point's number. -/
theorem hcond2_0 : ∀ t : Fin cfg2.N, cond2_0 (grid2.coords t) ↔ t.val % 36 = 0 :=
  (fun t => by
    have ht : t.val < 36 := Nat.lt_of_lt_of_eq t.isLt N_2
    have e0 : (grid2.coords t 0).val = t.val / 1 % 36 := Pipeline.Grid.coords_val t 0 (by decide) rfl
    simp only [cond2_0, k2_cond1, e0]
    word_cmp : ∀ t : Fin grid2.N, cond2_0 (grid2.coords t) ↔ t.val % 36 = 0)
theorem hcond2_1 : ∀ t : Fin cfg2.N, cond2_1 (grid2.coords t) ↔ t.val % 36 = 35 :=
  (fun t => by
    have ht : t.val < 36 := Nat.lt_of_lt_of_eq t.isLt N_2
    have e0 : (grid2.coords t 0).val = t.val / 1 % 36 := Pipeline.Grid.coords_val t 0 (by decide) rfl
    simp only [cond2_1, k2_cond2, e0]
    word_cmp : ∀ t : Fin grid2.N, cond2_1 (grid2.coords t) ↔ t.val % 36 = 35)
theorem idle2_6_iff (t : Fin cfg2.N) : cfg2.idle 6 (cfg2.grid.coords t) = true ↔ ¬ cond2_1 (grid2.coords t) := by
  show (!(k2_cond2 (grid2.coords t) == 1#1)) = true ↔ _
  simp [cond2_1]
theorem idle2_7_iff (t : Fin cfg2.N) : cfg2.idle 7 (cfg2.grid.coords t) = true ↔ ¬ cond2_0 (grid2.coords t) := by
  show (!(k2_cond1 (grid2.coords t) == 1#1)) = true ↔ _
  simp [cond2_0]
/-- The new history's buffer is at anything until the last point; the scale's is at the scale after the first. -/
theorem fresh2_6 : ∀ t : Fin cfg2.N, cfg2.fresh 6 t.val = true := (by decide +kernel : ∀ t : Fin grid2.N, cfg2.fresh 6 t.val = true)
theorem fresh2_7 : ∀ t : Fin cfg2.N, t.val ≠ 0 → cfg2.fresh 7 t.val = false := (by decide +kernel : ∀ t : Fin grid2.N, t.val ≠ 0 → cfg2.fresh 7 t.val = false)
theorem before2_6 (c : Dev nD) (t : Fin cfg2.N) (d) : (dat2 V c).before 6 t d = d := by
  rw [(dat2 V c).before_out_traj 6 rfl (fun _ _ => rfl) (fun t _ _ _ => by rw [after2_6, after2_6]) t.val t rfl d, fresh2_6, if_pos rfl]
theorem before2_7 (c : Dev nD) (t : Fin cfg2.N) (ht : t.val ≠ 0) (d) : (dat2 V c).before 7 t d = out2_7 V c := by
  rw [(dat2 V c).before_out_traj 7 rfl (fun _ _ => rfl) (fun t _ _ _ => by rw [after2_7, after2_7]) t.val t rfl d, fresh2_7 t ht, if_neg Bool.false_ne_true, after2_7]

/-- What the body is called with at a point, -/
def bodyPre2 (c : Dev nD) (t : Fin cfg2.N) : sProp 𝕄 :=
  iprop((dat2 V c).Φ t.castSucc ∗ (dat2 V c).owesAt () t.castSucc ∗ (∃ d, owns (c : Thread nD τ) ((cfg2.win 0).stage (cfg2.slots t 0)) fullShare ((dat2 V c).before 0 t d)) ∗ (∃ d, owns (c : Thread nD τ) ((cfg2.win 1).stage (cfg2.slots t 1)) fullShare ((dat2 V c).before 1 t d)) ∗ (∃ d, owns (c : Thread nD τ) ((cfg2.win 2).stage (cfg2.slots t 2)) fullShare ((dat2 V c).before 2 t d)) ∗ (∃ d, owns (c : Thread nD τ) ((cfg2.win 3).stage (cfg2.slots t 3)) fullShare ((dat2 V c).before 3 t d)) ∗ (∃ d, owns (c : Thread nD τ) ((cfg2.win 4).stage (cfg2.slots t 4)) fullShare ((dat2 V c).before 4 t d)) ∗ (∃ d, owns (c : Thread nD τ) ((cfg2.win 5).stage (cfg2.slots t 5)) fullShare ((dat2 V c).before 5 t d)) ∗ (∃ d, owns (c : Thread nD τ) ((cfg2.win 6).stage (cfg2.slots t 6)) fullShare ((dat2 V c).before 6 t d)) ∗ (∃ d, owns (c : Thread nD τ) ((cfg2.win 7).stage (cfg2.slots t 7)) fullShare ((dat2 V c).before 7 t d)))
/-- and what it hands back. -/
def bodyPost2 (c : Dev nD) (t : Fin cfg2.N) : sProp 𝕄 :=
  iprop((dat2 V c).Φ t.succ ∗ (dat2 V c).owesAt () t.succ ∗ (dat2 V c).leavesExact 0 t ∗ (dat2 V c).leavesExact 1 t ∗ (dat2 V c).leavesExact 2 t ∗ (dat2 V c).leavesExact 3 t ∗ (dat2 V c).leavesExact 4 t ∗ (dat2 V c).leavesExact 5 t ∗ (dat2 V c).leavesExact 6 t ∗ (dat2 V c).leavesExact 7 t)

set_option maxHeartbeats 1000000 in
/-- The body at every point: the case's run, the scratch taken from and handed back to the invariant. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ, PhiS2_castSucc]
  have hN : t.val < 36 := lt_of_lt_of_eq t.isLt (show cfg2.N = 36 from N_2)
  by_cases h0 : t.val % 36 = 0
  · have h1 : ¬ t.val % 36 = 35 := by omega
    have hc0 := (hcond2_0 t).mpr h0
    have hc1 : ¬ cond2_1 (grid2.coords t) := fun h => h1 ((hcond2_1 t).mp h)
    rw [show (dat2 V c).leavesExact 0 t = owns (c : Thread nD τ) ((cfg2.win 0).stage (cfg2.slots t 0)) fullShare ((dat2 V c).after 0 t) from rfl, after2_0]
    rw [show (dat2 V c).leavesExact 1 t = owns (c : Thread nD τ) ((cfg2.win 1).stage (cfg2.slots t 1)) fullShare ((dat2 V c).after 1 t) from rfl, after2_1]
    rw [show (dat2 V c).leavesExact 2 t = owns (c : Thread nD τ) ((cfg2.win 2).stage (cfg2.slots t 2)) fullShare ((dat2 V c).after 2 t) from rfl, after2_2]
    rw [show (dat2 V c).leavesExact 3 t = owns (c : Thread nD τ) ((cfg2.win 3).stage (cfg2.slots t 3)) fullShare ((dat2 V c).after 3 t) from rfl, after2_3]
    rw [show (dat2 V c).leavesExact 4 t = owns (c : Thread nD τ) ((cfg2.win 4).stage (cfg2.slots t 4)) fullShare ((dat2 V c).after 4 t) from rfl, after2_4]
    rw [show (dat2 V c).leavesExact 5 t = owns (c : Thread nD τ) ((cfg2.win 5).stage (cfg2.slots t 5)) fullShare ((dat2 V c).after 5 t) from rfl, after2_5]
    rw [(dat2 V c).leavesExact_idle 6 t ((idle2_6_iff t).mpr hc1) (Bool.eq_false_iff.mpr fun h => h1 ((flush2_6 t).mp h))]
    rw [show (dat2 V c).leavesExact 7 t = owns (c : Thread nD τ) ((cfg2.win 7).stage (cfg2.slots t 7)) fullShare ((dat2 V c).after 7 t) from by
      unfold Dat.leavesExact; rw [Bool.eq_false_iff.mpr fun h => (idle2_7_iff t).mp h hc0], after2_7]
    rw [PhiS2_zero V c _ _ (by omega), scopedRest2_split]
    obtain rfl : t = first2 := Fin.ext (by simp only; omega)
    iintro ⟨⟨⟨⟨%fs1, HS1⟩, ⟨%fs0, HS0⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run2_A c (grid2.coords first2) _ _ _ _ _ _ _ _ _ _ _ _ _ _ _ _ _ _ _ _ hc0 hc1 (blk2_0 V c first2) (blk2_1 V c first2) (blk2_2 V c first2) (blk2_3 V c first2) _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexists _; iexact H7
    isplitl [HS0]; · iexists fs0; rw [owns_whole]; iexact HS0
    isplitl [HS1]; · iexists fs1; rw [owns_whole]; iexact HS1
    iintro ⟨H0, H1, H2, H3, H4, H5, H6, H7, HS0, HS1⟩
    isplitl [HS1 HS0 Hg]
    · isplitl [HS1 HS0]
      · isplitl [HS1]; · iexact HS1
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    iexact H7
  · have hc0 : ¬ cond2_0 (grid2.coords t) := fun h => h0 ((hcond2_0 t).mp h)
    by_cases h1 : t.val % 36 = 35
    · have hc1 := (hcond2_1 t).mpr h1
      obtain rfl : t = last2 := Fin.ext (by simp only; omega)
      rw [show (dat2 V c).leavesExact 0 last2 = owns (c : Thread nD τ) ((cfg2.win 0).stage (cfg2.slots last2 0)) fullShare ((dat2 V c).after 0 last2) from rfl, after2_0]
      rw [show (dat2 V c).leavesExact 1 last2 = owns (c : Thread nD τ) ((cfg2.win 1).stage (cfg2.slots last2 1)) fullShare ((dat2 V c).after 1 last2) from rfl, after2_1]
      rw [show (dat2 V c).leavesExact 2 last2 = owns (c : Thread nD τ) ((cfg2.win 2).stage (cfg2.slots last2 2)) fullShare ((dat2 V c).after 2 last2) from rfl, after2_2]
      rw [show (dat2 V c).leavesExact 3 last2 = owns (c : Thread nD τ) ((cfg2.win 3).stage (cfg2.slots last2 3)) fullShare ((dat2 V c).after 3 last2) from rfl, after2_3]
      rw [show (dat2 V c).leavesExact 4 last2 = owns (c : Thread nD τ) ((cfg2.win 4).stage (cfg2.slots last2 4)) fullShare ((dat2 V c).after 4 last2) from rfl, after2_4]
      rw [show (dat2 V c).leavesExact 5 last2 = owns (c : Thread nD τ) ((cfg2.win 5).stage (cfg2.slots last2 5)) fullShare ((dat2 V c).after 5 last2) from rfl, after2_5]
      rw [show (dat2 V c).leavesExact 6 last2 = owns (c : Thread nD τ) ((cfg2.win 6).stage (cfg2.slots last2 6)) fullShare ((dat2 V c).after 6 last2) from by
        unfold Dat.leavesExact; rw [Bool.eq_false_iff.mpr fun h => (idle2_6_iff last2).mp h hc1], after2_6]
      rw [show (dat2 V c).leavesExact 7 last2 = owns (c : Thread nD τ) ((cfg2.win 7).stage (cfg2.slots last2 7)) fullShare ((dat2 V c).after 7 last2) from by
        unfold Dat.leavesExact; rw [(idle2_7_iff last2).mpr hc0, (flush2_7 last2).mpr h1], after2_7]
      rw [show PhiS2 V c (last2 : Fin cfg2.N).val _ = PhiS2 V c (34 + 1) (by decide) from rfl, PhiS2_pos V c 34 _ (by decide)]
      simp only [before2_7 V c last2 (by decide)]
      iintro ⟨⟨⟨HS1, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run2_C c (grid2.coords last2) _ _ _ _ _ _ _ _ _ _ _ _ _ _ _ _ _ _ _ _ hc0 hc1 (blk2_0 V c last2) (blk2_1 V c last2) (blk2_2 V c last2) (blk2_3 V c last2) _ (am2 V c 34 (by decide)) (sI2 V c) (sP2 V c) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexact H7
      isplitl [HS0]; · iexact HS0
      isplitl [HS1]; · iexact HS1
      iintro ⟨H0, H1, H2, H3, H4, H5, H6, H7, HS0, HS1⟩
      isplitl [HS1 HS0 Hg]
      · isplitl [HS1 HS0]
        · isplitl [HS1]; · iexact HS1
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬ cond2_1 (grid2.coords t) := fun h => h1 ((hcond2_1 t).mp h)
      rw [show (dat2 V c).leavesExact 0 t = owns (c : Thread nD τ) ((cfg2.win 0).stage (cfg2.slots t 0)) fullShare ((dat2 V c).after 0 t) from rfl, after2_0]
      rw [show (dat2 V c).leavesExact 1 t = owns (c : Thread nD τ) ((cfg2.win 1).stage (cfg2.slots t 1)) fullShare ((dat2 V c).after 1 t) from rfl, after2_1]
      rw [show (dat2 V c).leavesExact 2 t = owns (c : Thread nD τ) ((cfg2.win 2).stage (cfg2.slots t 2)) fullShare ((dat2 V c).after 2 t) from rfl, after2_2]
      rw [show (dat2 V c).leavesExact 3 t = owns (c : Thread nD τ) ((cfg2.win 3).stage (cfg2.slots t 3)) fullShare ((dat2 V c).after 3 t) from rfl, after2_3]
      rw [show (dat2 V c).leavesExact 4 t = owns (c : Thread nD τ) ((cfg2.win 4).stage (cfg2.slots t 4)) fullShare ((dat2 V c).after 4 t) from rfl, after2_4]
      rw [show (dat2 V c).leavesExact 5 t = owns (c : Thread nD τ) ((cfg2.win 5).stage (cfg2.slots t 5)) fullShare ((dat2 V c).after 5 t) from rfl, after2_5]
      rw [(dat2 V c).leavesExact_idle 6 t ((idle2_6_iff t).mpr hc1) (Bool.eq_false_iff.mpr fun h => h1 ((flush2_6 t).mp h))]
      rw [(dat2 V c).leavesExact_idle 7 t ((idle2_7_iff t).mpr hc0) (Bool.eq_false_iff.mpr fun h => h1 ((flush2_7 t).mp h))]
      obtain ⟨n, hn⟩ : ∃ n, t.val = n + 1 := ⟨t.val - 1, by omega⟩
      obtain ⟨tv, ht⟩ := t
      simp only at hn; subst hn
      rw [PhiS2_pos V c n _ (by omega)]
      simp only [before2_7 V c ⟨n + 1, ht⟩ (Nat.succ_ne_zero n)]
      iintro ⟨⟨⟨HS1, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run2_B c (grid2.coords ⟨n + 1, ht⟩) _ _ _ _ _ _ _ _ _ _ _ _ _ _ _ _ _ _ _ _ hc0 hc1 (blk2_0 V c ⟨n + 1, ht⟩) (blk2_1 V c ⟨n + 1, ht⟩) (blk2_2 V c ⟨n + 1, ht⟩) (blk2_3 V c ⟨n + 1, ht⟩) _ _ (am2 V c n (by omega)) (sI2 V c) (sP2 V c) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS1 HS0 Hg]
      · isplitl [HS1 HS0]
        · isplitl [HS1]; · iexact HS1
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7

theorem defs₀_row2 (t : Fin cfg2.N) : defs₀ (F := F) .tc cfg2.body (cfg2.bodyArgs t (cfg2.slots t)) = bodyAt2 t := by
  unfold defs₀; rw [Defs.onTc_tc]
/-- The body obligation of region 2. -/
theorem body_obligation2 (c : Dev nD) : BodyObligation (dat2 V c) (defs₀ (F := F)) Variants.none () Set.univ := fun t => by
  rw [bigSep_W2, bigSep_W2, defs₀_row2]
  exact triple_restated (sound_body2 V c t) rfl .rfl fun _ => .rfl
/-- The invariant at the start, from the scoped buffers, -/
theorem hin2 (c : Dev nD) : iprop(Pipeline.scopedRest spec2 c ∗ BI.emp) ⊢ (dat2 V c).Φ 0 := by
  rw [show (dat2 V c).Φ 0 = PhiS2 V c 0 (Nat.zero_le _) from rfl, PhiS2_zero V c _ _ rfl]
  iintro ⟨H, -⟩; iexact H
/-- and the scoped buffers back at the end. -/
theorem hout2 (c : Dev nD) : (dat2 V c).Φ (Fin.last cfg2.N) ⊢ iprop(Pipeline.scopedRest spec2 c ∗ BI.emp) := by
  rw [show (dat2 V c).Φ (Fin.last cfg2.N) = PhiS2 V c (35 + 1) (by decide) from rfl, PhiS2_pos V c 35 _ (by decide), scopedRest2_split]
  simp only [owns_whole]
  iintro ⟨⟨HS1, HS0⟩, Hg⟩
  isplitl [HS1 HS0 Hg]
  · isplitl [HS1 HS0]
    · isplitl [HS1]; · iexists (am2 V c 35 (by decide)); iexact HS1
      iexists (pair (sI2 V c) (sP2 V c)); iexact HS0
    iexact Hg
  iempintro

end Cert.Kernel.Own

end
-- ==== Proof.K.Run3.lean ====
/- The body of the weight-gradient accumulation (`bwd_dw`), run once per case of its condition, with the values every buffer holds afterwards named. Stated at any float family. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp
public import proofs.«01_k».proof.Proof.K.Base

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The product of the two scales, from the two amax histories. -/
def prod3 (h : Vec F S1x16 .f32) (g : Vec F S1x16 .f32) : F .f32 :=
  k3_pay1 (k3_pay8 (k3_pay3 h) (k3_pay5 h) (k3_pay6 h) k3_pay7) (k3_pay13 (k3_pay9 g) (k3_pay10 g) (iota .tc S1x384 32 [1] iota_S1x384_d1_w32) k3_pay11 k3_pay12 22#32) (k3_pay14 (k3_pay9 g) (k3_pay10 g) (iota .tc S1x384 32 [1] iota_S1x384_d1_w32) k3_pay11 k3_pay12 22#32) k3_pay15

/-- The condition that the token block is the first. -/
abbrev cond3_0 (i : grid3.Coords) : Prop := (Scalar.cmpi .ne (Scalar.extui (Scalar.cmpi .eq (BitVec.ofNat 32 (i 1).val) 0#32)) 0#32) = 1#1

set_option maxHeartbeats 2000000 in
/-- The first token block: the product of the scales is computed from the histories, and the accumulator is restarted (what it held before is not used). -/
theorem run3_A (c : Dev nD) (i : grid3.Coords) (arg2 : Memref sig .tc .vmem S1x16 .f32) (harg2 : arg2.IsWhole) (arg3 : Memref sig .tc .vmem S1x16 .f32) (harg3 : arg3.IsWhole) (arg4 : Memref sig .tc .vmem S2048x1280 .fp8e4m3) (harg4 : arg4.IsWhole) (arg5 : Memref sig .tc .vmem S2048x3456 .fp8e5m2) (harg5 : arg5.IsWhole) (arg6 : Memref sig .tc .vmem S1280x3456 .f32) (harg6 : arg6.IsWhole) (arg7 : Memref sig .tc .smem S1 .f32) (harg7 : arg7.IsWhole) (hc0 : cond3_0 i)
    (x0 : Vec F S1x16 .f32) (x1 : Vec F S1x16 .f32) (x2 : Vec F S2048x1280 .fp8e4m3) (x3 : Vec F S2048x3456 .fp8e5m2) (x4 : Vec F S1280x3456 .f32)  (E : Set ℕ) (K : PUnit → sProp 𝕄) :
    iprop(owns (c : Thread nD τ) arg2 fullShare (x0 : Vec F S1x16 .f32) ∗ owns (c : Thread nD τ) arg3 fullShare (x1 : Vec F S1x16 .f32) ∗ owns (c : Thread nD τ) arg4 fullShare (x2 : Vec F S2048x1280 .fp8e4m3) ∗ owns (c : Thread nD τ) arg5 fullShare (x3 : Vec F S2048x3456 .fp8e5m2) ∗ owns (c : Thread nD τ) arg6 fullShare (x4 : Vec F S1280x3456 .f32) ∗ (∃ d, owns (c : Thread nD τ) arg7 fullShare d)
        ∗ (iprop(owns (c : Thread nD τ) arg2 fullShare (x0 : Vec F S1x16 .f32) ∗ owns (c : Thread nD τ) arg3 fullShare (x1 : Vec F S1x16 .f32) ∗ owns (c : Thread nD τ) arg4 fullShare (x2 : Vec F S2048x1280 .fp8e4m3) ∗ owns (c : Thread nD τ) arg5 fullShare (x3 : Vec F S2048x3456 .fp8e5m2) ∗ owns (c : Thread nD τ) arg6 fullShare (k3_pay2 i x2 x3 (prod3 x0 x1) x4 : Vec F S1280x3456 .f32) ∗ owns (c : Thread nD τ) arg7 fullShare (fun _ => prod3 x0 x1 : Vec F S1 .f32)) -∗ K ⟨⟩))
      ⊢ wp frame (wpE (defs₀ (F := F)) Variants.none c none) E (cc3_bwd_dw i arg2 harg2 arg3 harg3 arg4 harg4 arg5 harg5 arg6 harg6 arg7 harg7) K := by
  simp only [cc3_bwd_dw_eq_skeleton]; unfold cc3_bwd_dw_skel
  simp only [k3_part1_eq_skeleton, k3_part2_eq_skeleton, k3_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    sl_unfold_words
    try simp only [View.readAt_eq_ld, harg2.read_unread, harg3.read_unread, harg4.read_unread, harg5.read_unread, harg6.read_unread, View.ld_unit_zero (S := S1) hz1, View.readCov_unit_zero (S := S1) _ hz1, View.ld_unit_zero (S := S1280x3456) hz2, View.readCov_unit_zero (S := S1280x3456) _ hz2, View.ld_unit_zero (S := S1x16) hz2, View.readCov_unit_zero (S := S1x16) _ hz2, View.ld_unit_zero (S := S2048x1280) hz2, View.readCov_unit_zero (S := S2048x1280) _ hz2, View.ld_unit_zero (S := S2048x3456) hz2, View.readCov_unit_zero (S := S2048x3456) _ hz2]
    first | done | rfl
  iexists _; isplitr; swap; · iexact H5
  ipureintro
  refine (View.read_writes_full _ _ _ _ _).trans ?_
  sl_unfold_words
  try simp only [View.readAt_eq_ld, harg2.read_unread, harg3.read_unread, harg4.read_unread, harg5.read_unread, harg6.read_unread, View.ld_unit_zero (S := S1) hz1, View.readCov_unit_zero (S := S1) _ hz1, View.ld_unit_zero (S := S1280x3456) hz2, View.readCov_unit_zero (S := S1280x3456) _ hz2, View.ld_unit_zero (S := S1x16) hz2, View.readCov_unit_zero (S := S1x16) _ hz2, View.ld_unit_zero (S := S2048x1280) hz2, View.readCov_unit_zero (S := S2048x1280) _ hz2, View.ld_unit_zero (S := S2048x3456) hz2, View.readCov_unit_zero (S := S2048x3456) _ hz2]
  first | done | rfl

set_option maxHeartbeats 2000000 in
/-- A later token block: the accumulator takes the block product in (scaled at the last one). -/
theorem run3_B (c : Dev nD) (i : grid3.Coords) (arg2 : Memref sig .tc .vmem S1x16 .f32) (harg2 : arg2.IsWhole) (arg3 : Memref sig .tc .vmem S1x16 .f32) (harg3 : arg3.IsWhole) (arg4 : Memref sig .tc .vmem S2048x1280 .fp8e4m3) (harg4 : arg4.IsWhole) (arg5 : Memref sig .tc .vmem S2048x3456 .fp8e5m2) (harg5 : arg5.IsWhole) (arg6 : Memref sig .tc .vmem S1280x3456 .f32) (harg6 : arg6.IsWhole) (arg7 : Memref sig .tc .smem S1 .f32) (harg7 : arg7.IsWhole) (hc0 : ¬cond3_0 i)
    (x0 : Vec F S1x16 .f32) (x1 : Vec F S1x16 .f32) (x2 : Vec F S2048x1280 .fp8e4m3) (x3 : Vec F S2048x3456 .fp8e5m2) (x4 : Vec F S1280x3456 .f32) (s : Elt F .f32) (E : Set ℕ) (K : PUnit → sProp 𝕄) :
    iprop(owns (c : Thread nD τ) arg2 fullShare (x0 : Vec F S1x16 .f32) ∗ owns (c : Thread nD τ) arg3 fullShare (x1 : Vec F S1x16 .f32) ∗ owns (c : Thread nD τ) arg4 fullShare (x2 : Vec F S2048x1280 .fp8e4m3) ∗ owns (c : Thread nD τ) arg5 fullShare (x3 : Vec F S2048x3456 .fp8e5m2) ∗ owns (c : Thread nD τ) arg6 fullShare (x4 : Vec F S1280x3456 .f32) ∗ owns (c : Thread nD τ) arg7 fullShare (fun _ => s : Vec F S1 .f32)
        ∗ (iprop(owns (c : Thread nD τ) arg2 fullShare (x0 : Vec F S1x16 .f32) ∗ owns (c : Thread nD τ) arg3 fullShare (x1 : Vec F S1x16 .f32) ∗ owns (c : Thread nD τ) arg4 fullShare (x2 : Vec F S2048x1280 .fp8e4m3) ∗ owns (c : Thread nD τ) arg5 fullShare (x3 : Vec F S2048x3456 .fp8e5m2) ∗ owns (c : Thread nD τ) arg6 fullShare (k3_pay2 i x2 x3 s x4 : Vec F S1280x3456 .f32) ∗ owns (c : Thread nD τ) arg7 fullShare (fun _ => s : Vec F S1 .f32)) -∗ K ⟨⟩))
      ⊢ wp frame (wpE (defs₀ (F := F)) Variants.none c none) E (cc3_bwd_dw i arg2 harg2 arg3 harg3 arg4 harg4 arg5 harg5 arg6 harg6 arg7 harg7) K := by
  simp only [cc3_bwd_dw_eq_skeleton]; unfold cc3_bwd_dw_skel
  simp only [k3_part1_eq_skeleton, k3_part2_eq_skeleton, k3_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    sl_unfold_words
    try simp only [View.readAt_eq_ld, harg2.read_unread, harg3.read_unread, harg4.read_unread, harg5.read_unread, harg6.read_unread, harg7.read_unread, View.ld_unit_zero (S := S1) hz1, View.readCov_unit_zero (S := S1) _ hz1, View.ld_unit_zero (S := S1280x3456) hz2, View.readCov_unit_zero (S := S1280x3456) _ hz2, View.ld_unit_zero (S := S1x16) hz2, View.readCov_unit_zero (S := S1x16) _ hz2, View.ld_unit_zero (S := S2048x1280) hz2, View.readCov_unit_zero (S := S2048x1280) _ hz2, View.ld_unit_zero (S := S2048x3456) hz2, View.readCov_unit_zero (S := S2048x3456) _ hz2]
    first | done | rfl
  iexists _; isplitr; · ipureintro; exact harg7.read_unread _
  iexact H5

end Cert.Kernel.Own

end
-- ==== Proof.K.Dat3.lean ====
/- Region 3 of the program: the proof data over any entry contents of the buffers, and the body obligation. Stated at any float family. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp
public import Idealize.ShloMosaic.Lib.Pipeline.TableIdle
public import proofs.«01_k».proof.Proof.K.Run3

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- The first and the last grid point of region 3. -/
abbrev first3 : Fin cfg3.N := ⟨0, by decide⟩
abbrev last3 : Fin cfg3.N := ⟨35, by decide⟩

/-- An input window's block at a point, of the arrays at the entry contents. -/
abbrev iblk3 (c : Dev nD) (w : Fin cfg3.W) (t : Fin cfg3.N) := ((cfg3.win w).blk t).view.read (Elt F) (V c (Proc.devRef .tc (Pipeline.arrRef spec3 w)))
abbrev blk3_0 (c : Dev nD) (t : Fin cfg3.N) : Vec F S1x16 .f32 := iblk3 V c 0 t
abbrev blk3_1 (c : Dev nD) (t : Fin cfg3.N) : Vec F S1x16 .f32 := iblk3 V c 1 t
abbrev blk3_2 (c : Dev nD) (t : Fin cfg3.N) : Vec F S2048x1280 .fp8e4m3 := iblk3 V c 2 t
abbrev blk3_3 (c : Dev nD) (t : Fin cfg3.N) : Vec F S2048x3456 .fp8e5m2 := iblk3 V c 3 t

/-- The product of the scales, held in scalar memory. -/
def sP3 (c : Dev nD) : Elt F .f32 := prod3 (blk3_0 V c first3) (blk3_1 V c first3)
/-- The histories' blocks are the same at every point. -/
theorem blk3_0_const (c : Dev nD) (t : Fin cfg3.N) : blk3_0 V c t = blk3_0 V c first3 := rfl
theorem blk3_1_const (c : Dev nD) (t : Fin cfg3.N) : blk3_1 V c t = blk3_1 V c first3 := rfl
/-- The accumulator's block after a point: restarted at the first token block, the block products added up. -/
def acc3 (c : Dev nD) : (n : ℕ) → n < cfg3.N → Vec F S1280x3456 .f32
  | 0, h => k3_pay2 (grid3.coords ⟨0, h⟩) (blk3_2 V c ⟨0, h⟩) (blk3_3 V c ⟨0, h⟩) (sP3 V c) (fun _ => FloatOps.ofBits .f32 0#32)
  | n + 1, h => k3_pay2 (grid3.coords ⟨n + 1, h⟩) (blk3_2 V c ⟨n + 1, h⟩) (blk3_3 V c ⟨n + 1, h⟩) (sP3 V c) (acc3 c n (Nat.lt_of_succ_lt h))
theorem acc3_congr (c : Dev nD) {n n' : ℕ} (h : n < cfg3.N) (h' : n' < cfg3.N) (e : n = n') : acc3 V c n h = acc3 V c n' h' := by
  subst e; rfl

/-- The invariant: before the first point every scoped buffer at anything, then the scratch at what the points so far left. -/
def PhiS3 (c : Dev nD) : (n : ℕ) → n ≤ cfg3.N → sProp 𝕄
  | 0, _ => Pipeline.scopedRest (Ix := Unit) (Name := ℕ) (U := UR sig nD τ) (Lvl := ℕ) (Val := Elt F) spec3 c
  | n + 1, h => iprop(owns (c : Thread nD τ) (Memref.whole cc3_scratch0) fullShare (fun _ => sP3 V c) ∗ Pipeline.scopedRestBut (Ix := Unit) (Name := ℕ) (U := UR sig nD τ) (Lvl := ℕ) (Val := Elt F) spec3 c [cc3_scratch0])
theorem PhiS3_zero (c : Dev nD) (n : ℕ) (h : n ≤ cfg3.N) (hz : n = 0) : PhiS3 V c n h = Pipeline.scopedRest (Ix := Unit) (Name := ℕ) (U := UR sig nD τ) (Lvl := ℕ) (Val := Elt F) spec3 c := by
  subst hz; rfl
theorem PhiS3_succ (c : Dev nD) (n : ℕ) (h : n < cfg3.N) : PhiS3 V c (n + 1) h = iprop(owns (c : Thread nD τ) (Memref.whole cc3_scratch0) fullShare (fun _ => sP3 V c) ∗ Pipeline.scopedRestBut (Ix := Unit) (Name := ℕ) (U := UR sig nD τ) (Lvl := ℕ) (Val := Elt F) spec3 c [cc3_scratch0]) := rfl
theorem PhiS3_pos (c : Dev nD) (n : ℕ) (h' : n + 1 ≤ cfg3.N) (h : n < cfg3.N) : PhiS3 V c (n + 1) h' = iprop(owns (c : Thread nD τ) (Memref.whole cc3_scratch0) fullShare (fun _ => sP3 V c) ∗ Pipeline.scopedRestBut (Ix := Unit) (Name := ℕ) (U := UR sig nD τ) (Lvl := ℕ) (Val := Elt F) spec3 c [cc3_scratch0]) := rfl

/-- The region's proof data at entry contents `V`. -/
def dat3 (c : Dev nD) : Dat τ (Elt F) Unit ℕ (UR sig nD τ) ℕ cfg3 c where
  A w := V c (Proc.devRef .tc (Pipeline.arrRef spec3 w))
  after w t := match w with
    | ⟨0, _⟩ => blk3_0 V c t
    | ⟨1, _⟩ => blk3_1 V c t
    | ⟨2, _⟩ => blk3_2 V c t
    | ⟨3, _⟩ => blk3_3 V c t
    | ⟨4, _⟩ => acc3 V c t.val t.isLt
  Φ t := PhiS3 V c t.val (Nat.le_of_lt_succ t.isLt)
  q _ := fullShare
  owed _ := 0

theorem dat3_A (c : Dev nD) (w : Fin cfg3.W) : (dat3 V c).A w = V c (Proc.devRef .tc (Pipeline.arrRef spec3 w)) := by dsimp only [dat3]
theorem PhiS3_castSucc (c : Dev nD) (t : Fin cfg3.N) : (dat3 V c).Φ t.castSucc = PhiS3 V c t.val (Nat.le_of_lt t.isLt) := by
  dsimp only [dat3]; exact Pipeline.Dat.Φ_castSucc (PhiS3 V c) t
theorem after3_0 (c : Dev nD) (t : Fin cfg3.N) : (dat3 V c).after 0 t = blk3_0 V c t := by dsimp only [dat3]
theorem after3_1 (c : Dev nD) (t : Fin cfg3.N) : (dat3 V c).after 1 t = blk3_1 V c t := by dsimp only [dat3]
theorem after3_2 (c : Dev nD) (t : Fin cfg3.N) : (dat3 V c).after 2 t = blk3_2 V c t := by dsimp only [dat3]
theorem after3_3 (c : Dev nD) (t : Fin cfg3.N) : (dat3 V c).after 3 t = blk3_3 V c t := by dsimp only [dat3]
theorem after3_4 (c : Dev nD) (t : Fin cfg3.N) : (dat3 V c).after 4 t = acc3 V c t.val t.isLt := by dsimp only [dat3]
theorem before3_0 (c : Dev nD) (t : Fin cfg3.N) (d) : (dat3 V c).before 0 t d = blk3_0 V c t :=
  ((dat3 V c).before_in_eq_fetched 0 rfl (fun _ => rfl) (fun _ _ _ => rfl) (fun t => by rw [after3_0]; unfold Dat.blockOf; rw [dat3_A]; try rfl) t d).trans (by unfold Dat.fetched Dat.blockOf; rw [dat3_A]; try rfl)
theorem before3_1 (c : Dev nD) (t : Fin cfg3.N) (d) : (dat3 V c).before 1 t d = blk3_1 V c t :=
  ((dat3 V c).before_in_eq_fetched 1 rfl (fun _ => rfl) (fun _ _ _ => rfl) (fun t => by rw [after3_1]; unfold Dat.blockOf; rw [dat3_A]; try rfl) t d).trans (by unfold Dat.fetched Dat.blockOf; rw [dat3_A]; try rfl)
theorem before3_2 (c : Dev nD) (t : Fin cfg3.N) (d) : (dat3 V c).before 2 t d = blk3_2 V c t :=
  ((dat3 V c).before_in_eq_fetched 2 rfl (fun _ => rfl) (fun _ _ _ => rfl) (fun t => by rw [after3_2]; unfold Dat.blockOf; rw [dat3_A]; try rfl) t d).trans (by unfold Dat.fetched Dat.blockOf; rw [dat3_A]; try rfl)
theorem before3_3 (c : Dev nD) (t : Fin cfg3.N) (d) : (dat3 V c).before 3 t d = blk3_3 V c t :=
  ((dat3 V c).before_in_eq_fetched 3 rfl (fun _ => rfl) (fun _ _ _ => rfl) (fun t => by rw [after3_3]; unfold Dat.blockOf; rw [dat3_A]; try rfl) t d).trans (by unfold Dat.fetched Dat.blockOf; rw [dat3_A]; try rfl)

/-- The condition, as the point's number. -/
theorem hcond3_0 : ∀ t : Fin cfg3.N, cond3_0 (grid3.coords t) ↔ t.val % 9 = 0 :=
  (fun t => by
    have ht : t.val < 36 := Nat.lt_of_lt_of_eq t.isLt N_3
    have e1 : (grid3.coords t 1).val = t.val / 1 % 9 := Pipeline.Grid.coords_val t 1 (by decide) rfl
    simp only [cond3_0, e1]
    word_cmp : ∀ t : Fin grid3.N, cond3_0 (grid3.coords t) ↔ t.val % 9 = 0)
theorem fresh3_4 : ∀ t : Fin cfg3.N, t.val % 9 ≠ 0 → cfg3.fresh 4 t.val = false := (by decide +kernel : ∀ t : Fin grid3.N, t.val % 9 ≠ 0 → cfg3.fresh 4 t.val = false)
theorem before3_4 (c : Dev nD) (t : Fin cfg3.N) (ht : t.val % 9 ≠ 0) (d) : (dat3 V c).before 4 t d = acc3 V c (t.val - 1) (by omega) := by
  rw [(dat3 V c).before_out_traj 4 rfl (fun _ _ => rfl) (fun t _ hi _ => absurd hi Bool.false_ne_true) t.val t rfl d, fresh3_4 t ht, if_neg Bool.false_ne_true, after3_4]
/-- At the first token block the accumulator's old contents are not used. -/
theorem k3_pay2_reset (i : grid3.Coords) (hc : cond3_0 i) (a : Vec F S2048x1280 .fp8e4m3) (b : Vec F S2048x3456 .fp8e5m2) (s : Elt F .f32) (d d' : Vec F S1280x3456 .f32) :
    k3_pay2 i a b s d = k3_pay2 i a b s d' := by
  have hb : Scalar.cmpi .eq (BitVec.ofNat 32 (i 1).val) 0#32 = 1#1 := by
    unfold cond3_0 at hc
    generalize Scalar.cmpi .eq (BitVec.ofNat 32 (i 1).val) 0#32 = b at hc ⊢
    revert hc; revert b; decide
  unfold k3_pay2
  dsimp only
  rw [hb]
  rfl
/-- At a point of the first token block the accumulator is restarted, whatever it held. -/
theorem acc3_first (c : Dev nD) (t : Fin cfg3.N) (ht : t.val % 9 = 0) (d : Vec F S1280x3456 .f32) :
    acc3 V c t.val t.isLt = k3_pay2 (grid3.coords t) (blk3_2 V c t) (blk3_3 V c t) (sP3 V c) d := by
  obtain ⟨n, hn⟩ := t
  cases n with
  | zero => exact k3_pay2_reset _ ((hcond3_0 _).mpr ht) _ _ _ _ _
  | succ n => exact k3_pay2_reset _ ((hcond3_0 _).mpr ht) _ _ _ _ _
/-- At a later token block it takes the block product in. -/
theorem acc3_next (c : Dev nD) (t : Fin cfg3.N) (ht : t.val % 9 ≠ 0) :
    acc3 V c t.val t.isLt = k3_pay2 (grid3.coords t) (blk3_2 V c t) (blk3_3 V c t) (sP3 V c) (acc3 V c (t.val - 1) (by omega)) := by
  obtain ⟨n, hn⟩ := t
  cases n with
  | zero => exact absurd rfl ht
  | succ n => rfl

/-- What the body is called with at a point, -/
def bodyPre3 (c : Dev nD) (t : Fin cfg3.N) : sProp 𝕄 :=
  iprop((dat3 V c).Φ t.castSucc ∗ (dat3 V c).owesAt () t.castSucc ∗ (∃ d, owns (c : Thread nD τ) ((cfg3.win 0).stage (cfg3.slots t 0)) fullShare ((dat3 V c).before 0 t d)) ∗ (∃ d, owns (c : Thread nD τ) ((cfg3.win 1).stage (cfg3.slots t 1)) fullShare ((dat3 V c).before 1 t d)) ∗ (∃ d, owns (c : Thread nD τ) ((cfg3.win 2).stage (cfg3.slots t 2)) fullShare ((dat3 V c).before 2 t d)) ∗ (∃ d, owns (c : Thread nD τ) ((cfg3.win 3).stage (cfg3.slots t 3)) fullShare ((dat3 V c).before 3 t d)) ∗ (∃ d, owns (c : Thread nD τ) ((cfg3.win 4).stage (cfg3.slots t 4)) fullShare ((dat3 V c).before 4 t d)))
/-- and what it hands back. -/
def bodyPost3 (c : Dev nD) (t : Fin cfg3.N) : sProp 𝕄 :=
  iprop((dat3 V c).Φ t.succ ∗ (dat3 V c).owesAt () t.succ ∗ (dat3 V c).leavesExact 0 t ∗ (dat3 V c).leavesExact 1 t ∗ (dat3 V c).leavesExact 2 t ∗ (dat3 V c).leavesExact 3 t ∗ (dat3 V c).leavesExact 4 t)

set_option maxHeartbeats 1000000 in
/-- The body at every point: the case's run, the scratch taken from and handed back to the invariant. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ, PhiS3_castSucc]
  have hN : t.val < 36 := lt_of_lt_of_eq t.isLt (show cfg3.N = 36 from N_3)
  rw [show (dat3 V c).leavesExact 0 t = owns (c : Thread nD τ) ((cfg3.win 0).stage (cfg3.slots t 0)) fullShare ((dat3 V c).after 0 t) from rfl, after3_0]
  rw [show (dat3 V c).leavesExact 1 t = owns (c : Thread nD τ) ((cfg3.win 1).stage (cfg3.slots t 1)) fullShare ((dat3 V c).after 1 t) from rfl, after3_1]
  rw [show (dat3 V c).leavesExact 2 t = owns (c : Thread nD τ) ((cfg3.win 2).stage (cfg3.slots t 2)) fullShare ((dat3 V c).after 2 t) from rfl, after3_2]
  rw [show (dat3 V c).leavesExact 3 t = owns (c : Thread nD τ) ((cfg3.win 3).stage (cfg3.slots t 3)) fullShare ((dat3 V c).after 3 t) from rfl, after3_3]
  rw [show (dat3 V c).leavesExact 4 t = owns (c : Thread nD τ) ((cfg3.win 4).stage (cfg3.slots t 4)) fullShare ((dat3 V c).after 4 t) from rfl, after3_4]
  by_cases h0 : t.val % 9 = 0
  · have hc0 := (hcond3_0 t).mpr h0
    have hpre : PhiS3 V c t.val (Nat.le_of_lt t.isLt) ⊢ iprop((∃ d, owns (c : Thread nD τ) (Memref.whole cc3_scratch0) fullShare d) ∗ Pipeline.scopedRestBut (Ix := Unit) (Name := ℕ) (U := UR sig nD τ) (Lvl := ℕ) (Val := Elt F) spec3 c [cc3_scratch0]) := by
      obtain ⟨n, hn⟩ := t
      cases n with
      | zero =>
        rw [PhiS3_zero V c _ _ rfl, scopedRest3_split]
        iintro ⟨⟨%f, H⟩, Hg⟩
        isplitl [H]; · iexists f; rw [owns_whole]; iexact H
        iexact Hg
      | succ n =>
        rw [PhiS3_pos V c n _ (by omega)]
        iintro ⟨H, Hg⟩
        isplitl [H]; · iexists _; iexact H
        iexact Hg
    iintro ⟨HP, Ho, ⟨%d0, H0⟩, ⟨%d1, H1⟩, ⟨%d2, H2⟩, ⟨%d3, H3⟩, ⟨%d4, H4⟩⟩
    ihave HP' := hpre $$ HP
    icases HP' with ⟨HS0, Hg⟩
    iapply (run3_A c (grid3.coords t) _ _ _ _ _ _ _ _ _ _ _ _ hc0 (blk3_0 V c t) (blk3_1 V c t) (blk3_2 V c t) (blk3_3 V c t) _ Set.univ _)
    isplitl [H0]; · iexact H0
    isplitl [H1]; · iexact H1
    isplitl [H2]; · iexact H2
    isplitl [H3]; · iexact H3
    isplitl [H4]; · iexact H4
    isplitl [HS0]; · iexact HS0
    rw [blk3_0_const, blk3_1_const, acc3_first V c t h0 ((dat3 V c).before 4 t d4)]
    iintro ⟨H0, H1, H2, H3, H4, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    iexact H4
  · have hc0 : ¬ cond3_0 (grid3.coords t) := fun h => h0 ((hcond3_0 t).mp h)
    simp only [before3_4 V c t h0]
    rw [acc3_next V c t h0]
    obtain ⟨n, hn⟩ : ∃ n, t.val = n + 1 := ⟨t.val - 1, by omega⟩
    obtain ⟨tv, ht⟩ := t
    simp only at hn; subst hn
    rw [PhiS3_pos V c n _ (by omega)]
    iintro ⟨⟨HS0, Hg⟩, Ho, ⟨%d0, H0⟩, ⟨%d1, H1⟩, ⟨%d2, H2⟩, ⟨%d3, H3⟩, ⟨%d4, H4⟩⟩
    iapply (run3_B c (grid3.coords ⟨n + 1, ht⟩) _ _ _ _ _ _ _ _ _ _ _ _ hc0 (blk3_0 V c ⟨n + 1, ht⟩) (blk3_1 V c ⟨n + 1, ht⟩) (blk3_2 V c ⟨n + 1, ht⟩) (blk3_3 V c ⟨n + 1, ht⟩) _ (sP3 V c) Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    iexact H4

theorem defs₀_row3 (t : Fin cfg3.N) : defs₀ (F := F) .tc cfg3.body (cfg3.bodyArgs t (cfg3.slots t)) = bodyAt3 t := by
  unfold defs₀; rw [Defs.onTc_tc]
/-- The body obligation of region 3. -/
theorem body_obligation3 (c : Dev nD) : BodyObligation (dat3 V c) (defs₀ (F := F)) Variants.none () Set.univ := fun t => by
  rw [bigSep_W3, bigSep_W3, defs₀_row3]
  exact triple_restated (sound_body3 V c t) rfl .rfl fun _ => .rfl
/-- The invariant at the start, from the scoped buffers, -/
theorem hin3 (c : Dev nD) : iprop(Pipeline.scopedRest spec3 c ∗ BI.emp) ⊢ (dat3 V c).Φ 0 := by
  rw [show (dat3 V c).Φ 0 = PhiS3 V c 0 (Nat.zero_le _) from rfl, PhiS3_zero V c _ _ rfl]
  iintro ⟨H, -⟩; iexact H
/-- and the scoped buffers back at the end. -/
theorem hout3 (c : Dev nD) : (dat3 V c).Φ (Fin.last cfg3.N) ⊢ iprop(Pipeline.scopedRest spec3 c ∗ BI.emp) := by
  rw [show (dat3 V c).Φ (Fin.last cfg3.N) = PhiS3 V c (35 + 1) (by decide) from rfl, PhiS3_pos V c 35 _ (by decide), scopedRest3_split]
  simp only [owns_whole]
  iintro ⟨HS0, Hg⟩
  isplitl [HS0 Hg]
  · isplitl [HS0]; · iexists (fun _ => sP3 V c); iexact HS0
    iexact Hg
  iempintro

end Cert.Kernel.Own

end
-- ==== Proof.K.Whole.lean ====
/- The whole run: the four regions chained, from the launch memory to what every buffer holds at the end. Stated at any float family. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp
public import proofs.«01_k».proof.Proof.Gen.Kernel.Regions
public import Idealize.ShloMosaic.Lib.Pipeline.RegionArraysS
public import Idealize.ShloMosaic.Lib.Pipeline.Regions
public import proofs.«01_k».proof.Proof.K.Dat0
public import proofs.«01_k».proof.Proof.K.Dat1
public import proofs.«01_k».proof.Proof.K.Dat2
public import proofs.«01_k».proof.Proof.K.Dat3

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers between the items -/

/-- At launch, -/
def U0 (c : Dev nD) : Valuation τ sig (Elt F) := fun b => m (c, b)
/-- after the host reshapes before the regions, -/
def U1 (c : Dev nD) : Valuation τ sig (Elt F) := StableHlo.after hostOps0 (U0 m c)
/-- after the weight's quantisation, -/
def U2 (c : Dev nD) : Valuation τ sig (Elt F) := Pipeline.afterRegion (dat0 (U1 m) c) (U1 m c)
/-- after the forward matmul, -/
def U3 (c : Dev nD) : Valuation τ sig (Elt F) := Pipeline.afterRegion (dat1 (U2 m) c) (U2 m c)
/-- after the matmul for dx, -/
def U4 (c : Dev nD) : Valuation τ sig (Elt F) := Pipeline.afterRegion (dat2 (U3 m) c) (U3 m c)
/-- after the accumulation of dW, -/
def U5 (c : Dev nD) : Valuation τ sig (Elt F) := Pipeline.afterRegion (dat3 (U4 m) c) (U4 m c)
/-- and after the host reshapes at the end. -/
def U6 (c : Dev nD) : Valuation τ sig (Elt F) := StableHlo.after hostOps4 (U5 m c)

/-! ## The segments -/

/-- Every region's proof data. -/
def pdats : (p : Fin 4) → (c : Dev nD) → Dat τ (Elt F) Unit ℕ (UR sig nD τ) ℕ (cfgs p) c := fun p => match p with
  | ⟨0, _⟩ => fun c => dat0 (U1 m) c
  | ⟨1, _⟩ => fun c => dat1 (U2 m) c
  | ⟨2, _⟩ => fun c => dat2 (U3 m) c
  | ⟨3, _⟩ => fun c => dat3 (U4 m) c

/-- The only index, at every TensorCore cell; one level. -/
def L : GSem nD τ sig → Finset Unit := fun g => if g.1.2 = .tc then {()} else ∅
def lv : GSem nD τ sig → Unit → ℕ := fun _ _ => 0
theorem L_off (g : GSem nD τ sig) (h : g.1.2 ≠ .tc) : L g = ∅ := if_neg h
abbrev owe0 : Dev nD → CellTallies nD τ sig Unit := fun _ => 0

theorem levelCut (p : Fin 4) : Pipeline.LevelCut (pcfgs (F := F)) adm () L lv p owe0 (fun _ => 0) where
  hι _ _ _ := by unfold L; rw [if_pos rfl]; exact Finset.mem_singleton_self _
  hιb _ _ _ := le_rfl
  hD _ _ _ h := absurd h (Nat.lt_irrefl 0)

/-- What rides beside the buffers between the items: the core owing nothing. -/
abbrev E (c : Dev nD) : sProp 𝕄 := iprop((∃ Wd, owes (c : Thread nD τ) (owe0 c) Wd) ∗ BI.emp ∗ BI.emp)

theorem kitP0 : Pipeline.PLaunchFacts (nD := nD) (τ := τ) (pcfgs (F := F)) 0 := launch0.toP
/-- Region 0's record. -/
def reg0 : RegionSeg (pcfgs (F := F)) adm (pdats m) () defs₀ Variants.none L lv 0 :=
  RegionSeg.ofHeldIn (pcfgs (F := F)) adm (pdats m) () defs₀ Variants.none L lv 0 owe0 (Pipeline.ucRefs τ sig) (fun _ => BI.emp) (fun _ => BI.emp)
    kitP0 rfl (fun c => (body_obligation0 (U1 m) c).loose) (fun _ _ => rfl) (fun _ => rfl)
    (fun c => (dat0 (U1 m) c).share_full fun _ => rfl) (fun c => hin0 (U1 m) c) (fun c => hout0 (U1 m) c)
    (fun _ => 0) (levelCut 0) (fun _ => BI.emp) (U1 m) (fun c w => dat0_A (U1 m) c w)
theorem arr_sub0 : Pipeline.arrRefs (pcfgs (F := F) 0).spec ⊆ Pipeline.ucRefs τ sig := Pipeline.arrRefs_sub_ucRefs _ fun w => winFacts0.arr_unscoped w
theorem pre0 (c : Dev nD) : iprop(StableHlo.held (c : Thread nD τ) (Pipeline.ucRefs τ sig) (U1 m c) ∗ E c) ⊢ (reg0 m).pre c :=
  by unfold reg0; exact RegionSeg.ofHeldIn_pre (S := Pipeline.ucRefs τ sig) (X := fun _ => BI.emp) (Y := fun _ => BI.emp) (R := fun _ => BI.emp) (W := U1 m) (D := owe0) arr_sub0 c
theorem post0 (c : Dev nD) : (reg0 m).post c ⊢ iprop(StableHlo.held (c : Thread nD τ) (Pipeline.ucRefs τ sig) (U2 m c) ∗ E c) :=
  RegionSeg.ofHeldIn_post arr_sub0 c
theorem kitP1 : Pipeline.PLaunchFacts (nD := nD) (τ := τ) (pcfgs (F := F)) 1 := launch1.toP
/-- Region 1's record. -/
def reg1 : RegionSeg (pcfgs (F := F)) adm (pdats m) () defs₀ Variants.none L lv 1 :=
  RegionSeg.ofHeldIn (pcfgs (F := F)) adm (pdats m) () defs₀ Variants.none L lv 1 owe0 (Pipeline.ucRefs τ sig) (fun _ => BI.emp) (fun _ => BI.emp)
    kitP1 rfl (fun c => (body_obligation1 (U2 m) c).loose) (fun _ _ => rfl) (fun _ => rfl)
    (fun c => (dat1 (U2 m) c).share_full fun _ => rfl) (fun c => hin1 (U2 m) c) (fun c => hout1 (U2 m) c)
    (fun _ => 0) (levelCut 1) (fun _ => BI.emp) (U2 m) (fun c w => dat1_A (U2 m) c w)
theorem arr_sub1 : Pipeline.arrRefs (pcfgs (F := F) 1).spec ⊆ Pipeline.ucRefs τ sig := Pipeline.arrRefs_sub_ucRefs _ fun w => winFacts1.arr_unscoped w
theorem pre1 (c : Dev nD) : iprop(StableHlo.held (c : Thread nD τ) (Pipeline.ucRefs τ sig) (U2 m c) ∗ E c) ⊢ (reg1 m).pre c :=
  by unfold reg1; exact RegionSeg.ofHeldIn_pre (S := Pipeline.ucRefs τ sig) (X := fun _ => BI.emp) (Y := fun _ => BI.emp) (R := fun _ => BI.emp) (W := U2 m) (D := owe0) arr_sub1 c
theorem post1 (c : Dev nD) : (reg1 m).post c ⊢ iprop(StableHlo.held (c : Thread nD τ) (Pipeline.ucRefs τ sig) (U3 m c) ∗ E c) :=
  RegionSeg.ofHeldIn_post arr_sub1 c
theorem kitP2 : Pipeline.PLaunchFacts (nD := nD) (τ := τ) (pcfgs (F := F)) 2 := launch2.toP
/-- Region 2's record. -/
def reg2 : RegionSeg (pcfgs (F := F)) adm (pdats m) () defs₀ Variants.none L lv 2 :=
  RegionSeg.ofHeldIn (pcfgs (F := F)) adm (pdats m) () defs₀ Variants.none L lv 2 owe0 (Pipeline.ucRefs τ sig) (fun _ => BI.emp) (fun _ => BI.emp)
    kitP2 rfl (fun c => (body_obligation2 (U3 m) c).loose) (fun _ _ => rfl) (fun _ => rfl)
    (fun c => (dat2 (U3 m) c).share_full fun _ => rfl) (fun c => hin2 (U3 m) c) (fun c => hout2 (U3 m) c)
    (fun _ => 0) (levelCut 2) (fun _ => BI.emp) (U3 m) (fun c w => dat2_A (U3 m) c w)
theorem arr_sub2 : Pipeline.arrRefs (pcfgs (F := F) 2).spec ⊆ Pipeline.ucRefs τ sig := Pipeline.arrRefs_sub_ucRefs _ fun w => winFacts2.arr_unscoped w
theorem pre2 (c : Dev nD) : iprop(StableHlo.held (c : Thread nD τ) (Pipeline.ucRefs τ sig) (U3 m c) ∗ E c) ⊢ (reg2 m).pre c :=
  by unfold reg2; exact RegionSeg.ofHeldIn_pre (S := Pipeline.ucRefs τ sig) (X := fun _ => BI.emp) (Y := fun _ => BI.emp) (R := fun _ => BI.emp) (W := U3 m) (D := owe0) arr_sub2 c
theorem post2 (c : Dev nD) : (reg2 m).post c ⊢ iprop(StableHlo.held (c : Thread nD τ) (Pipeline.ucRefs τ sig) (U4 m c) ∗ E c) :=
  RegionSeg.ofHeldIn_post arr_sub2 c
theorem kitP3 : Pipeline.PLaunchFacts (nD := nD) (τ := τ) (pcfgs (F := F)) 3 := launch3.toP
/-- Region 3's record. -/
def reg3 : RegionSeg (pcfgs (F := F)) adm (pdats m) () defs₀ Variants.none L lv 3 :=
  RegionSeg.ofHeldIn (pcfgs (F := F)) adm (pdats m) () defs₀ Variants.none L lv 3 owe0 (Pipeline.ucRefs τ sig) (fun _ => BI.emp) (fun _ => BI.emp)
    kitP3 rfl (fun c => (body_obligation3 (U4 m) c).loose) (fun _ _ => rfl) (fun _ => rfl)
    (fun c => (dat3 (U4 m) c).share_full fun _ => rfl) (fun c => hin3 (U4 m) c) (fun c => hout3 (U4 m) c)
    (fun _ => 0) (levelCut 3) (fun _ => BI.emp) (U4 m) (fun c w => dat3_A (U4 m) c w)
theorem arr_sub3 : Pipeline.arrRefs (pcfgs (F := F) 3).spec ⊆ Pipeline.ucRefs τ sig := Pipeline.arrRefs_sub_ucRefs _ fun w => winFacts3.arr_unscoped w
theorem pre3 (c : Dev nD) : iprop(StableHlo.held (c : Thread nD τ) (Pipeline.ucRefs τ sig) (U4 m c) ∗ E c) ⊢ (reg3 m).pre c :=
  by unfold reg3; exact RegionSeg.ofHeldIn_pre (S := Pipeline.ucRefs τ sig) (X := fun _ => BI.emp) (Y := fun _ => BI.emp) (R := fun _ => BI.emp) (W := U4 m) (D := owe0) arr_sub3 c
theorem post3 (c : Dev nD) : (reg3 m).post c ⊢ iprop(StableHlo.held (c : Thread nD τ) (Pipeline.ucRefs τ sig) (U5 m c) ∗ E c) :=
  RegionSeg.ofHeldIn_post arr_sub3 c

/-- The host stretches. -/
def segA : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (U0 m) E
def segZ : HostSeg (Ix := Unit) (Name := ℕ) (U := UR sig nD τ) (Lvl := ℕ) (pcfgs (F := F)) defs₀ Variants.none L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (U5 m) E
/-- @main as the run of the six. -/
abbrev items : List (Seg (pcfgs (F := F)) adm (pdats m) () defs₀ Variants.none L lv) :=
  [.host (segA m), .region (reg0 m), .region (reg1 m), .region (reg2 m), .region (reg3 m), .host (segZ m)]

/-- What the run leaves: every buffer that outlives the run at `U6`. -/
def Final (s : MemSt nD τ sig (Elt F)) (c : Dev nD) : Prop :=
  ∀ b : Ref sig .tc, (Proc.devRef .tc b : DevRef τ sig) ∈ Pipeline.ucRefs τ sig → s.mem ((c : Thread nD τ).loc b) = U6 m c (Proc.devRef .tc b)

set_option backward.isDefEq.respectTransparency.types false in
set_option maxHeartbeats 1000000 in
/-- The run: from any memory with every counter at zero, every weakly fair execution ends with every buffer at `U6` and every
    counter at zero. -/
theorem run_all : θ_run defs (onTc (τ := τ) (main (F := F))) ⟨m, fun _ => 0, ρ⟩ (fun r => (∀ c : Dev nD, Final m r.2 c) ∧ r.2.sem = fun _ => 0) := by
  refine Pipeline.θ_run_regions_kit_dev_sems (pcfgs (F := F)) adm (pdats m) () cellOf_inj emb₁ defs₀ Variants.none L lv m ρ main
    (fun _ => items m)
    (fun c Q => by
      rewrite [main_chain c, Seg.run_eq_chain,
        show (items m).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          StableHlo.seq hostOps4 ] from rfl]
      exact .rfl)
    (fun c => by simp only [items, Seg.pipes_host, Seg.pipes_region, Seg.pipes_nil]; decide) owe0 L_off (fun _ => BI.emp)
    (initOf (Pipeline.cells (Pipeline.pin (pcfgs (F := F)) adm) cellOf_inj) (Pipeline.launchToks (Pipeline.pin (pcfgs (F := F)) adm) cellOf_inj)) ?_
    (T₀ := fun c => iprop(StableHlo.held (c : Thread nD τ) (Pipeline.ucRefs τ sig) (U0 m c) ∗ E c))
    (Tₙ := fun c => StableHlo.held (c : Thread nD τ) (Pipeline.ucRefs τ sig) (U6 m c))
    (hch := fun c => ⟨.rfl, pre0 m c, (post0 m c).trans (pre1 m c), (post1 m c).trans (pre2 m c), (post2 m c).trans (pre3 m c), post3 m c, sep_mono .rfl ?_⟩)
    (hinit := ?_) (QY := fun c s => Final m s c)
    (hfin := fun c s' => ?_) (hQ := fun _ h hz => ⟨h, funext fun g => hz g (.inr (regions_no_unscoped g.2))⟩)
  · iintro Hu
    imodintro
    isplitl [Hu]; · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
    rw [BI.bigSep_emp_const]; iempintro
  · iintro ⟨H, -⟩; iexact H
  · have hsplit (c : Dev nD) : iprop(unscopedBufs c (fun b => m ((c.tc : Thread nD τ).loc b)) ∗ unscopedSems0 c
          ∗ owes (c.tc : Thread nD τ) (owe0 c) ∅ ∗ Pipeline.launchCred owe0 c ∗ prngReg c (ρ c) ∗ BI.emp)
        ⊢ (iprop(StableHlo.held (c : Thread nD τ) (Pipeline.ucRefs τ sig) (U0 m c) ∗ E c) : sProp 𝕄) := by
      rw [← Pipeline.unscopedBufs_held (Ix := Unit) (Name := ℕ) (U := UR sig nD τ) (Lvl := ℕ) c (U0 m c)]
      iintro ⟨H, -, Ho, -⟩
      isplitl [H]; · iexact H
      isplitl [Ho]; · iexists _; iexact Ho
      isplitl [] <;> iempintro
    iintro ⟨H, -⟩
    imodintro
    iapply (show _ ⊢ (bigSep Finset.univ fun c : Dev nD => iprop(StableHlo.held (c : Thread nD τ) (Pipeline.ucRefs τ sig) (U0 m c) ∗ E c) : sProp 𝕄) from bigSep_mono fun c _ => hsplit c) $$ H
  · unfold StableHlo.held
    iintro ⟨Hh, HSI⟩
    ihave Hr := (pointsTo_read_all (Pipeline.ucRefs τ sig) (fun b => ((c : Thread nD τ).1, b)) (U6 m c) s') $$ [Hh HSI]
    · isplitl [Hh] <;> iassumption
    icases Hr with ⟨%h, HSI⟩
    imodintro
    isplitr
    · ipureintro; exact fun b hb => h _ hb
    · iexact HSI

/-! ## No item writes an argument -/

theorem U2_of (c : Dev nD) (r : Ref sig .tc) (h : ∀ w, Pipeline.arrRef spec0 w = r → (cfg0.win w).isOut = false) :
    U2 m c (Proc.devRef .tc r) = U1 m c (Proc.devRef .tc r) :=
  Pipeline.afterRegion_keeps (dat0 (U1 m) c) (U1 m c) winFacts0.arr_inj (dat0_A (U1 m) c) r h
theorem U3_of (c : Dev nD) (r : Ref sig .tc) (h : ∀ w, Pipeline.arrRef spec1 w = r → (cfg1.win w).isOut = false) :
    U3 m c (Proc.devRef .tc r) = U2 m c (Proc.devRef .tc r) :=
  Pipeline.afterRegion_keeps (dat1 (U2 m) c) (U2 m c) winFacts1.arr_inj (dat1_A (U2 m) c) r h
theorem U4_of (c : Dev nD) (r : Ref sig .tc) (h : ∀ w, Pipeline.arrRef spec2 w = r → (cfg2.win w).isOut = false) :
    U4 m c (Proc.devRef .tc r) = U3 m c (Proc.devRef .tc r) :=
  Pipeline.afterRegion_keeps (dat2 (U3 m) c) (U3 m c) winFacts2.arr_inj (dat2_A (U3 m) c) r h
theorem U5_of (c : Dev nD) (r : Ref sig .tc) (h : ∀ w, Pipeline.arrRef spec3 w = r → (cfg3.win w).isOut = false) :
    U5 m c (Proc.devRef .tc r) = U4 m c (Proc.devRef .tc r) :=
  Pipeline.afterRegion_keeps (dat3 (U4 m) c) (U4 m c) winFacts3.arr_inj (dat3_A (U4 m) c) r h
theorem U1_of (c : Dev nD) (r : Ref sig .tc) (h : r ∉ hostOps0_W) : U1 m c (Proc.devRef .tc r) = m ((c : Thread nD τ).loc r) :=
  StableHlo.after_of_writes_sub hostOps0 _ hostOps0_writes h
theorem U6_of (c : Dev nD) (r : Ref sig .tc) (h : r ∉ hostOps4_W) : U6 m c (Proc.devRef .tc r) = U5 m c (Proc.devRef .tc r) :=
  StableHlo.after_of_writes_sub hostOps4 _ hostOps4_writes h
theorem U6_main_arg0 (c : Dev nD) : U6 m c (Proc.devRef .tc main_arg0) = m ((c : Thread nD τ).loc main_arg0) :=
  (U6_of m c main_arg0 (by decide)).trans <| (U5_of m c main_arg0 (by decide)).trans <| (U4_of m c main_arg0 (by decide)).trans <|
    (U3_of m c main_arg0 (by decide)).trans <| (U2_of m c main_arg0 (by decide)).trans (U1_of m c main_arg0 (by decide))
theorem main_arg0_mem : (Proc.devRef .tc main_arg0 : DevRef τ sig) ∈ Pipeline.ucRefs τ sig := Finset.mem_filter.mpr ⟨StableHlo.devRef_mem_tcRefs main_arg0, by decide⟩
theorem U6_main_arg1 (c : Dev nD) : U6 m c (Proc.devRef .tc main_arg1) = m ((c : Thread nD τ).loc main_arg1) :=
  (U6_of m c main_arg1 (by decide)).trans <| (U5_of m c main_arg1 (by decide)).trans <| (U4_of m c main_arg1 (by decide)).trans <|
    (U3_of m c main_arg1 (by decide)).trans <| (U2_of m c main_arg1 (by decide)).trans (U1_of m c main_arg1 (by decide))
theorem main_arg1_mem : (Proc.devRef .tc main_arg1 : DevRef τ sig) ∈ Pipeline.ucRefs τ sig := Finset.mem_filter.mpr ⟨StableHlo.devRef_mem_tcRefs main_arg1, by decide⟩
theorem U6_main_arg2 (c : Dev nD) : U6 m c (Proc.devRef .tc main_arg2) = m ((c : Thread nD τ).loc main_arg2) :=
  (U6_of m c main_arg2 (by decide)).trans <| (U5_of m c main_arg2 (by decide)).trans <| (U4_of m c main_arg2 (by decide)).trans <|
    (U3_of m c main_arg2 (by decide)).trans <| (U2_of m c main_arg2 (by decide)).trans (U1_of m c main_arg2 (by decide))
theorem main_arg2_mem : (Proc.devRef .tc main_arg2 : DevRef τ sig) ∈ Pipeline.ucRefs τ sig := Finset.mem_filter.mpr ⟨StableHlo.devRef_mem_tcRefs main_arg2, by decide⟩
theorem U6_main_arg3 (c : Dev nD) : U6 m c (Proc.devRef .tc main_arg3) = m ((c : Thread nD τ).loc main_arg3) :=
  (U6_of m c main_arg3 (by decide)).trans <| (U5_of m c main_arg3 (by decide)).trans <| (U4_of m c main_arg3 (by decide)).trans <|
    (U3_of m c main_arg3 (by decide)).trans <| (U2_of m c main_arg3 (by decide)).trans (U1_of m c main_arg3 (by decide))
theorem main_arg3_mem : (Proc.devRef .tc main_arg3 : DevRef τ sig) ∈ Pipeline.ucRefs τ sig := Finset.mem_filter.mpr ⟨StableHlo.devRef_mem_tcRefs main_arg3, by decide⟩
theorem U6_main_arg4 (c : Dev nD) : U6 m c (Proc.devRef .tc main_arg4) = m ((c : Thread nD τ).loc main_arg4) :=
  (U6_of m c main_arg4 (by decide)).trans <| (U5_of m c main_arg4 (by decide)).trans <| (U4_of m c main_arg4 (by decide)).trans <|
    (U3_of m c main_arg4 (by decide)).trans <| (U2_of m c main_arg4 (by decide)).trans (U1_of m c main_arg4 (by decide))
theorem main_arg4_mem : (Proc.devRef .tc main_arg4 : DevRef τ sig) ∈ Pipeline.ucRefs τ sig := Finset.mem_filter.mpr ⟨StableHlo.devRef_mem_tcRefs main_arg4, by decide⟩
theorem U6_main_arg5 (c : Dev nD) : U6 m c (Proc.devRef .tc main_arg5) = m ((c : Thread nD τ).loc main_arg5) :=
  (U6_of m c main_arg5 (by decide)).trans <| (U5_of m c main_arg5 (by decide)).trans <| (U4_of m c main_arg5 (by decide)).trans <|
    (U3_of m c main_arg5 (by decide)).trans <| (U2_of m c main_arg5 (by decide)).trans (U1_of m c main_arg5 (by decide))
theorem main_arg5_mem : (Proc.devRef .tc main_arg5 : DevRef τ sig) ∈ Pipeline.ucRefs τ sig := Finset.mem_filter.mpr ⟨StableHlo.devRef_mem_tcRefs main_arg5, by decide⟩

/-- The frame: every argument ends as launched and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c _ main_arg0_mem).trans (U6_main_arg0 m c), (h.1 c _ main_arg1_mem).trans (U6_main_arg1 m c), (h.1 c _ main_arg2_mem).trans (U6_main_arg2 m c), (h.1 c _ main_arg3_mem).trans (U6_main_arg3 m c), (h.1 c _ main_arg4_mem).trans (U6_main_arg4 m c), (h.1 c _ main_arg5_mem).trans (U6_main_arg5 m c)⟩, h.2⟩) (run_all m ρ)

end Cert.Kernel.Own

end
-- ==== Proof.KI.Base.lean ====
/- Offsets that are zero. Stated at any float family. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

/-- Two scalars as the contents of a two-word scalar memory. -/
def pair (s0 s1 : Elt F .f32) : Vec F S2 .f32 := fun j => if (j 0).val = 0 then s0 else s1

/-- Storing the two words, one after the other, leaves the pair. -/
theorem smem2_read {κ : Kind} {sp : Space} (v : View sig κ sp S2 .f32) (f : v.ty.Contents (Elt F)) (s0 s1 : Elt F .f32) :
    v.read (Elt F) (v.writes (Elt F) f [⟨Rect.unit (s := S2) ![1] S1.size inb_S2_S1_1, fun _ => s1⟩, ⟨Rect.unit (s := S2) ![0] S1.size inb_S2_S1_0, fun _ => s0⟩])
      = pair s0 s1 := by
  funext y
  have hy : (y 0).val < 2 := (y 0).isLt
  unfold pair
  rw [View.read_writes_cons_unit v f inb_S2_S1_1 (fun _ => s1) _ y rfl]
  split
  · rename_i h
    have := h 0
    rw [if_neg]
    simp at this
    omega
  · rename_i h
    rw [View.read_writes_cons_unit v f inb_S2_S1_0 (fun _ => s0) _ y rfl]
    split
    · rename_i h'
      have := h' 0
      rw [if_pos]
      simp at this
      omega
    · rename_i h'
      exfalso
      simp at h h'
      omega

end Cert.KernelIdeal.Own

end
-- ==== Proof.KI.Run0.lean ====
/- The body of the weight quantisation (`quant_w`), run once per case of its two conditions, with the values every buffer holds afterwards named. Stated at any float family. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp
public import proofs.«01_k».proof.Proof.KI.Base

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The weight's scale, from its amax history: a power of two, as a one-element vector. -/
def scale0 (h : Vec F S1x16 .f32) : FVec F S1x1 .f32 := k0_pay12 (k0_pay6 h) (k0_pay8 h) (k0_pay9 h) k0_pay10
/-- The scale's inverse, a scalar. -/
def inv0 (h : Vec F S1x16 .f32) : F .f32 :=
  k0_pay1 (k0_pay13 (k0_pay6 h) (k0_pay8 h) (k0_pay9 h) k0_pay10) (k0_pay14 (k0_pay6 h) (k0_pay8 h) (k0_pay9 h) k0_pay10)
    (k0_pay15 (k0_pay6 h) (k0_pay8 h) (k0_pay9 h) k0_pay10) 255#32 k0_pay16

/-- The first point's condition. -/
abbrev cond0_0 (i : grid0.Coords) : Prop := k0_cond1 i = 1#1
/-- The last point's condition. -/
abbrev cond0_1 (i : grid0.Coords) : Prop := k0_cond2 i = 1#1

set_option maxHeartbeats 2000000 in
/-- The first point: the scale and its inverse are computed from the history, the amax starts at zero and takes the block in, the block is quantised; the new history is left alone. -/
theorem run0_A (c : Dev nD) (i : grid0.Coords) (arg1 : Memref sig .tc .vmem S1x16 .f32) (harg1 : arg1.IsWhole) (arg2 : Memref sig .tc .vmem S256x3456 .f32) (harg2 : arg2.IsWhole) (arg3 : Memref sig .tc .vmem S256x3456 .fp8e4m3) (harg3 : arg3.IsWhole) (arg4 : Memref sig .tc .vmem S1x16 .f32) (harg4 : arg4.IsWhole) (arg5 : Memref sig .tc .vmem S1x1 .f32) (harg5 : arg5.IsWhole) (arg6 : Memref sig .tc .smem S1 .f32) (harg6 : arg6.IsWhole) (arg7 : Memref sig .tc .vmem S8x128 .f32) (harg7 : arg7.IsWhole) (hc0 : cond0_0 i) (hc1 : ¬cond0_1 i)
    (x0 : Vec F S1x16 .f32) (x1 : Vec F S256x3456 .f32) (x3 : Vec F S1x16 .f32)  (E : Set ℕ) (K : PUnit → sProp 𝕄) :
    iprop(owns (c : Thread nD τ) arg1 fullShare (x0 : Vec F S1x16 .f32) ∗ owns (c : Thread nD τ) arg2 fullShare (x1 : Vec F S256x3456 .f32) ∗ (∃ d, owns (c : Thread nD τ) arg3 fullShare d) ∗ owns (c : Thread nD τ) arg4 fullShare (x3 : Vec F S1x16 .f32) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare (x0 : Vec F S1x16 .f32) ∗ owns (c : Thread nD τ) arg2 fullShare (x1 : Vec F S256x3456 .f32) ∗ owns (c : Thread nD τ) arg3 fullShare (k0_pay4 x1 (inv0 x0) : Vec F S256x3456 .fp8e4m3) ∗ owns (c : Thread nD τ) arg4 fullShare (x3 : Vec F S1x16 .f32) ∗ owns (c : Thread nD τ) arg5 fullShare (scale0 x0 : Vec F S1x1 .f32) ∗ owns (c : Thread nD τ) arg6 fullShare (fun _ => inv0 x0 : Vec F S1 .f32) ∗ owns (c : Thread nD τ) arg7 fullShare (k0_pay3 x1 k0_pay2 : Vec F S8x128 .f32)) -∗ K ⟨⟩))
      ⊢ wp frame (wpE (defs₀ (F := F)) Variants.none c none) E (cc0_quant_w i arg1 harg1 arg2 harg2 arg3 harg3 arg4 harg4 arg5 harg5 arg6 harg6 arg7 harg7) K := by
  simp only [cc0_quant_w_eq_skeleton]; unfold cc0_quant_w_skel
  simp only [k0_part1_eq_skeleton, k0_part2_eq_skeleton]
  unfold owns
  iintro ⟨⟨%f0, %hf0, H0⟩, ⟨%f1, %hf1, H1⟩, ⟨%d2, %f2, -, H2⟩, ⟨%f3, %hf3, H3⟩, ⟨%d4, %f4, -, H4⟩, ⟨%d5, %f5, -, H5⟩, ⟨%d6, %f6, -, H6⟩, Hk⟩
  obtain rfl := harg1.eq_unread hf0; obtain rfl := harg2.eq_unread hf1; obtain rfl := harg4.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (View.read_writes_full _ _ _ _ _).trans ?_
    sl_unfold_words
    try simp only [View.readAt_eq_ld, harg1.read_unread, harg2.read_unread, harg4.read_unread, View.ld_unit_zero (S := S1) hz1, View.readCov_unit_zero (S := S1) _ hz1, View.ld_unit_zero (S := S1x1) hz2, View.readCov_unit_zero (S := S1x1) _ hz2, View.ld_unit_zero (S := S1x16) hz2, View.readCov_unit_zero (S := S1x16) _ hz2, View.ld_unit_zero (S := S256x3456) hz2, View.readCov_unit_zero (S := S256x3456) _ hz2, View.ld_unit_zero (S := S8x128) hz2, View.readCov_unit_zero (S := S8x128) _ hz2]
    first | done | rfl
  isplitl [H3]
  · iexists _; isplitr; · ipureintro; exact harg4.read_unread _
    iexact H3
  isplitl [H4]
  · iexists _; isplitr; swap; · iexact H4
    ipureintro
    refine (View.read_writes_full _ _ _ _ _).trans ?_
    sl_unfold_words
    try simp only [View.readAt_eq_ld, harg1.read_unread, harg2.read_unread, harg4.read_unread, View.ld_unit_zero (S := S1) hz1, View.readCov_unit_zero (S := S1) _ hz1, View.ld_unit_zero (S := S1x1) hz2, View.readCov_unit_zero (S := S1x1) _ hz2, View.ld_unit_zero (S := S1x16) hz2, View.readCov_unit_zero (S := S1x16) _ hz2, View.ld_unit_zero (S := S256x3456) hz2, View.readCov_unit_zero (S := S256x3456) _ hz2, View.ld_unit_zero (S := S8x128) hz2, View.readCov_unit_zero (S := S8x128) _ hz2]
    first | done | rfl
  isplitl [H5]
  · iexists _; isplitr; swap; · iexact H5
    ipureintro
    refine (View.read_writes_full _ _ _ _ _).trans ?_
    sl_unfold_words
    try simp only [View.readAt_eq_ld, harg1.read_unread, harg2.read_unread, harg4.read_unread, View.ld_unit_zero (S := S1) hz1, View.readCov_unit_zero (S := S1) _ hz1, View.ld_unit_zero (S := S1x1) hz2, View.readCov_unit_zero (S := S1x1) _ hz2, View.ld_unit_zero (S := S1x16) hz2, View.readCov_unit_zero (S := S1x16) _ hz2, View.ld_unit_zero (S := S256x3456) hz2, View.readCov_unit_zero (S := S256x3456) _ hz2, View.ld_unit_zero (S := S8x128) hz2, View.readCov_unit_zero (S := S8x128) _ hz2]
    first | done | rfl
  iexists _; isplitr; swap; · iexact H6
  ipureintro
  refine (View.read_writes_full _ _ _ _ _).trans ?_
  sl_unfold_words
  try simp only [View.readAt_eq_ld, harg1.read_unread, harg2.read_unread, harg4.read_unread, View.ld_unit_zero (S := S1) hz1, View.readCov_unit_zero (S := S1) _ hz1, View.ld_unit_zero (S := S1x1) hz2, View.readCov_unit_zero (S := S1x1) _ hz2, View.ld_unit_zero (S := S1x16) hz2, View.readCov_unit_zero (S := S1x16) _ hz2, View.ld_unit_zero (S := S256x3456) hz2, View.readCov_unit_zero (S := S256x3456) _ hz2, View.ld_unit_zero (S := S8x128) hz2, View.readCov_unit_zero (S := S8x128) _ hz2]
  first | done | rfl

set_option maxHeartbeats 2000000 in
/-- A point between: the amax takes the block in and the block is quantised with the inverse held in scalar memory. -/
theorem run0_B (c : Dev nD) (i : grid0.Coords) (arg1 : Memref sig .tc .vmem S1x16 .f32) (harg1 : arg1.IsWhole) (arg2 : Memref sig .tc .vmem S256x3456 .f32) (harg2 : arg2.IsWhole) (arg3 : Memref sig .tc .vmem S256x3456 .fp8e4m3) (harg3 : arg3.IsWhole) (arg4 : Memref sig .tc .vmem S1x16 .f32) (harg4 : arg4.IsWhole) (arg5 : Memref sig .tc .vmem S1x1 .f32) (harg5 : arg5.IsWhole) (arg6 : Memref sig .tc .smem S1 .f32) (harg6 : arg6.IsWhole) (arg7 : Memref sig .tc .vmem S8x128 .f32) (harg7 : arg7.IsWhole) (hc0 : ¬cond0_0 i) (hc1 : ¬cond0_1 i)
    (x0 : Vec F S1x16 .f32) (x1 : Vec F S256x3456 .f32) (x3 : Vec F S1x16 .f32) (x4 : Vec F S1x1 .f32) (x6 : Vec F S8x128 .f32) (s : Elt F .f32) (E : Set ℕ) (K : PUnit → sProp 𝕄) :
    iprop(owns (c : Thread nD τ) arg1 fullShare (x0 : Vec F S1x16 .f32) ∗ owns (c : Thread nD τ) arg2 fullShare (x1 : Vec F S256x3456 .f32) ∗ (∃ d, owns (c : Thread nD τ) arg3 fullShare d) ∗ owns (c : Thread nD τ) arg4 fullShare (x3 : Vec F S1x16 .f32) ∗ owns (c : Thread nD τ) arg5 fullShare (x4 : Vec F S1x1 .f32) ∗ owns (c : Thread nD τ) arg6 fullShare (fun _ => s : Vec F S1 .f32) ∗ owns (c : Thread nD τ) arg7 fullShare (x6 : Vec F S8x128 .f32)
        ∗ (iprop(owns (c : Thread nD τ) arg1 fullShare (x0 : Vec F S1x16 .f32) ∗ owns (c : Thread nD τ) arg2 fullShare (x1 : Vec F S256x3456 .f32) ∗ owns (c : Thread nD τ) arg3 fullShare (k0_pay4 x1 s : Vec F S256x3456 .fp8e4m3) ∗ owns (c : Thread nD τ) arg4 fullShare (x3 : Vec F S1x16 .f32) ∗ owns (c : Thread nD τ) arg5 fullShare (x4 : Vec F S1x1 .f32) ∗ owns (c : Thread nD τ) arg6 fullShare (fun _ => s : Vec F S1 .f32) ∗ owns (c : Thread nD τ) arg7 fullShare (k0_pay3 x1 x6 : Vec F S8x128 .f32)) -∗ K ⟨⟩))
      ⊢ wp frame (wpE (defs₀ (F := F)) Variants.none c none) E (cc0_quant_w i arg1 harg1 arg2 harg2 arg3 harg3 arg4 harg4 arg5 harg5 arg6 harg6 arg7 harg7) K := by
  simp only [cc0_quant_w_eq_skeleton]; unfold cc0_quant_w_skel
  simp only [k0_part1_eq_skeleton, k0_part2_eq_skeleton]
  unfold owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg4.eq_unread hf3; obtain rfl := harg5.eq_unread hf4; obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (View.read_writes_full _ _ _ _ _).trans ?_
    sl_unfold_words
    try simp only [View.readAt_eq_ld, harg1.read_unread, harg2.read_unread, harg4.read_unread, harg5.read_unread, harg6.read_unread, harg7.read_unread, View.ld_unit_zero (S := S1) hz1, View.readCov_unit_zero (S := S1) _ hz1, View.ld_unit_zero (S := S1x1) hz2, View.readCov_unit_zero (S := S1x1) _ hz2, View.ld_unit_zero (S := S1x16) hz2, View.readCov_unit_zero (S := S1x16) _ hz2, View.ld_unit_zero (S := S256x3456) hz2, View.readCov_unit_zero (S := S256x3456) _ hz2, View.ld_unit_zero (S := S8x128) hz2, View.readCov_unit_zero (S := S8x128) _ hz2]
    first | done | rfl
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr; swap; · iexact H6
  ipureintro
  refine (View.read_writes_full _ _ _ _ _).trans ?_
  sl_unfold_words
  try simp only [View.readAt_eq_ld, harg1.read_unread, harg2.read_unread, harg4.read_unread, harg5.read_unread, harg6.read_unread, harg7.read_unread, View.ld_unit_zero (S := S1) hz1, View.readCov_unit_zero (S := S1) _ hz1, View.ld_unit_zero (S := S1x1) hz2, View.readCov_unit_zero (S := S1x1) _ hz2, View.ld_unit_zero (S := S1x16) hz2, View.readCov_unit_zero (S := S1x16) _ hz2, View.ld_unit_zero (S := S256x3456) hz2, View.readCov_unit_zero (S := S256x3456) _ hz2, View.ld_unit_zero (S := S8x128) hz2, View.readCov_unit_zero (S := S8x128) _ hz2]
  first | done | rfl

set_option maxHeartbeats 2000000 in
/-- The last point: as between, and the new history is the old one shifted with the amax appended. -/
theorem run0_C (c : Dev nD) (i : grid0.Coords) (arg1 : Memref sig .tc .vmem S1x16 .f32) (harg1 : arg1.IsWhole) (arg2 : Memref sig .tc .vmem S256x3456 .f32) (harg2 : arg2.IsWhole) (arg3 : Memref sig .tc .vmem S256x3456 .fp8e4m3) (harg3 : arg3.IsWhole) (arg4 : Memref sig .tc .vmem S1x16 .f32) (harg4 : arg4.IsWhole) (arg5 : Memref sig .tc .vmem S1x1 .f32) (harg5 : arg5.IsWhole) (arg6 : Memref sig .tc .smem S1 .f32) (harg6 : arg6.IsWhole) (arg7 : Memref sig .tc .vmem S8x128 .f32) (harg7 : arg7.IsWhole) (hc0 : ¬cond0_0 i) (hc1 : cond0_1 i)
    (x0 : Vec F S1x16 .f32) (x1 : Vec F S256x3456 .f32) (x4 : Vec F S1x1 .f32) (x6 : Vec F S8x128 .f32) (s : Elt F .f32) (E : Set ℕ) (K : PUnit → sProp 𝕄) :
    iprop(owns (c : Thread nD τ) arg1 fullShare (x0 : Vec F S1x16 .f32) ∗ owns (c : Thread nD τ) arg2 fullShare (x1 : Vec F S256x3456 .f32) ∗ (∃ d, owns (c : Thread nD τ) arg3 fullShare d) ∗ (∃ d, owns (c : Thread nD τ) arg4 fullShare d) ∗ owns (c : Thread nD τ) arg5 fullShare (x4 : Vec F S1x1 .f32) ∗ owns (c : Thread nD τ) arg6 fullShare (fun _ => s : Vec F S1 .f32) ∗ owns (c : Thread nD τ) arg7 fullShare (x6 : Vec F S8x128 .f32)
        ∗ (iprop(owns (c : Thread nD τ) arg1 fullShare (x0 : Vec F S1x16 .f32) ∗ owns (c : Thread nD τ) arg2 fullShare (x1 : Vec F S256x3456 .f32) ∗ owns (c : Thread nD τ) arg3 fullShare (k0_pay4 x1 s : Vec F S256x3456 .fp8e4m3) ∗ owns (c : Thread nD τ) arg4 fullShare (k0_pay5 x0 (k0_pay3 x1 x6) : Vec F S1x16 .f32) ∗ owns (c : Thread nD τ) arg5 fullShare (x4 : Vec F S1x1 .f32) ∗ owns (c : Thread nD τ) arg6 fullShare (fun _ => s : Vec F S1 .f32) ∗ owns (c : Thread nD τ) arg7 fullShare (k0_pay3 x1 x6 : Vec F S8x128 .f32)) -∗ K ⟨⟩))
      ⊢ wp frame (wpE (defs₀ (F := F)) Variants.none c none) E (cc0_quant_w i arg1 harg1 arg2 harg2 arg3 harg3 arg4 harg4 arg5 harg5 arg6 harg6 arg7 harg7) K := by
  simp only [cc0_quant_w_eq_skeleton]; unfold cc0_quant_w_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%f6, %hf6, H6⟩, Hk⟩
  obtain rfl := harg1.eq_unread hf0; obtain rfl := harg2.eq_unread hf1; obtain rfl := harg5.eq_unread hf4; obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (View.read_writes_full _ _ _ _ _).trans ?_
    sl_unfold_words
    try simp only [View.readAt_eq_ld, harg1.read_unread, harg2.read_unread, harg5.read_unread, harg6.read_unread, harg7.read_unread, View.ld_unit_zero (S := S1) hz1, View.readCov_unit_zero (S := S1) _ hz1, View.ld_unit_zero (S := S1x1) hz2, View.readCov_unit_zero (S := S1x1) _ hz2, View.ld_unit_zero (S := S1x16) hz2, View.readCov_unit_zero (S := S1x16) _ hz2, View.ld_unit_zero (S := S256x3456) hz2, View.readCov_unit_zero (S := S256x3456) _ hz2, View.ld_unit_zero (S := S8x128) hz2, View.readCov_unit_zero (S := S8x128) _ hz2]
    first | done | rfl
  isplitl [H3]
  · iexists _; isplitr; swap; · iexact H3
    ipureintro
    refine (View.read_writes_full _ _ _ _ _).trans ?_
    sl_unfold_words
    try simp only [View.readAt_eq_ld, harg1.read_unread, harg2.read_unread, harg5.read_unread, harg6.read_unread, harg7.read_unread, View.ld_unit_zero (S := S1) hz1, View.readCov_unit_zero (S := S1) _ hz1, View.ld_unit_zero (S := S1x1) hz2, View.readCov_unit_zero (S := S1x1) _ hz2, View.ld_unit_zero (S := S1x16) hz2, View.readCov_unit_zero (S := S1x16) _ hz2, View.ld_unit_zero (S := S256x3456) hz2, View.readCov_unit_zero (S := S256x3456) _ hz2, View.ld_unit_zero (S := S8x128) hz2, View.readCov_unit_zero (S := S8x128) _ hz2]
    first | done | rfl
  isplitl [H4]
  · iexists _; isplitr; · ipureintro; exact harg5.read_unread _
    iexact H4
  isplitl [H5]
  · iexists _; isplitr; · ipureintro; exact harg6.read_unread _
    iexact H5
  iexists _; isplitr; swap; · iexact H6
  ipureintro
  refine (View.read_writes_full _ _ _ _ _).trans ?_
  sl_unfold_words
  try simp only [View.readAt_eq_ld, harg1.read_unread, harg2.read_unread, harg5.read_unread, harg6.read_unread, harg7.read_unread, View.ld_unit_zero (S := S1) hz1, View.readCov_unit_zero (S := S1) _ hz1, View.ld_unit_zero (S := S1x1) hz2, View.readCov_unit_zero (S := S1x1) _ hz2, View.ld_unit_zero (S := S1x16) hz2, View.readCov_unit_zero (S := S1x16) _ hz2, View.ld_unit_zero (S := S256x3456) hz2, View.readCov_unit_zero (S := S256x3456) _ hz2, View.ld_unit_zero (S := S8x128) hz2, View.readCov_unit_zero (S := S8x128) _ hz2]
  first | done | rfl

end Cert.KernelIdeal.Own

end
-- ==== Proof.KI.Dat0.lean ====
/- Region 0 of the program: the proof data over any entry contents of the buffers, and the body obligation. Stated at any float family. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp
public import Idealize.ShloMosaic.Lib.Pipeline.TableIdle
public import proofs.«01_k».proof.Proof.KI.Run0

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- The first and the last grid point of region 0. -/
abbrev first0 : Fin cfg0.N := ⟨0, by decide⟩
abbrev last0 : Fin cfg0.N := ⟨19, by decide⟩

/-- An input window's block at a point, of the arrays at the entry contents. -/
abbrev iblk0 (c : Dev nD) (w : Fin cfg0.W) (t : Fin cfg0.N) := ((cfg0.win w).blk t).view.read (Elt F) (V c (Proc.devRef .tc (Pipeline.arrRef spec0 w)))
abbrev blk0_0 (c : Dev nD) (t : Fin cfg0.N) : Vec F S1x16 .f32 := iblk0 V c 0 t
abbrev blk0_1 (c : Dev nD) (t : Fin cfg0.N) : Vec F S256x3456 .f32 := iblk0 V c 1 t

/-- The inverse scale held in scalar memory. -/
def sI0 (c : Dev nD) : Elt F .f32 := inv0 (blk0_0 V c first0)
/-- The scratch amax after a point: the maximum folded over the blocks so far. -/
def am0 (c : Dev nD) : (n : ℕ) → n < cfg0.N → Vec F S8x128 .f32
  | 0, h => k0_pay3 (blk0_1 V c ⟨0, h⟩) k0_pay2
  | n + 1, h => k0_pay3 (blk0_1 V c ⟨n + 1, h⟩) (am0 c n (Nat.lt_of_succ_lt h))
/-- What each output's buffer holds after a point. -/
def out0_2 (c : Dev nD) (t : Fin cfg0.N) : Vec F S256x3456 .fp8e4m3 := k0_pay4 (blk0_1 V c t) (sI0 V c)
def out0_3 (c : Dev nD) : Vec F S1x16 .f32 := k0_pay5 (blk0_0 V c last0) (am0 V c last0.val last0.isLt)
def out0_4 (c : Dev nD) : Vec F S1x1 .f32 := scale0 (blk0_0 V c first0)

/-- The invariant: before the first point every scoped buffer at anything, then the scratch at what the points so far left. -/
def PhiS0 (c : Dev nD) : (n : ℕ) → n ≤ cfg0.N → sProp 𝕄
  | 0, _ => Pipeline.scopedRest (Ix := Unit) (Name := ℕ) (U := UR sig nD τ) (Lvl := ℕ) (Val := Elt F) spec0 c
  | n + 1, h => iprop(iprop(owns (c : Thread nD τ) (Memref.whole cc0_scratch1) fullShare (am0 V c n h) ∗ owns (c : Thread nD τ) (Memref.whole cc0_scratch0) fullShare (fun _ => sI0 V c)) ∗ Pipeline.scopedRestBut (Ix := Unit) (Name := ℕ) (U := UR sig nD τ) (Lvl := ℕ) (Val := Elt F) spec0 c [cc0_scratch1, cc0_scratch0])
theorem PhiS0_zero (c : Dev nD) (n : ℕ) (h : n ≤ cfg0.N) (hz : n = 0) : PhiS0 V c n h = Pipeline.scopedRest (Ix := Unit) (Name := ℕ) (U := UR sig nD τ) (Lvl := ℕ) (Val := Elt F) spec0 c := by
  subst hz; rfl
theorem PhiS0_succ (c : Dev nD) (n : ℕ) (h : n < cfg0.N) : PhiS0 V c (n + 1) h = iprop(iprop(owns (c : Thread nD τ) (Memref.whole cc0_scratch1) fullShare (am0 V c n h) ∗ owns (c : Thread nD τ) (Memref.whole cc0_scratch0) fullShare (fun _ => sI0 V c)) ∗ Pipeline.scopedRestBut (Ix := Unit) (Name := ℕ) (U := UR sig nD τ) (Lvl := ℕ) (Val := Elt F) spec0 c [cc0_scratch1, cc0_scratch0]) := rfl
theorem PhiS0_pos (c : Dev nD) (n : ℕ) (h' : n + 1 ≤ cfg0.N) (h : n < cfg0.N) : PhiS0 V c (n + 1) h' = iprop(iprop(owns (c : Thread nD τ) (Memref.whole cc0_scratch1) fullShare (am0 V c n h) ∗ owns (c : Thread nD τ) (Memref.whole cc0_scratch0) fullShare (fun _ => sI0 V c)) ∗ Pipeline.scopedRestBut (Ix := Unit) (Name := ℕ) (U := UR sig nD τ) (Lvl := ℕ) (Val := Elt F) spec0 c [cc0_scratch1, cc0_scratch0]) := rfl

/-- The region's proof data at entry contents `V`. -/
def dat0 (c : Dev nD) : Dat τ (Elt F) Unit ℕ (UR sig nD τ) ℕ cfg0 c where
  A w := V c (Proc.devRef .tc (Pipeline.arrRef spec0 w))
  after w t := match w with
    | ⟨0, _⟩ => blk0_0 V c t
    | ⟨1, _⟩ => blk0_1 V c t
    | ⟨2, _⟩ => out0_2 V c t
    | ⟨3, _⟩ => out0_3 V c
    | ⟨4, _⟩ => out0_4 V c
  Φ t := PhiS0 V c t.val (Nat.le_of_lt_succ t.isLt)
  q _ := fullShare
  owed _ := 0

theorem dat0_A (c : Dev nD) (w : Fin cfg0.W) : (dat0 V c).A w = V c (Proc.devRef .tc (Pipeline.arrRef spec0 w)) := by dsimp only [dat0]
theorem PhiS0_castSucc (c : Dev nD) (t : Fin cfg0.N) : (dat0 V c).Φ t.castSucc = PhiS0 V c t.val (Nat.le_of_lt t.isLt) := by
  dsimp only [dat0]; exact Pipeline.Dat.Φ_castSucc (PhiS0 V c) t
theorem after0_0 (c : Dev nD) (t : Fin cfg0.N) : (dat0 V c).after 0 t = blk0_0 V c t := by dsimp only [dat0]
theorem after0_1 (c : Dev nD) (t : Fin cfg0.N) : (dat0 V c).after 1 t = blk0_1 V c t := by dsimp only [dat0]
theorem after0_2 (c : Dev nD) (t : Fin cfg0.N) : (dat0 V c).after 2 t = out0_2 V c t := by dsimp only [dat0]
theorem after0_3 (c : Dev nD) (t : Fin cfg0.N) : (dat0 V c).after 3 t = out0_3 V c := by dsimp only [dat0]
theorem after0_4 (c : Dev nD) (t : Fin cfg0.N) : (dat0 V c).after 4 t = out0_4 V c := by dsimp only [dat0]
theorem before0_0 (c : Dev nD) (t : Fin cfg0.N) (d) : (dat0 V c).before 0 t d = blk0_0 V c t :=
  ((dat0 V c).before_in_eq_fetched 0 rfl (fun _ => rfl) (fun _ _ _ => rfl) (fun t => by rw [after0_0]; unfold Dat.blockOf; rw [dat0_A]; try rfl) t d).trans (by unfold Dat.fetched Dat.blockOf; rw [dat0_A]; try rfl)
theorem before0_1 (c : Dev nD) (t : Fin cfg0.N) (d) : (dat0 V c).before 1 t d = blk0_1 V c t :=
  ((dat0 V c).before_in_eq_fetched 1 rfl (fun _ => rfl) (fun _ _ _ => rfl) (fun t => by rw [after0_1]; unfold Dat.blockOf; rw [dat0_A]; try rfl) t d).trans (by unfold Dat.fetched Dat.blockOf; rw [dat0_A]; try rfl)

/-- The conditions, as the point's number. -/
theorem hcond0_0 : ∀ t : Fin cfg0.N, cond0_0 (grid0.coords t) ↔ t.val % 20 = 0 :=
  (fun t => by
    have ht : t.val < 20 := Nat.lt_of_lt_of_eq t.isLt N_0
    have e0 : (grid0.coords t 0).val = t.val / 1 % 20 := Pipeline.Grid.coords_val t 0 (by decide) rfl
    simp only [cond0_0, k0_cond1, e0]
    word_cmp : ∀ t : Fin grid0.N, cond0_0 (grid0.coords t) ↔ t.val % 20 = 0)
theorem hcond0_1 : ∀ t : Fin cfg0.N, cond0_1 (grid0.coords t) ↔ t.val % 20 = 19 :=
  (fun t => by
    have ht : t.val < 20 := Nat.lt_of_lt_of_eq t.isLt N_0
    have e0 : (grid0.coords t 0).val = t.val / 1 % 20 := Pipeline.Grid.coords_val t 0 (by decide) rfl
    simp only [cond0_1, k0_cond2, e0]
    word_cmp : ∀ t : Fin grid0.N, cond0_1 (grid0.coords t) ↔ t.val % 20 = 19)
theorem idle0_3_iff (t : Fin cfg0.N) : cfg0.idle 3 (cfg0.grid.coords t) = true ↔ ¬ cond0_1 (grid0.coords t) := by
  show (!(k0_cond2 (grid0.coords t) == 1#1)) = true ↔ _
  simp [cond0_1]
theorem idle0_4_iff (t : Fin cfg0.N) : cfg0.idle 4 (cfg0.grid.coords t) = true ↔ ¬ cond0_0 (grid0.coords t) := by
  show (!(k0_cond1 (grid0.coords t) == 1#1)) = true ↔ _
  simp [cond0_0]
/-- The new history's buffer is at anything until the last point; the scale's is at the scale after the first. -/
theorem fresh0_3 : ∀ t : Fin cfg0.N, cfg0.fresh 3 t.val = true := (by decide +kernel : ∀ t : Fin grid0.N, cfg0.fresh 3 t.val = true)
theorem fresh0_4 : ∀ t : Fin cfg0.N, t.val ≠ 0 → cfg0.fresh 4 t.val = false := (by decide +kernel : ∀ t : Fin grid0.N, t.val ≠ 0 → cfg0.fresh 4 t.val = false)
theorem before0_3 (c : Dev nD) (t : Fin cfg0.N) (d) : (dat0 V c).before 3 t d = d := by
  rw [(dat0 V c).before_out_traj 3 rfl (fun _ _ => rfl) (fun t _ _ _ => by rw [after0_3, after0_3]) t.val t rfl d, fresh0_3, if_pos rfl]
theorem before0_4 (c : Dev nD) (t : Fin cfg0.N) (ht : t.val ≠ 0) (d) : (dat0 V c).before 4 t d = out0_4 V c := by
  rw [(dat0 V c).before_out_traj 4 rfl (fun _ _ => rfl) (fun t _ _ _ => by rw [after0_4, after0_4]) t.val t rfl d, fresh0_4 t ht, if_neg Bool.false_ne_true, after0_4]

/-- What the body is called with at a point, -/
def bodyPre0 (c : Dev nD) (t : Fin cfg0.N) : sProp 𝕄 :=
  iprop((dat0 V c).Φ t.castSucc ∗ (dat0 V c).owesAt () t.castSucc ∗ (∃ d, owns (c : Thread nD τ) ((cfg0.win 0).stage (cfg0.slots t 0)) fullShare ((dat0 V c).before 0 t d)) ∗ (∃ d, owns (c : Thread nD τ) ((cfg0.win 1).stage (cfg0.slots t 1)) fullShare ((dat0 V c).before 1 t d)) ∗ (∃ d, owns (c : Thread nD τ) ((cfg0.win 2).stage (cfg0.slots t 2)) fullShare ((dat0 V c).before 2 t d)) ∗ (∃ d, owns (c : Thread nD τ) ((cfg0.win 3).stage (cfg0.slots t 3)) fullShare ((dat0 V c).before 3 t d)) ∗ (∃ d, owns (c : Thread nD τ) ((cfg0.win 4).stage (cfg0.slots t 4)) fullShare ((dat0 V c).before 4 t d)))
/-- and what it hands back. -/
def bodyPost0 (c : Dev nD) (t : Fin cfg0.N) : sProp 𝕄 :=
  iprop((dat0 V c).Φ t.succ ∗ (dat0 V c).owesAt () t.succ ∗ (dat0 V c).leavesExact 0 t ∗ (dat0 V c).leavesExact 1 t ∗ (dat0 V c).leavesExact 2 t ∗ (dat0 V c).leavesExact 3 t ∗ (dat0 V c).leavesExact 4 t)

set_option maxHeartbeats 1000000 in
/-- The body at every point: the case's run, the scratch taken from and handed back to the invariant. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, PhiS0_castSucc]
  have hN : t.val < 20 := lt_of_lt_of_eq t.isLt (show cfg0.N = 20 from N_0)
  by_cases h0 : t.val % 20 = 0
  · have h1 : ¬ t.val % 20 = 19 := by omega
    have hc0 := (hcond0_0 t).mpr h0
    have hc1 : ¬ cond0_1 (grid0.coords t) := fun h => h1 ((hcond0_1 t).mp h)
    rw [show (dat0 V c).leavesExact 0 t = owns (c : Thread nD τ) ((cfg0.win 0).stage (cfg0.slots t 0)) fullShare ((dat0 V c).after 0 t) from rfl, after0_0]
    rw [show (dat0 V c).leavesExact 1 t = owns (c : Thread nD τ) ((cfg0.win 1).stage (cfg0.slots t 1)) fullShare ((dat0 V c).after 1 t) from rfl, after0_1]
    rw [show (dat0 V c).leavesExact 2 t = owns (c : Thread nD τ) ((cfg0.win 2).stage (cfg0.slots t 2)) fullShare ((dat0 V c).after 2 t) from rfl, after0_2]
    rw [(dat0 V c).leavesExact_idle 3 t ((idle0_3_iff t).mpr hc1) (Bool.eq_false_iff.mpr fun h => h1 ((flush0_3 t).mp h))]
    rw [show (dat0 V c).leavesExact 4 t = owns (c : Thread nD τ) ((cfg0.win 4).stage (cfg0.slots t 4)) fullShare ((dat0 V c).after 4 t) from by
      unfold Dat.leavesExact; rw [Bool.eq_false_iff.mpr fun h => (idle0_4_iff t).mp h hc0], after0_4]
    rw [PhiS0_zero V c _ _ (by omega), scopedRest0_split]
    obtain rfl : t = first0 := Fin.ext (by simp only; omega)
    iintro ⟨⟨⟨⟨%fs1, HS1⟩, ⟨%fs0, HS0⟩⟩, Hg⟩, Ho, ⟨%d0, H0⟩, ⟨%d1, H1⟩, ⟨%d2, H2⟩, ⟨%d3, H3⟩, ⟨%d4, H4⟩⟩
    iapply (run0_A c (grid0.coords first0) _ _ _ _ _ _ _ _ _ _ _ _ _ _ hc0 hc1 (blk0_0 V c first0) (blk0_1 V c first0) _ Set.univ _)
    isplitl [H0]; · iexact H0
    isplitl [H1]; · iexact H1
    isplitl [H2]; · iexists _; iexact H2
    isplitl [H3]; · iexact H3
    isplitl [H4]; · iexists _; iexact H4
    isplitl [HS0]; · iexists fs0; rw [owns_whole]; iexact HS0
    isplitl [HS1]; · iexists fs1; rw [owns_whole]; iexact HS1
    iintro ⟨H0, H1, H2, H3, H4, HS0, HS1⟩
    isplitl [HS1 HS0 Hg]
    · isplitl [HS1 HS0]
      · isplitl [HS1]; · iexact HS1
        iexact HS0
      iexact Hg
    isplitl [Ho]; · iexact Ho
    isplitl [H0]; · iexact H0
    isplitl [H1]; · iexact H1
    isplitl [H2]; · iexact H2
    isplitl [H3]; · iexists d3; iexact H3
    iexact H4
  · have hc0 : ¬ cond0_0 (grid0.coords t) := fun h => h0 ((hcond0_0 t).mp h)
    by_cases h1 : t.val % 20 = 19
    · have hc1 := (hcond0_1 t).mpr h1
      obtain rfl : t = last0 := Fin.ext (by simp only; omega)
      rw [show (dat0 V c).leavesExact 0 last0 = owns (c : Thread nD τ) ((cfg0.win 0).stage (cfg0.slots last0 0)) fullShare ((dat0 V c).after 0 last0) from rfl, after0_0]
      rw [show (dat0 V c).leavesExact 1 last0 = owns (c : Thread nD τ) ((cfg0.win 1).stage (cfg0.slots last0 1)) fullShare ((dat0 V c).after 1 last0) from rfl, after0_1]
      rw [show (dat0 V c).leavesExact 2 last0 = owns (c : Thread nD τ) ((cfg0.win 2).stage (cfg0.slots last0 2)) fullShare ((dat0 V c).after 2 last0) from rfl, after0_2]
      rw [show (dat0 V c).leavesExact 3 last0 = owns (c : Thread nD τ) ((cfg0.win 3).stage (cfg0.slots last0 3)) fullShare ((dat0 V c).after 3 last0) from by
        unfold Dat.leavesExact; rw [Bool.eq_false_iff.mpr fun h => (idle0_3_iff last0).mp h hc1], after0_3]
      rw [show (dat0 V c).leavesExact 4 last0 = owns (c : Thread nD τ) ((cfg0.win 4).stage (cfg0.slots last0 4)) fullShare ((dat0 V c).after 4 last0) from by
        unfold Dat.leavesExact; rw [(idle0_4_iff last0).mpr hc0, (flush0_4 last0).mpr h1], after0_4]
      rw [show PhiS0 V c (last0 : Fin cfg0.N).val _ = PhiS0 V c (18 + 1) (by decide) from rfl, PhiS0_pos V c 18 _ (by decide)]
      simp only [before0_4 V c last0 (by decide)]
      iintro ⟨⟨⟨HS1, HS0⟩, Hg⟩, Ho, ⟨%d0, H0⟩, ⟨%d1, H1⟩, ⟨%d2, H2⟩, ⟨%d3, H3⟩, ⟨%d4, H4⟩⟩
      iapply (run0_C c (grid0.coords last0) _ _ _ _ _ _ _ _ _ _ _ _ _ _ hc0 hc1 (blk0_0 V c last0) (blk0_1 V c last0) _ (am0 V c 18 (by decide)) (sI0 V c) Set.univ _)
      isplitl [H0]; · iexact H0
      isplitl [H1]; · iexact H1
      isplitl [H2]; · iexists _; iexact H2
      isplitl [H3]; · iexists _; iexact H3
      isplitl [H4]; · iexact H4
      isplitl [HS0]; · iexact HS0
      isplitl [HS1]; · iexact HS1
      iintro ⟨H0, H1, H2, H3, H4, HS0, HS1⟩
      isplitl [HS1 HS0 Hg]
      · isplitl [HS1 HS0]
        · isplitl [HS1]; · iexact HS1
          iexact HS0
        iexact Hg
      isplitl [Ho]; · iexact Ho
      isplitl [H0]; · iexact H0
      isplitl [H1]; · iexact H1
      isplitl [H2]; · iexact H2
      isplitl [H3]; · iexact H3
      iexact H4
    · have hc1 : ¬ cond0_1 (grid0.coords t) := fun h => h1 ((hcond0_1 t).mp h)
      rw [show (dat0 V c).leavesExact 0 t = owns (c : Thread nD τ) ((cfg0.win 0).stage (cfg0.slots t 0)) fullShare ((dat0 V c).after 0 t) from rfl, after0_0]
      rw [show (dat0 V c).leavesExact 1 t = owns (c : Thread nD τ) ((cfg0.win 1).stage (cfg0.slots t 1)) fullShare ((dat0 V c).after 1 t) from rfl, after0_1]
      rw [show (dat0 V c).leavesExact 2 t = owns (c : Thread nD τ) ((cfg0.win 2).stage (cfg0.slots t 2)) fullShare ((dat0 V c).after 2 t) from rfl, after0_2]
      rw [(dat0 V c).leavesExact_idle 3 t ((idle0_3_iff t).mpr hc1) (Bool.eq_false_iff.mpr fun h => h1 ((flush0_3 t).mp h))]
      rw [(dat0 V c).leavesExact_idle 4 t ((idle0_4_iff t).mpr hc0) (Bool.eq_false_iff.mpr fun h => h1 ((flush0_4 t).mp h))]
      obtain ⟨n, hn⟩ : ∃ n, t.val = n + 1 := ⟨t.val - 1, by omega⟩
      obtain ⟨tv, ht⟩ := t
      simp only at hn; subst hn
      rw [PhiS0_pos V c n _ (by omega)]
      simp only [before0_4 V c ⟨n + 1, ht⟩ (Nat.succ_ne_zero n)]
      iintro ⟨⟨⟨HS1, HS0⟩, Hg⟩, Ho, ⟨%d0, H0⟩, ⟨%d1, H1⟩, ⟨%d2, H2⟩, ⟨%d3, H3⟩, ⟨%d4, H4⟩⟩
      iapply (run0_B c (grid0.coords ⟨n + 1, ht⟩) _ _ _ _ _ _ _ _ _ _ _ _ _ _ hc0 hc1 (blk0_0 V c ⟨n + 1, ht⟩) (blk0_1 V c ⟨n + 1, ht⟩) _ _ (am0 V c n (by omega)) (sI0 V c) Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS1 HS0 Hg]
      · isplitl [HS1 HS0]
        · isplitl [HS1]; · iexact HS1
          iexact HS0
        iexact Hg
      isplitl [Ho]; · iexact Ho
      isplitl [H0]; · iexact H0
      isplitl [H1]; · iexact H1
      isplitl [H2]; · iexact H2
      isplitl [H3]; · iexists d3; iexact H3
      iexists d4; iexact H4

theorem defs₀_row0 (t : Fin cfg0.N) : defs₀ (F := F) .tc cfg0.body (cfg0.bodyArgs t (cfg0.slots t)) = bodyAt0 t := by
  unfold defs₀; rw [Defs.onTc_tc]
/-- The body obligation of region 0. -/
theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl
/-- The invariant at the start, from the scoped buffers, -/
theorem hin0 (c : Dev nD) : iprop(Pipeline.scopedRest spec0 c ∗ BI.emp) ⊢ (dat0 V c).Φ 0 := by
  rw [show (dat0 V c).Φ 0 = PhiS0 V c 0 (Nat.zero_le _) from rfl, PhiS0_zero V c _ _ rfl]
  iintro ⟨H, -⟩; iexact H
/-- and the scoped buffers back at the end. -/
theorem hout0 (c : Dev nD) : (dat0 V c).Φ (Fin.last cfg0.N) ⊢ iprop(Pipeline.scopedRest spec0 c ∗ BI.emp) := by
  rw [show (dat0 V c).Φ (Fin.last cfg0.N) = PhiS0 V c (19 + 1) (by decide) from rfl, PhiS0_pos V c 19 _ (by decide), scopedRest0_split]
  simp only [owns_whole]
  iintro ⟨⟨HS1, HS0⟩, Hg⟩
  isplitl [HS1 HS0 Hg]
  · isplitl [HS1 HS0]
    · isplitl [HS1]; · iexists (am0 V c 19 (by decide)); iexact HS1
      iexists (fun _ => sI0 V c); iexact HS0
    iexact Hg
  iempintro

end Cert.KernelIdeal.Own

end
-- ==== Proof.KI.Run1.lean ====
/- The body of the forward matmul (`fwd`), run once per case of its two conditions, with the values every buffer holds afterwards named. Stated at any float family. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp
public import proofs.«01_k».proof.Proof.KI.Base

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The activation's scale, from its amax history: a power of two, as a one-element vector. -/
def scale1 (h : Vec F S1x16 .f32) : FVec F S1x1 .f32 := k1_pay9 (k1_pay3 h) (k1_pay5 h) (k1_pay6 h) k1_pay7
/-- The scale's inverse, a scalar. -/
def inv1 (h : Vec F S1x16 .f32) : F .f32 :=
  k1_pay19 (k1_pay14 (k1_pay10 (k1_pay3 h) (k1_pay5 h) (k1_pay6 h) k1_pay7) (k1_pay11 (k1_pay3 h) (k1_pay5 h) (k1_pay6 h) k1_pay7) (k1_pay12 (k1_pay3 h) (k1_pay5 h) (k1_pay6 h) k1_pay7) 255#32 k1_pay13)
/-- The product of the activation's scale and the weight's. -/
def prod1 (h : Vec F S1x16 .f32) (hw : Vec F S1x16 .f32) : F .f32 :=
  k1_pay20 (scale1 h) (k1_pay15 hw) (k1_pay16 hw) (k1_pay17 hw) (k1_pay18 hw)

/-- The first point's condition. -/
abbrev cond1_0 (i : grid1.Coords) : Prop := k1_cond1 i = 1#1
/-- The last point's condition. -/
abbrev cond1_1 (i : grid1.Coords) : Prop := k1_cond2 i = 1#1

set_option maxHeartbeats 2000000 in
/-- The first point: the scale, its inverse and the product of the scales are computed from the histories, the amax starts at zero and takes the block in, the block is quantised, multiplied and scaled; the new history is left alone. -/
theorem run1_A (c : Dev nD) (i : grid1.Coords) (arg1 : Memref sig .tc .vmem S1x16 .f32) (harg1 : arg1.IsWhole) (arg2 : Memref sig .tc .vmem S1x16 .f32) (harg2 : arg2.IsWhole) (arg3 : Memref sig .tc .vmem S512x5120 .bf16) (harg3 : arg3.IsWhole) (arg4 : Memref sig .tc .vmem S5120x3456 .fp8e4m3) (harg4 : arg4.IsWhole) (arg5 : Memref sig .tc .vmem S1x512x3456 .bf16) (harg5 : arg5.IsWhole) (arg6 : Memref sig .tc .vmem S512x5120 .fp8e4m3) (harg6 : arg6.IsWhole) (arg7 : Memref sig .tc .vmem S1x16 .f32) (harg7 : arg7.IsWhole) (arg8 : Memref sig .tc .vmem S1x1 .f32) (harg8 : arg8.IsWhole) (arg9 : Memref sig .tc .smem S2 .f32) (harg9 : arg9.IsWhole) (arg10 : Memref sig .tc .vmem S8x128 .f32) (harg10 : arg10.IsWhole) (hc0 : cond1_0 i) (hc1 : ¬cond1_1 i)
    (x0 : Vec F S1x16 .f32) (x1 : Vec F S1x16 .f32) (x2 : Vec F S512x5120 .bf16) (x3 : Vec F S5120x3456 .fp8e4m3) (x6 : Vec F S1x16 .f32)  (E : Set ℕ) (K : PUnit → sProp 𝕄) :
    iprop(owns (c : Thread nD τ) arg1 fullShare (x0 : Vec F S1x16 .f32) ∗ owns (c : Thread nD τ) arg2 fullShare (x1 : Vec F S1x16 .f32) ∗ owns (c : Thread nD τ) arg3 fullShare (x2 : Vec F S512x5120 .bf16) ∗ owns (c : Thread nD τ) arg4 fullShare (x3 : Vec F S5120x3456 .fp8e4m3) ∗ (∃ d, owns (c : Thread nD τ) arg5 fullShare d) ∗ (∃ d, owns (c : Thread nD τ) arg6 fullShare d) ∗ owns (c : Thread nD τ) arg7 fullShare (x6 : Vec F S1x16 .f32) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare (x0 : Vec F S1x16 .f32) ∗ owns (c : Thread nD τ) arg2 fullShare (x1 : Vec F S1x16 .f32) ∗ owns (c : Thread nD τ) arg3 fullShare (x2 : Vec F S512x5120 .bf16) ∗ owns (c : Thread nD τ) arg4 fullShare (x3 : Vec F S5120x3456 .fp8e4m3) ∗ owns (c : Thread nD τ) arg5 fullShare (k1_pay1 (k1_pay25 x2 (inv1 x0) x3 (prod1 x0 x1)) : Vec F S1x512x3456 .bf16) ∗ owns (c : Thread nD τ) arg6 fullShare (k1_pay24 x2 (inv1 x0) : Vec F S512x5120 .fp8e4m3) ∗ owns (c : Thread nD τ) arg7 fullShare (x6 : Vec F S1x16 .f32) ∗ owns (c : Thread nD τ) arg8 fullShare (scale1 x0 : Vec F S1x1 .f32) ∗ owns (c : Thread nD τ) arg9 fullShare (pair (inv1 x0) (prod1 x0 x1) : Vec F S2 .f32) ∗ owns (c : Thread nD τ) arg10 fullShare (k1_pay23 x2 k1_pay21 : Vec F S8x128 .f32)) -∗ K ⟨⟩))
      ⊢ wp frame (wpE (defs₀ (F := F)) Variants.none c none) E (cc1_fwd i arg1 harg1 arg2 harg2 arg3 harg3 arg4 harg4 arg5 harg5 arg6 harg6 arg7 harg7 arg8 harg8 arg9 harg9 arg10 harg10) K := by
  simp only [cc1_fwd_eq_skeleton]; unfold cc1_fwd_skel
  simp only [k1_part5_eq_skeleton, k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine (View.read_writes_full _ _ _ _ _).trans ?_
    sl_unfold_words
    try simp only [View.readAt_eq_ld, harg1.read_unread, harg2.read_unread, harg3.read_unread, harg4.read_unread, harg7.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
    first | done | rfl
  isplitl [H5]
  · iexists _; isplitr; swap; · iexact H5
    ipureintro
    refine (View.read_writes_full _ _ _ _ _).trans ?_
    sl_unfold_words
    try simp only [View.readAt_eq_ld, harg1.read_unread, harg2.read_unread, harg3.read_unread, harg4.read_unread, harg7.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
    first | done | rfl
  isplitl [H6]
  · iexists _; isplitr; · ipureintro; exact harg7.read_unread _
    iexact H6
  isplitl [H7]
  · iexists _; isplitr; swap; · iexact H7
    ipureintro
    refine (View.read_writes_full _ _ _ _ _).trans ?_
    sl_unfold_words
    try simp only [View.readAt_eq_ld, harg1.read_unread, harg2.read_unread, harg3.read_unread, harg4.read_unread, harg7.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
    first | done | rfl
  isplitl [H8]
  · iexists _; isplitr; swap; · iexact H8
    ipureintro
    refine (smem2_read _ _ _ _).trans ?_
    sl_unfold_words
    try simp only [View.readAt_eq_ld, harg1.read_unread, harg2.read_unread, harg3.read_unread, harg4.read_unread, harg7.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
    first | done | rfl
  iexists _; isplitr; swap; · iexact H9
  ipureintro
  refine (View.read_writes_full _ _ _ _ _).trans ?_
  sl_unfold_words
  try simp only [View.readAt_eq_ld, harg1.read_unread, harg2.read_unread, harg3.read_unread, harg4.read_unread, harg7.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
  first | done | rfl

set_option maxHeartbeats 2000000 in
/-- A point between: the amax takes the block in, and the block is quantised, multiplied and scaled with the two scalars held in scalar memory. -/
theorem run1_B (c : Dev nD) (i : grid1.Coords) (arg1 : Memref sig .tc .vmem S1x16 .f32) (harg1 : arg1.IsWhole) (arg2 : Memref sig .tc .vmem S1x16 .f32) (harg2 : arg2.IsWhole) (arg3 : Memref sig .tc .vmem S512x5120 .bf16) (harg3 : arg3.IsWhole) (arg4 : Memref sig .tc .vmem S5120x3456 .fp8e4m3) (harg4 : arg4.IsWhole) (arg5 : Memref sig .tc .vmem S1x512x3456 .bf16) (harg5 : arg5.IsWhole) (arg6 : Memref sig .tc .vmem S512x5120 .fp8e4m3) (harg6 : arg6.IsWhole) (arg7 : Memref sig .tc .vmem S1x16 .f32) (harg7 : arg7.IsWhole) (arg8 : Memref sig .tc .vmem S1x1 .f32) (harg8 : arg8.IsWhole) (arg9 : Memref sig .tc .smem S2 .f32) (harg9 : arg9.IsWhole) (arg10 : Memref sig .tc .vmem S8x128 .f32) (harg10 : arg10.IsWhole) (hc0 : ¬cond1_0 i) (hc1 : ¬cond1_1 i)
    (x0 : Vec F S1x16 .f32) (x1 : Vec F S1x16 .f32) (x2 : Vec F S512x5120 .bf16) (x3 : Vec F S5120x3456 .fp8e4m3) (x6 : Vec F S1x16 .f32) (x7 : Vec F S1x1 .f32) (x9 : Vec F S8x128 .f32) (s0 s1 : Elt F .f32) (E : Set ℕ) (K : PUnit → sProp 𝕄) :
    iprop(owns (c : Thread nD τ) arg1 fullShare (x0 : Vec F S1x16 .f32) ∗ owns (c : Thread nD τ) arg2 fullShare (x1 : Vec F S1x16 .f32) ∗ owns (c : Thread nD τ) arg3 fullShare (x2 : Vec F S512x5120 .bf16) ∗ owns (c : Thread nD τ) arg4 fullShare (x3 : Vec F S5120x3456 .fp8e4m3) ∗ (∃ d, owns (c : Thread nD τ) arg5 fullShare d) ∗ (∃ d, owns (c : Thread nD τ) arg6 fullShare d) ∗ owns (c : Thread nD τ) arg7 fullShare (x6 : Vec F S1x16 .f32) ∗ owns (c : Thread nD τ) arg8 fullShare (x7 : Vec F S1x1 .f32) ∗ owns (c : Thread nD τ) arg9 fullShare (pair s0 s1 : Vec F S2 .f32) ∗ owns (c : Thread nD τ) arg10 fullShare (x9 : Vec F S8x128 .f32)
        ∗ (iprop(owns (c : Thread nD τ) arg1 fullShare (x0 : Vec F S1x16 .f32) ∗ owns (c : Thread nD τ) arg2 fullShare (x1 : Vec F S1x16 .f32) ∗ owns (c : Thread nD τ) arg3 fullShare (x2 : Vec F S512x5120 .bf16) ∗ owns (c : Thread nD τ) arg4 fullShare (x3 : Vec F S5120x3456 .fp8e4m3) ∗ owns (c : Thread nD τ) arg5 fullShare (k1_pay1 (k1_pay25 x2 s0 x3 s1) : Vec F S1x512x3456 .bf16) ∗ owns (c : Thread nD τ) arg6 fullShare (k1_pay24 x2 s0 : Vec F S512x5120 .fp8e4m3) ∗ owns (c : Thread nD τ) arg7 fullShare (x6 : Vec F S1x16 .f32) ∗ owns (c : Thread nD τ) arg8 fullShare (x7 : Vec F S1x1 .f32) ∗ owns (c : Thread nD τ) arg9 fullShare (pair s0 s1 : Vec F S2 .f32) ∗ owns (c : Thread nD τ) arg10 fullShare (k1_pay23 x2 x9 : Vec F S8x128 .f32)) -∗ K ⟨⟩))
      ⊢ wp frame (wpE (defs₀ (F := F)) Variants.none c none) E (cc1_fwd i arg1 harg1 arg2 harg2 arg3 harg3 arg4 harg4 arg5 harg5 arg6 harg6 arg7 harg7 arg8 harg8 arg9 harg9 arg10 harg10) K := by
  simp only [cc1_fwd_eq_skeleton]; unfold cc1_fwd_skel
  simp only [k1_part5_eq_skeleton, k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg7.eq_unread hf6; obtain rfl := harg8.eq_unread hf7; obtain rfl := harg9.eq_unread hf8; obtain rfl := harg10.eq_unread hf9
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine (View.read_writes_full _ _ _ _ _).trans ?_
    sl_unfold_words
    try simp only [View.readAt_eq_ld, harg1.read_unread, harg2.read_unread, harg3.read_unread, harg4.read_unread, harg7.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
    first | done | rfl
  isplitl [H5]
  · iexists _; isplitr; swap; · iexact H5
    ipureintro
    refine (View.read_writes_full _ _ _ _ _).trans ?_
    sl_unfold_words
    try simp only [View.readAt_eq_ld, harg1.read_unread, harg2.read_unread, harg3.read_unread, harg4.read_unread, harg7.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
    first | done | rfl
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  iexists _; isplitr; swap; · iexact H9
  ipureintro
  refine (View.read_writes_full _ _ _ _ _).trans ?_
  sl_unfold_words
  try simp only [View.readAt_eq_ld, harg1.read_unread, harg2.read_unread, harg3.read_unread, harg4.read_unread, harg7.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
  first | done | rfl

set_option maxHeartbeats 2000000 in
/-- The last point: as between, and the new history is the old one shifted with the amax appended. -/
theorem run1_C (c : Dev nD) (i : grid1.Coords) (arg1 : Memref sig .tc .vmem S1x16 .f32) (harg1 : arg1.IsWhole) (arg2 : Memref sig .tc .vmem S1x16 .f32) (harg2 : arg2.IsWhole) (arg3 : Memref sig .tc .vmem S512x5120 .bf16) (harg3 : arg3.IsWhole) (arg4 : Memref sig .tc .vmem S5120x3456 .fp8e4m3) (harg4 : arg4.IsWhole) (arg5 : Memref sig .tc .vmem S1x512x3456 .bf16) (harg5 : arg5.IsWhole) (arg6 : Memref sig .tc .vmem S512x5120 .fp8e4m3) (harg6 : arg6.IsWhole) (arg7 : Memref sig .tc .vmem S1x16 .f32) (harg7 : arg7.IsWhole) (arg8 : Memref sig .tc .vmem S1x1 .f32) (harg8 : arg8.IsWhole) (arg9 : Memref sig .tc .smem S2 .f32) (harg9 : arg9.IsWhole) (arg10 : Memref sig .tc .vmem S8x128 .f32) (harg10 : arg10.IsWhole) (hc0 : ¬cond1_0 i) (hc1 : cond1_1 i)
    (x0 : Vec F S1x16 .f32) (x1 : Vec F S1x16 .f32) (x2 : Vec F S512x5120 .bf16) (x3 : Vec F S5120x3456 .fp8e4m3) (x7 : Vec F S1x1 .f32) (x9 : Vec F S8x128 .f32) (s0 s1 : Elt F .f32) (E : Set ℕ) (K : PUnit → sProp 𝕄) :
    iprop(owns (c : Thread nD τ) arg1 fullShare (x0 : Vec F S1x16 .f32) ∗ owns (c : Thread nD τ) arg2 fullShare (x1 : Vec F S1x16 .f32) ∗ owns (c : Thread nD τ) arg3 fullShare (x2 : Vec F S512x5120 .bf16) ∗ owns (c : Thread nD τ) arg4 fullShare (x3 : Vec F S5120x3456 .fp8e4m3) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare (x7 : Vec F S1x1 .f32) ∗ owns (c : Thread nD τ) arg9 fullShare (pair s0 s1 : Vec F S2 .f32) ∗ owns (c : Thread nD τ) arg10 fullShare (x9 : Vec F S8x128 .f32)
        ∗ (iprop(owns (c : Thread nD τ) arg1 fullShare (x0 : Vec F S1x16 .f32) ∗ owns (c : Thread nD τ) arg2 fullShare (x1 : Vec F S1x16 .f32) ∗ owns (c : Thread nD τ) arg3 fullShare (x2 : Vec F S512x5120 .bf16) ∗ owns (c : Thread nD τ) arg4 fullShare (x3 : Vec F S5120x3456 .fp8e4m3) ∗ owns (c : Thread nD τ) arg5 fullShare (k1_pay1 (k1_pay25 x2 s0 x3 s1) : Vec F S1x512x3456 .bf16) ∗ owns (c : Thread nD τ) arg6 fullShare (k1_pay24 x2 s0 : Vec F S512x5120 .fp8e4m3) ∗ owns (c : Thread nD τ) arg7 fullShare (k1_pay2 x0 (k1_pay23 x2 x9) : Vec F S1x16 .f32) ∗ owns (c : Thread nD τ) arg8 fullShare (x7 : Vec F S1x1 .f32) ∗ owns (c : Thread nD τ) arg9 fullShare (pair s0 s1 : Vec F S2 .f32) ∗ owns (c : Thread nD τ) arg10 fullShare (k1_pay23 x2 x9 : Vec F S8x128 .f32)) -∗ K ⟨⟩))
      ⊢ wp frame (wpE (defs₀ (F := F)) Variants.none c none) E (cc1_fwd i arg1 harg1 arg2 harg2 arg3 harg3 arg4 harg4 arg5 harg5 arg6 harg6 arg7 harg7 arg8 harg8 arg9 harg9 arg10 harg10) K := by
  simp only [cc1_fwd_eq_skeleton]; unfold cc1_fwd_skel
  simp only [k1_part5_eq_skeleton, k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg8.eq_unread hf7; obtain rfl := harg9.eq_unread hf8; obtain rfl := harg10.eq_unread hf9
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine (View.read_writes_full _ _ _ _ _).trans ?_
    sl_unfold_words
    try simp only [View.readAt_eq_ld, harg1.read_unread, harg2.read_unread, harg3.read_unread, harg4.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
    first | done | rfl
  isplitl [H5]
  · iexists _; isplitr; swap; · iexact H5
    ipureintro
    refine (View.read_writes_full _ _ _ _ _).trans ?_
    sl_unfold_words
    try simp only [View.readAt_eq_ld, harg1.read_unread, harg2.read_unread, harg3.read_unread, harg4.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
    first | done | rfl
  isplitl [H6]
  · iexists _; isplitr; swap; · iexact H6
    ipureintro
    refine (View.read_writes_full _ _ _ _ _).trans ?_
    sl_unfold_words
    try simp only [View.readAt_eq_ld, harg1.read_unread, harg2.read_unread, harg3.read_unread, harg4.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
    first | done | rfl
  isplitl [H7]
  · iexists _; isplitr; · ipureintro; exact harg8.read_unread _
    iexact H7
  isplitl [H8]
  · iexists _; isplitr; · ipureintro; exact harg9.read_unread _
    iexact H8
  iexists _; isplitr; swap; · iexact H9
  ipureintro
  refine (View.read_writes_full _ _ _ _ _).trans ?_
  sl_unfold_words
  try simp only [View.readAt_eq_ld, harg1.read_unread, harg2.read_unread, harg3.read_unread, harg4.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x3456) hz3, View.readCov_unit_zero (S := S1x512x3456) _ hz3, View.ld_unit_zero (S := S2) hz1, View.readCov_unit_zero (S := S2) _ hz1, View.ld_unit_zero (S := S5120x3456) hz2, View.readCov_unit_zero (S := S5120x3456) _ hz2, View.ld_unit_zero (S := S512x5120) hz2, View.readCov_unit_zero (S := S512x5120) _ hz2, View.ld_unit_zero (S := S8x128) hz2, View.readCov_unit_zero (S := S8x128) _ hz2]
  first | done | rfl

end Cert.KernelIdeal.Own

end
-- ==== Proof.KI.Dat1.lean ====
/- Region 1 of the program: the proof data over any entry contents of the buffers, and the body obligation. Stated at any float family. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp
public import Idealize.ShloMosaic.Lib.Pipeline.TableIdle
public import proofs.«01_k».proof.Proof.KI.Run1

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- The first and the last grid point of region 1. -/
abbrev first1 : Fin cfg1.N := ⟨0, by decide⟩
abbrev last1 : Fin cfg1.N := ⟨35, by decide⟩

/-- An input window's block at a point, of the arrays at the entry contents. -/
abbrev iblk1 (c : Dev nD) (w : Fin cfg1.W) (t : Fin cfg1.N) := ((cfg1.win w).blk t).view.read (Elt F) (V c (Proc.devRef .tc (Pipeline.arrRef spec1 w)))
abbrev blk1_0 (c : Dev nD) (t : Fin cfg1.N) : Vec F S1x16 .f32 := iblk1 V c 0 t
abbrev blk1_1 (c : Dev nD) (t : Fin cfg1.N) : Vec F S1x16 .f32 := iblk1 V c 1 t
abbrev blk1_2 (c : Dev nD) (t : Fin cfg1.N) : Vec F S512x5120 .bf16 := iblk1 V c 2 t
abbrev blk1_3 (c : Dev nD) (t : Fin cfg1.N) : Vec F S5120x3456 .fp8e4m3 := iblk1 V c 3 t

/-- The inverse scale and the product of the scales, held in scalar memory. -/
def sI1 (c : Dev nD) : Elt F .f32 := inv1 (blk1_0 V c first1)
def sP1 (c : Dev nD) : Elt F .f32 := prod1 (blk1_0 V c first1) (blk1_1 V c first1)
/-- The scratch amax after a point: the maximum folded over the blocks so far. -/
def am1 (c : Dev nD) : (n : ℕ) → n < cfg1.N → Vec F S8x128 .f32
  | 0, h => k1_pay23 (blk1_2 V c ⟨0, h⟩) k1_pay21
  | n + 1, h => k1_pay23 (blk1_2 V c ⟨n + 1, h⟩) (am1 c n (Nat.lt_of_succ_lt h))
/-- What each output's buffer holds after a point. -/
def out1_4 (c : Dev nD) (t : Fin cfg1.N) : Vec F S1x512x3456 .bf16 := k1_pay1 (k1_pay25 (blk1_2 V c t) (sI1 V c) (blk1_3 V c t) (sP1 V c))
def out1_5 (c : Dev nD) (t : Fin cfg1.N) : Vec F S512x5120 .fp8e4m3 := k1_pay24 (blk1_2 V c t) (sI1 V c)
def out1_6 (c : Dev nD) : Vec F S1x16 .f32 := k1_pay2 (blk1_0 V c last1) (am1 V c last1.val last1.isLt)
def out1_7 (c : Dev nD) : Vec F S1x1 .f32 := scale1 (blk1_0 V c first1)

/-- The invariant: before the first point every scoped buffer at anything, then the scratch at what the points so far left. -/
def PhiS1 (c : Dev nD) : (n : ℕ) → n ≤ cfg1.N → sProp 𝕄
  | 0, _ => Pipeline.scopedRest (Ix := Unit) (Name := ℕ) (U := UR sig nD τ) (Lvl := ℕ) (Val := Elt F) spec1 c
  | n + 1, h => iprop(iprop(owns (c : Thread nD τ) (Memref.whole cc1_scratch1) fullShare (am1 V c n h) ∗ owns (c : Thread nD τ) (Memref.whole cc1_scratch0) fullShare (pair (sI1 V c) (sP1 V c))) ∗ Pipeline.scopedRestBut (Ix := Unit) (Name := ℕ) (U := UR sig nD τ) (Lvl := ℕ) (Val := Elt F) spec1 c [cc1_scratch1, cc1_scratch0])
theorem PhiS1_zero (c : Dev nD) (n : ℕ) (h : n ≤ cfg1.N) (hz : n = 0) : PhiS1 V c n h = Pipeline.scopedRest (Ix := Unit) (Name := ℕ) (U := UR sig nD τ) (Lvl := ℕ) (Val := Elt F) spec1 c := by
  subst hz; rfl
theorem PhiS1_succ (c : Dev nD) (n : ℕ) (h : n < cfg1.N) : PhiS1 V c (n + 1) h = iprop(iprop(owns (c : Thread nD τ) (Memref.whole cc1_scratch1) fullShare (am1 V c n h) ∗ owns (c : Thread nD τ) (Memref.whole cc1_scratch0) fullShare (pair (sI1 V c) (sP1 V c))) ∗ Pipeline.scopedRestBut (Ix := Unit) (Name := ℕ) (U := UR sig nD τ) (Lvl := ℕ) (Val := Elt F) spec1 c [cc1_scratch1, cc1_scratch0]) := rfl
theorem PhiS1_pos (c : Dev nD) (n : ℕ) (h' : n + 1 ≤ cfg1.N) (h : n < cfg1.N) : PhiS1 V c (n + 1) h' = iprop(iprop(owns (c : Thread nD τ) (Memref.whole cc1_scratch1) fullShare (am1 V c n h) ∗ owns (c : Thread nD τ) (Memref.whole cc1_scratch0) fullShare (pair (sI1 V c) (sP1 V c))) ∗ Pipeline.scopedRestBut (Ix := Unit) (Name := ℕ) (U := UR sig nD τ) (Lvl := ℕ) (Val := Elt F) spec1 c [cc1_scratch1, cc1_scratch0]) := rfl

/-- The region's proof data at entry contents `V`. -/
def dat1 (c : Dev nD) : Dat τ (Elt F) Unit ℕ (UR sig nD τ) ℕ cfg1 c where
  A w := V c (Proc.devRef .tc (Pipeline.arrRef spec1 w))
  after w t := match w with
    | ⟨0, _⟩ => blk1_0 V c t
    | ⟨1, _⟩ => blk1_1 V c t
    | ⟨2, _⟩ => blk1_2 V c t
    | ⟨3, _⟩ => blk1_3 V c t
    | ⟨4, _⟩ => out1_4 V c t
    | ⟨5, _⟩ => out1_5 V c t
    | ⟨6, _⟩ => out1_6 V c
    | ⟨7, _⟩ => out1_7 V c
  Φ t := PhiS1 V c t.val (Nat.le_of_lt_succ t.isLt)
  q _ := fullShare
  owed _ := 0

theorem dat1_A (c : Dev nD) (w : Fin cfg1.W) : (dat1 V c).A w = V c (Proc.devRef .tc (Pipeline.arrRef spec1 w)) := by dsimp only [dat1]
theorem PhiS1_castSucc (c : Dev nD) (t : Fin cfg1.N) : (dat1 V c).Φ t.castSucc = PhiS1 V c t.val (Nat.le_of_lt t.isLt) := by
  dsimp only [dat1]; exact Pipeline.Dat.Φ_castSucc (PhiS1 V c) t
theorem after1_0 (c : Dev nD) (t : Fin cfg1.N) : (dat1 V c).after 0 t = blk1_0 V c t := by dsimp only [dat1]
theorem after1_1 (c : Dev nD) (t : Fin cfg1.N) : (dat1 V c).after 1 t = blk1_1 V c t := by dsimp only [dat1]
theorem after1_2 (c : Dev nD) (t : Fin cfg1.N) : (dat1 V c).after 2 t = blk1_2 V c t := by dsimp only [dat1]
theorem after1_3 (c : Dev nD) (t : Fin cfg1.N) : (dat1 V c).after 3 t = blk1_3 V c t := by dsimp only [dat1]
theorem after1_4 (c : Dev nD) (t : Fin cfg1.N) : (dat1 V c).after 4 t = out1_4 V c t := by dsimp only [dat1]
theorem after1_5 (c : Dev nD) (t : Fin cfg1.N) : (dat1 V c).after 5 t = out1_5 V c t := by dsimp only [dat1]
theorem after1_6 (c : Dev nD) (t : Fin cfg1.N) : (dat1 V c).after 6 t = out1_6 V c := by dsimp only [dat1]
theorem after1_7 (c : Dev nD) (t : Fin cfg1.N) : (dat1 V c).after 7 t = out1_7 V c := by dsimp only [dat1]
theorem before1_0 (c : Dev nD) (t : Fin cfg1.N) (d) : (dat1 V c).before 0 t d = blk1_0 V c t :=
  ((dat1 V c).before_in_eq_fetched 0 rfl (fun _ => rfl) (fun _ _ _ => rfl) (fun t => by rw [after1_0]; unfold Dat.blockOf; rw [dat1_A]; try rfl) t d).trans (by unfold Dat.fetched Dat.blockOf; rw [dat1_A]; try rfl)
theorem before1_1 (c : Dev nD) (t : Fin cfg1.N) (d) : (dat1 V c).before 1 t d = blk1_1 V c t :=
  ((dat1 V c).before_in_eq_fetched 1 rfl (fun _ => rfl) (fun _ _ _ => rfl) (fun t => by rw [after1_1]; unfold Dat.blockOf; rw [dat1_A]; try rfl) t d).trans (by unfold Dat.fetched Dat.blockOf; rw [dat1_A]; try rfl)
theorem before1_2 (c : Dev nD) (t : Fin cfg1.N) (d) : (dat1 V c).before 2 t d = blk1_2 V c t :=
  ((dat1 V c).before_in_eq_fetched 2 rfl (fun _ => rfl) (fun _ _ _ => rfl) (fun t => by rw [after1_2]; unfold Dat.blockOf; rw [dat1_A]; try rfl) t d).trans (by unfold Dat.fetched Dat.blockOf; rw [dat1_A]; try rfl)
theorem before1_3 (c : Dev nD) (t : Fin cfg1.N) (d) : (dat1 V c).before 3 t d = blk1_3 V c t :=
  ((dat1 V c).before_in_eq_fetched 3 rfl (fun _ => rfl) (fun _ _ _ => rfl) (fun t => by rw [after1_3]; unfold Dat.blockOf; rw [dat1_A]; try rfl) t d).trans (by unfold Dat.fetched Dat.blockOf; rw [dat1_A]; try rfl)

/-- The conditions, as the point's number. -/
theorem hcond1_0 : ∀ t : Fin cfg1.N, cond1_0 (grid1.coords t) ↔ t.val % 36 = 0 :=
  (fun t => by
    have ht : t.val < 36 := Nat.lt_of_lt_of_eq t.isLt N_1
    have e0 : (grid1.coords t 0).val = t.val / 1 % 36 := Pipeline.Grid.coords_val t 0 (by decide) rfl
    simp only [cond1_0, k1_cond1, e0]
    word_cmp : ∀ t : Fin grid1.N, cond1_0 (grid1.coords t) ↔ t.val % 36 = 0)
theorem hcond1_1 : ∀ t : Fin cfg1.N, cond1_1 (grid1.coords t) ↔ t.val % 36 = 35 :=
  (fun t => by
    have ht : t.val < 36 := Nat.lt_of_lt_of_eq t.isLt N_1
    have e0 : (grid1.coords t 0).val = t.val / 1 % 36 := Pipeline.Grid.coords_val t 0 (by decide) rfl
    simp only [cond1_1, k1_cond2, e0]
    word_cmp : ∀ t : Fin grid1.N, cond1_1 (grid1.coords t) ↔ t.val % 36 = 35)
theorem idle1_6_iff (t : Fin cfg1.N) : cfg1.idle 6 (cfg1.grid.coords t) = true ↔ ¬ cond1_1 (grid1.coords t) := by
  show (!(k1_cond2 (grid1.coords t) == 1#1)) = true ↔ _
  simp [cond1_1]
theorem idle1_7_iff (t : Fin cfg1.N) : cfg1.idle 7 (cfg1.grid.coords t) = true ↔ ¬ cond1_0 (grid1.coords t) := by
  show (!(k1_cond1 (grid1.coords t) == 1#1)) = true ↔ _
  simp [cond1_0]
/-- The new history's buffer is at anything until the last point; the scale's is at the scale after the first. -/
theorem fresh1_6 : ∀ t : Fin cfg1.N, cfg1.fresh 6 t.val = true := (by decide +kernel : ∀ t : Fin grid1.N, cfg1.fresh 6 t.val = true)
theorem fresh1_7 : ∀ t : Fin cfg1.N, t.val ≠ 0 → cfg1.fresh 7 t.val = false := (by decide +kernel : ∀ t : Fin grid1.N, t.val ≠ 0 → cfg1.fresh 7 t.val = false)
theorem before1_6 (c : Dev nD) (t : Fin cfg1.N) (d) : (dat1 V c).before 6 t d = d := by
  rw [(dat1 V c).before_out_traj 6 rfl (fun _ _ => rfl) (fun t _ _ _ => by rw [after1_6, after1_6]) t.val t rfl d, fresh1_6, if_pos rfl]
theorem before1_7 (c : Dev nD) (t : Fin cfg1.N) (ht : t.val ≠ 0) (d) : (dat1 V c).before 7 t d = out1_7 V c := by
  rw [(dat1 V c).before_out_traj 7 rfl (fun _ _ => rfl) (fun t _ _ _ => by rw [after1_7, after1_7]) t.val t rfl d, fresh1_7 t ht, if_neg Bool.false_ne_true, after1_7]

/-- What the body is called with at a point, -/
def bodyPre1 (c : Dev nD) (t : Fin cfg1.N) : sProp 𝕄 :=
  iprop((dat1 V c).Φ t.castSucc ∗ (dat1 V c).owesAt () t.castSucc ∗ (∃ d, owns (c : Thread nD τ) ((cfg1.win 0).stage (cfg1.slots t 0)) fullShare ((dat1 V c).before 0 t d)) ∗ (∃ d, owns (c : Thread nD τ) ((cfg1.win 1).stage (cfg1.slots t 1)) fullShare ((dat1 V c).before 1 t d)) ∗ (∃ d, owns (c : Thread nD τ) ((cfg1.win 2).stage (cfg1.slots t 2)) fullShare ((dat1 V c).before 2 t d)) ∗ (∃ d, owns (c : Thread nD τ) ((cfg1.win 3).stage (cfg1.slots t 3)) fullShare ((dat1 V c).before 3 t d)) ∗ (∃ d, owns (c : Thread nD τ) ((cfg1.win 4).stage (cfg1.slots t 4)) fullShare ((dat1 V c).before 4 t d)) ∗ (∃ d, owns (c : Thread nD τ) ((cfg1.win 5).stage (cfg1.slots t 5)) fullShare ((dat1 V c).before 5 t d)) ∗ (∃ d, owns (c : Thread nD τ) ((cfg1.win 6).stage (cfg1.slots t 6)) fullShare ((dat1 V c).before 6 t d)) ∗ (∃ d, owns (c : Thread nD τ) ((cfg1.win 7).stage (cfg1.slots t 7)) fullShare ((dat1 V c).before 7 t d)))
/-- and what it hands back. -/
def bodyPost1 (c : Dev nD) (t : Fin cfg1.N) : sProp 𝕄 :=
  iprop((dat1 V c).Φ t.succ ∗ (dat1 V c).owesAt () t.succ ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t)

set_option maxHeartbeats 1000000 in
/-- The body at every point: the case's run, the scratch taken from and handed back to the invariant. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ, PhiS1_castSucc]
  have hN : t.val < 36 := lt_of_lt_of_eq t.isLt (show cfg1.N = 36 from N_1)
  by_cases h0 : t.val % 36 = 0
  · have h1 : ¬ t.val % 36 = 35 := by omega
    have hc0 := (hcond1_0 t).mpr h0
    have hc1 : ¬ cond1_1 (grid1.coords t) := fun h => h1 ((hcond1_1 t).mp h)
    rw [show (dat1 V c).leavesExact 0 t = owns (c : Thread nD τ) ((cfg1.win 0).stage (cfg1.slots t 0)) fullShare ((dat1 V c).after 0 t) from rfl, after1_0]
    rw [show (dat1 V c).leavesExact 1 t = owns (c : Thread nD τ) ((cfg1.win 1).stage (cfg1.slots t 1)) fullShare ((dat1 V c).after 1 t) from rfl, after1_1]
    rw [show (dat1 V c).leavesExact 2 t = owns (c : Thread nD τ) ((cfg1.win 2).stage (cfg1.slots t 2)) fullShare ((dat1 V c).after 2 t) from rfl, after1_2]
    rw [show (dat1 V c).leavesExact 3 t = owns (c : Thread nD τ) ((cfg1.win 3).stage (cfg1.slots t 3)) fullShare ((dat1 V c).after 3 t) from rfl, after1_3]
    rw [show (dat1 V c).leavesExact 4 t = owns (c : Thread nD τ) ((cfg1.win 4).stage (cfg1.slots t 4)) fullShare ((dat1 V c).after 4 t) from rfl, after1_4]
    rw [show (dat1 V c).leavesExact 5 t = owns (c : Thread nD τ) ((cfg1.win 5).stage (cfg1.slots t 5)) fullShare ((dat1 V c).after 5 t) from rfl, after1_5]
    rw [(dat1 V c).leavesExact_idle 6 t ((idle1_6_iff t).mpr hc1) (Bool.eq_false_iff.mpr fun h => h1 ((flush1_6 t).mp h))]
    rw [show (dat1 V c).leavesExact 7 t = owns (c : Thread nD τ) ((cfg1.win 7).stage (cfg1.slots t 7)) fullShare ((dat1 V c).after 7 t) from by
      unfold Dat.leavesExact; rw [Bool.eq_false_iff.mpr fun h => (idle1_7_iff t).mp h hc0], after1_7]
    rw [PhiS1_zero V c _ _ (by omega), scopedRest1_split]
    obtain rfl : t = first1 := Fin.ext (by simp only; omega)
    iintro ⟨⟨⟨⟨%fs1, HS1⟩, ⟨%fs0, HS0⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_A c (grid1.coords first1) _ _ _ _ _ _ _ _ _ _ _ _ _ _ _ _ _ _ _ _ hc0 hc1 (blk1_0 V c first1) (blk1_1 V c first1) (blk1_2 V c first1) (blk1_3 V c first1) _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexists _; iexact H7
    isplitl [HS0]; · iexists fs0; rw [owns_whole]; iexact HS0
    isplitl [HS1]; · iexists fs1; rw [owns_whole]; iexact HS1
    iintro ⟨H0, H1, H2, H3, H4, H5, H6, H7, HS0, HS1⟩
    isplitl [HS1 HS0 Hg]
    · isplitl [HS1 HS0]
      · isplitl [HS1]; · iexact HS1
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    iexact H7
  · have hc0 : ¬ cond1_0 (grid1.coords t) := fun h => h0 ((hcond1_0 t).mp h)
    by_cases h1 : t.val % 36 = 35
    · have hc1 := (hcond1_1 t).mpr h1
      obtain rfl : t = last1 := Fin.ext (by simp only; omega)
      rw [show (dat1 V c).leavesExact 0 last1 = owns (c : Thread nD τ) ((cfg1.win 0).stage (cfg1.slots last1 0)) fullShare ((dat1 V c).after 0 last1) from rfl, after1_0]
      rw [show (dat1 V c).leavesExact 1 last1 = owns (c : Thread nD τ) ((cfg1.win 1).stage (cfg1.slots last1 1)) fullShare ((dat1 V c).after 1 last1) from rfl, after1_1]
      rw [show (dat1 V c).leavesExact 2 last1 = owns (c : Thread nD τ) ((cfg1.win 2).stage (cfg1.slots last1 2)) fullShare ((dat1 V c).after 2 last1) from rfl, after1_2]
      rw [show (dat1 V c).leavesExact 3 last1 = owns (c : Thread nD τ) ((cfg1.win 3).stage (cfg1.slots last1 3)) fullShare ((dat1 V c).after 3 last1) from rfl, after1_3]
      rw [show (dat1 V c).leavesExact 4 last1 = owns (c : Thread nD τ) ((cfg1.win 4).stage (cfg1.slots last1 4)) fullShare ((dat1 V c).after 4 last1) from rfl, after1_4]
      rw [show (dat1 V c).leavesExact 5 last1 = owns (c : Thread nD τ) ((cfg1.win 5).stage (cfg1.slots last1 5)) fullShare ((dat1 V c).after 5 last1) from rfl, after1_5]
      rw [show (dat1 V c).leavesExact 6 last1 = owns (c : Thread nD τ) ((cfg1.win 6).stage (cfg1.slots last1 6)) fullShare ((dat1 V c).after 6 last1) from by
        unfold Dat.leavesExact; rw [Bool.eq_false_iff.mpr fun h => (idle1_6_iff last1).mp h hc1], after1_6]
      rw [show (dat1 V c).leavesExact 7 last1 = owns (c : Thread nD τ) ((cfg1.win 7).stage (cfg1.slots last1 7)) fullShare ((dat1 V c).after 7 last1) from by
        unfold Dat.leavesExact; rw [(idle1_7_iff last1).mpr hc0, (flush1_7 last1).mpr h1], after1_7]
      rw [show PhiS1 V c (last1 : Fin cfg1.N).val _ = PhiS1 V c (34 + 1) (by decide) from rfl, PhiS1_pos V c 34 _ (by decide)]
      simp only [before1_7 V c last1 (by decide)]
      iintro ⟨⟨⟨HS1, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_C c (grid1.coords last1) _ _ _ _ _ _ _ _ _ _ _ _ _ _ _ _ _ _ _ _ hc0 hc1 (blk1_0 V c last1) (blk1_1 V c last1) (blk1_2 V c last1) (blk1_3 V c last1) _ (am1 V c 34 (by decide)) (sI1 V c) (sP1 V c) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexact H7
      isplitl [HS0]; · iexact HS0
      isplitl [HS1]; · iexact HS1
      iintro ⟨H0, H1, H2, H3, H4, H5, H6, H7, HS0, HS1⟩
      isplitl [HS1 HS0 Hg]
      · isplitl [HS1 HS0]
        · isplitl [HS1]; · iexact HS1
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬ cond1_1 (grid1.coords t) := fun h => h1 ((hcond1_1 t).mp h)
      rw [show (dat1 V c).leavesExact 0 t = owns (c : Thread nD τ) ((cfg1.win 0).stage (cfg1.slots t 0)) fullShare ((dat1 V c).after 0 t) from rfl, after1_0]
      rw [show (dat1 V c).leavesExact 1 t = owns (c : Thread nD τ) ((cfg1.win 1).stage (cfg1.slots t 1)) fullShare ((dat1 V c).after 1 t) from rfl, after1_1]
      rw [show (dat1 V c).leavesExact 2 t = owns (c : Thread nD τ) ((cfg1.win 2).stage (cfg1.slots t 2)) fullShare ((dat1 V c).after 2 t) from rfl, after1_2]
      rw [show (dat1 V c).leavesExact 3 t = owns (c : Thread nD τ) ((cfg1.win 3).stage (cfg1.slots t 3)) fullShare ((dat1 V c).after 3 t) from rfl, after1_3]
      rw [show (dat1 V c).leavesExact 4 t = owns (c : Thread nD τ) ((cfg1.win 4).stage (cfg1.slots t 4)) fullShare ((dat1 V c).after 4 t) from rfl, after1_4]
      rw [show (dat1 V c).leavesExact 5 t = owns (c : Thread nD τ) ((cfg1.win 5).stage (cfg1.slots t 5)) fullShare ((dat1 V c).after 5 t) from rfl, after1_5]
      rw [(dat1 V c).leavesExact_idle 6 t ((idle1_6_iff t).mpr hc1) (Bool.eq_false_iff.mpr fun h => h1 ((flush1_6 t).mp h))]
      rw [(dat1 V c).leavesExact_idle 7 t ((idle1_7_iff t).mpr hc0) (Bool.eq_false_iff.mpr fun h => h1 ((flush1_7 t).mp h))]
      obtain ⟨n, hn⟩ : ∃ n, t.val = n + 1 := ⟨t.val - 1, by omega⟩
      obtain ⟨tv, ht⟩ := t
      simp only at hn; subst hn
      rw [PhiS1_pos V c n _ (by omega)]
      simp only [before1_7 V c ⟨n + 1, ht⟩ (Nat.succ_ne_zero n)]
      iintro ⟨⟨⟨HS1, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_B c (grid1.coords ⟨n + 1, ht⟩) _ _ _ _ _ _ _ _ _ _ _ _ _ _ _ _ _ _ _ _ hc0 hc1 (blk1_0 V c ⟨n + 1, ht⟩) (blk1_1 V c ⟨n + 1, ht⟩) (blk1_2 V c ⟨n + 1, ht⟩) (blk1_3 V c ⟨n + 1, ht⟩) _ _ (am1 V c n (by omega)) (sI1 V c) (sP1 V c) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS1 HS0 Hg]
      · isplitl [HS1 HS0]
        · isplitl [HS1]; · iexact HS1
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7

theorem defs₀_row1 (t : Fin cfg1.N) : defs₀ (F := F) .tc cfg1.body (cfg1.bodyArgs t (cfg1.slots t)) = bodyAt1 t := by
  unfold defs₀; rw [Defs.onTc_tc]
/-- The body obligation of region 1. -/
theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl
/-- The invariant at the start, from the scoped buffers, -/
theorem hin1 (c : Dev nD) : iprop(Pipeline.scopedRest spec1 c ∗ BI.emp) ⊢ (dat1 V c).Φ 0 := by
  rw [show (dat1 V c).Φ 0 = PhiS1 V c 0 (Nat.zero_le _) from rfl, PhiS1_zero V c _ _ rfl]
  iintro ⟨H, -⟩; iexact H
/-- and the scoped buffers back at the end. -/
theorem hout1 (c : Dev nD) : (dat1 V c).Φ (Fin.last cfg1.N) ⊢ iprop(Pipeline.scopedRest spec1 c ∗ BI.emp) := by
  rw [show (dat1 V c).Φ (Fin.last cfg1.N) = PhiS1 V c (35 + 1) (by decide) from rfl, PhiS1_pos V c 35 _ (by decide), scopedRest1_split]
  simp only [owns_whole]
  iintro ⟨⟨HS1, HS0⟩, Hg⟩
  isplitl [HS1 HS0 Hg]
  · isplitl [HS1 HS0]
    · isplitl [HS1]; · iexists (am1 V c 35 (by decide)); iexact HS1
      iexists (pair (sI1 V c) (sP1 V c)); iexact HS0
    iexact Hg
  iempintro

end Cert.KernelIdeal.Own

end
-- ==== Proof.KI.Run2.lean ====
/- The body of the backward matmul for dx (`bwd_dx`), run once per case of its two conditions, with the values every buffer holds afterwards named. Stated at any float family. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp
public import proofs.«01_k».proof.Proof.KI.Base

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The activation's scale, from its amax history: a power of two, as a one-element vector. -/
def scale2 (h : Vec F S1x16 .f32) : FVec F S1x1 .f32 := k2_pay9 (k2_pay3 h) (k2_pay5 h) (k2_pay6 h) k2_pay7
/-- The scale's inverse, a scalar. -/
def inv2 (h : Vec F S1x16 .f32) : F .f32 :=
  k2_pay19 (k2_pay14 (k2_pay10 (k2_pay3 h) (k2_pay5 h) (k2_pay6 h) k2_pay7) (k2_pay11 (k2_pay3 h) (k2_pay5 h) (k2_pay6 h) k2_pay7) (k2_pay12 (k2_pay3 h) (k2_pay5 h) (k2_pay6 h) k2_pay7) 255#32 k2_pay13)
/-- The product of the activation's scale and the weight's. -/
def prod2 (h : Vec F S1x16 .f32) (hw : Vec F S1x16 .f32) : F .f32 :=
  k2_pay20 (scale2 h) (k2_pay15 hw) (k2_pay16 hw) (k2_pay17 hw) (k2_pay18 hw)

/-- The first point's condition. -/
abbrev cond2_0 (i : grid2.Coords) : Prop := k2_cond1 i = 1#1
/-- The last point's condition. -/
abbrev cond2_1 (i : grid2.Coords) : Prop := k2_cond2 i = 1#1

set_option maxHeartbeats 2000000 in
/-- The first point: the scale, its inverse and the product of the scales are computed from the histories, the amax starts at zero and takes the block in, the block is quantised, multiplied and scaled; the new history is left alone. -/
theorem run2_A (c : Dev nD) (i : grid2.Coords) (arg1 : Memref sig .tc .vmem S1x16 .f32) (harg1 : arg1.IsWhole) (arg2 : Memref sig .tc .vmem S1x16 .f32) (harg2 : arg2.IsWhole) (arg3 : Memref sig .tc .vmem S512x3456 .bf16) (harg3 : arg3.IsWhole) (arg4 : Memref sig .tc .vmem S5120x3456 .fp8e4m3) (harg4 : arg4.IsWhole) (arg5 : Memref sig .tc .vmem S1x512x5120 .bf16) (harg5 : arg5.IsWhole) (arg6 : Memref sig .tc .vmem S512x3456 .fp8e5m2) (harg6 : arg6.IsWhole) (arg7 : Memref sig .tc .vmem S1x16 .f32) (harg7 : arg7.IsWhole) (arg8 : Memref sig .tc .vmem S1x1 .f32) (harg8 : arg8.IsWhole) (arg9 : Memref sig .tc .smem S2 .f32) (harg9 : arg9.IsWhole) (arg10 : Memref sig .tc .vmem S8x128 .f32) (harg10 : arg10.IsWhole) (hc0 : cond2_0 i) (hc1 : ¬cond2_1 i)
    (x0 : Vec F S1x16 .f32) (x1 : Vec F S1x16 .f32) (x2 : Vec F S512x3456 .bf16) (x3 : Vec F S5120x3456 .fp8e4m3) (x6 : Vec F S1x16 .f32)  (E : Set ℕ) (K : PUnit → sProp 𝕄) :
    iprop(owns (c : Thread nD τ) arg1 fullShare (x0 : Vec F S1x16 .f32) ∗ owns (c : Thread nD τ) arg2 fullShare (x1 : Vec F S1x16 .f32) ∗ owns (c : Thread nD τ) arg3 fullShare (x2 : Vec F S512x3456 .bf16) ∗ owns (c : Thread nD τ) arg4 fullShare (x3 : Vec F S5120x3456 .fp8e4m3) ∗ (∃ d, owns (c : Thread nD τ) arg5 fullShare d) ∗ (∃ d, owns (c : Thread nD τ) arg6 fullShare d) ∗ owns (c : Thread nD τ) arg7 fullShare (x6 : Vec F S1x16 .f32) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare (x0 : Vec F S1x16 .f32) ∗ owns (c : Thread nD τ) arg2 fullShare (x1 : Vec F S1x16 .f32) ∗ owns (c : Thread nD τ) arg3 fullShare (x2 : Vec F S512x3456 .bf16) ∗ owns (c : Thread nD τ) arg4 fullShare (x3 : Vec F S5120x3456 .fp8e4m3) ∗ owns (c : Thread nD τ) arg5 fullShare (k2_pay1 (k2_pay25 x2 (inv2 x0) x3 (prod2 x0 x1)) : Vec F S1x512x5120 .bf16) ∗ owns (c : Thread nD τ) arg6 fullShare (k2_pay24 x2 (inv2 x0) : Vec F S512x3456 .fp8e5m2) ∗ owns (c : Thread nD τ) arg7 fullShare (x6 : Vec F S1x16 .f32) ∗ owns (c : Thread nD τ) arg8 fullShare (scale2 x0 : Vec F S1x1 .f32) ∗ owns (c : Thread nD τ) arg9 fullShare (pair (inv2 x0) (prod2 x0 x1) : Vec F S2 .f32) ∗ owns (c : Thread nD τ) arg10 fullShare (k2_pay23 x2 k2_pay21 : Vec F S8x128 .f32)) -∗ K ⟨⟩))
      ⊢ wp frame (wpE (defs₀ (F := F)) Variants.none c none) E (cc2_bwd_dx i arg1 harg1 arg2 harg2 arg3 harg3 arg4 harg4 arg5 harg5 arg6 harg6 arg7 harg7 arg8 harg8 arg9 harg9 arg10 harg10) K := by
  simp only [cc2_bwd_dx_eq_skeleton]; unfold cc2_bwd_dx_skel
  simp only [k2_part5_eq_skeleton, k2_part1_eq_skeleton, k2_part2_eq_skeleton, k2_part3_eq_skeleton, k2_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine (View.read_writes_full _ _ _ _ _).trans ?_
    sl_unfold_words
    try simp only [View.readAt_eq_ld, harg1.read_unread, harg2.read_unread, harg3.read_unread, harg4.read_unread, harg7.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
    first | done | rfl
  isplitl [H5]
  · iexists _; isplitr; swap; · iexact H5
    ipureintro
    refine (View.read_writes_full _ _ _ _ _).trans ?_
    sl_unfold_words
    try simp only [View.readAt_eq_ld, harg1.read_unread, harg2.read_unread, harg3.read_unread, harg4.read_unread, harg7.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
    first | done | rfl
  isplitl [H6]
  · iexists _; isplitr; · ipureintro; exact harg7.read_unread _
    iexact H6
  isplitl [H7]
  · iexists _; isplitr; swap; · iexact H7
    ipureintro
    refine (View.read_writes_full _ _ _ _ _).trans ?_
    sl_unfold_words
    try simp only [View.readAt_eq_ld, harg1.read_unread, harg2.read_unread, harg3.read_unread, harg4.read_unread, harg7.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
    first | done | rfl
  isplitl [H8]
  · iexists _; isplitr; swap; · iexact H8
    ipureintro
    refine (smem2_read _ _ _ _).trans ?_
    sl_unfold_words
    try simp only [View.readAt_eq_ld, harg1.read_unread, harg2.read_unread, harg3.read_unread, harg4.read_unread, harg7.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
    first | done | rfl
  iexists _; isplitr; swap; · iexact H9
  ipureintro
  refine (View.read_writes_full _ _ _ _ _).trans ?_
  sl_unfold_words
  try simp only [View.readAt_eq_ld, harg1.read_unread, harg2.read_unread, harg3.read_unread, harg4.read_unread, harg7.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
  first | done | rfl

set_option maxHeartbeats 2000000 in
/-- A point between: the amax takes the block in, and the block is quantised, multiplied and scaled with the two scalars held in scalar memory. -/
theorem run2_B (c : Dev nD) (i : grid2.Coords) (arg1 : Memref sig .tc .vmem S1x16 .f32) (harg1 : arg1.IsWhole) (arg2 : Memref sig .tc .vmem S1x16 .f32) (harg2 : arg2.IsWhole) (arg3 : Memref sig .tc .vmem S512x3456 .bf16) (harg3 : arg3.IsWhole) (arg4 : Memref sig .tc .vmem S5120x3456 .fp8e4m3) (harg4 : arg4.IsWhole) (arg5 : Memref sig .tc .vmem S1x512x5120 .bf16) (harg5 : arg5.IsWhole) (arg6 : Memref sig .tc .vmem S512x3456 .fp8e5m2) (harg6 : arg6.IsWhole) (arg7 : Memref sig .tc .vmem S1x16 .f32) (harg7 : arg7.IsWhole) (arg8 : Memref sig .tc .vmem S1x1 .f32) (harg8 : arg8.IsWhole) (arg9 : Memref sig .tc .smem S2 .f32) (harg9 : arg9.IsWhole) (arg10 : Memref sig .tc .vmem S8x128 .f32) (harg10 : arg10.IsWhole) (hc0 : ¬cond2_0 i) (hc1 : ¬cond2_1 i)
    (x0 : Vec F S1x16 .f32) (x1 : Vec F S1x16 .f32) (x2 : Vec F S512x3456 .bf16) (x3 : Vec F S5120x3456 .fp8e4m3) (x6 : Vec F S1x16 .f32) (x7 : Vec F S1x1 .f32) (x9 : Vec F S8x128 .f32) (s0 s1 : Elt F .f32) (E : Set ℕ) (K : PUnit → sProp 𝕄) :
    iprop(owns (c : Thread nD τ) arg1 fullShare (x0 : Vec F S1x16 .f32) ∗ owns (c : Thread nD τ) arg2 fullShare (x1 : Vec F S1x16 .f32) ∗ owns (c : Thread nD τ) arg3 fullShare (x2 : Vec F S512x3456 .bf16) ∗ owns (c : Thread nD τ) arg4 fullShare (x3 : Vec F S5120x3456 .fp8e4m3) ∗ (∃ d, owns (c : Thread nD τ) arg5 fullShare d) ∗ (∃ d, owns (c : Thread nD τ) arg6 fullShare d) ∗ owns (c : Thread nD τ) arg7 fullShare (x6 : Vec F S1x16 .f32) ∗ owns (c : Thread nD τ) arg8 fullShare (x7 : Vec F S1x1 .f32) ∗ owns (c : Thread nD τ) arg9 fullShare (pair s0 s1 : Vec F S2 .f32) ∗ owns (c : Thread nD τ) arg10 fullShare (x9 : Vec F S8x128 .f32)
        ∗ (iprop(owns (c : Thread nD τ) arg1 fullShare (x0 : Vec F S1x16 .f32) ∗ owns (c : Thread nD τ) arg2 fullShare (x1 : Vec F S1x16 .f32) ∗ owns (c : Thread nD τ) arg3 fullShare (x2 : Vec F S512x3456 .bf16) ∗ owns (c : Thread nD τ) arg4 fullShare (x3 : Vec F S5120x3456 .fp8e4m3) ∗ owns (c : Thread nD τ) arg5 fullShare (k2_pay1 (k2_pay25 x2 s0 x3 s1) : Vec F S1x512x5120 .bf16) ∗ owns (c : Thread nD τ) arg6 fullShare (k2_pay24 x2 s0 : Vec F S512x3456 .fp8e5m2) ∗ owns (c : Thread nD τ) arg7 fullShare (x6 : Vec F S1x16 .f32) ∗ owns (c : Thread nD τ) arg8 fullShare (x7 : Vec F S1x1 .f32) ∗ owns (c : Thread nD τ) arg9 fullShare (pair s0 s1 : Vec F S2 .f32) ∗ owns (c : Thread nD τ) arg10 fullShare (k2_pay23 x2 x9 : Vec F S8x128 .f32)) -∗ K ⟨⟩))
      ⊢ wp frame (wpE (defs₀ (F := F)) Variants.none c none) E (cc2_bwd_dx i arg1 harg1 arg2 harg2 arg3 harg3 arg4 harg4 arg5 harg5 arg6 harg6 arg7 harg7 arg8 harg8 arg9 harg9 arg10 harg10) K := by
  simp only [cc2_bwd_dx_eq_skeleton]; unfold cc2_bwd_dx_skel
  simp only [k2_part5_eq_skeleton, k2_part1_eq_skeleton, k2_part2_eq_skeleton, k2_part3_eq_skeleton, k2_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg7.eq_unread hf6; obtain rfl := harg8.eq_unread hf7; obtain rfl := harg9.eq_unread hf8; obtain rfl := harg10.eq_unread hf9
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine (View.read_writes_full _ _ _ _ _).trans ?_
    sl_unfold_words
    try simp only [View.readAt_eq_ld, harg1.read_unread, harg2.read_unread, harg3.read_unread, harg4.read_unread, harg7.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
    first | done | rfl
  isplitl [H5]
  · iexists _; isplitr; swap; · iexact H5
    ipureintro
    refine (View.read_writes_full _ _ _ _ _).trans ?_
    sl_unfold_words
    try simp only [View.readAt_eq_ld, harg1.read_unread, harg2.read_unread, harg3.read_unread, harg4.read_unread, harg7.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
    first | done | rfl
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  iexists _; isplitr; swap; · iexact H9
  ipureintro
  refine (View.read_writes_full _ _ _ _ _).trans ?_
  sl_unfold_words
  try simp only [View.readAt_eq_ld, harg1.read_unread, harg2.read_unread, harg3.read_unread, harg4.read_unread, harg7.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
  first | done | rfl

set_option maxHeartbeats 2000000 in
/-- The last point: as between, and the new history is the old one shifted with the amax appended. -/
theorem run2_C (c : Dev nD) (i : grid2.Coords) (arg1 : Memref sig .tc .vmem S1x16 .f32) (harg1 : arg1.IsWhole) (arg2 : Memref sig .tc .vmem S1x16 .f32) (harg2 : arg2.IsWhole) (arg3 : Memref sig .tc .vmem S512x3456 .bf16) (harg3 : arg3.IsWhole) (arg4 : Memref sig .tc .vmem S5120x3456 .fp8e4m3) (harg4 : arg4.IsWhole) (arg5 : Memref sig .tc .vmem S1x512x5120 .bf16) (harg5 : arg5.IsWhole) (arg6 : Memref sig .tc .vmem S512x3456 .fp8e5m2) (harg6 : arg6.IsWhole) (arg7 : Memref sig .tc .vmem S1x16 .f32) (harg7 : arg7.IsWhole) (arg8 : Memref sig .tc .vmem S1x1 .f32) (harg8 : arg8.IsWhole) (arg9 : Memref sig .tc .smem S2 .f32) (harg9 : arg9.IsWhole) (arg10 : Memref sig .tc .vmem S8x128 .f32) (harg10 : arg10.IsWhole) (hc0 : ¬cond2_0 i) (hc1 : cond2_1 i)
    (x0 : Vec F S1x16 .f32) (x1 : Vec F S1x16 .f32) (x2 : Vec F S512x3456 .bf16) (x3 : Vec F S5120x3456 .fp8e4m3) (x7 : Vec F S1x1 .f32) (x9 : Vec F S8x128 .f32) (s0 s1 : Elt F .f32) (E : Set ℕ) (K : PUnit → sProp 𝕄) :
    iprop(owns (c : Thread nD τ) arg1 fullShare (x0 : Vec F S1x16 .f32) ∗ owns (c : Thread nD τ) arg2 fullShare (x1 : Vec F S1x16 .f32) ∗ owns (c : Thread nD τ) arg3 fullShare (x2 : Vec F S512x3456 .bf16) ∗ owns (c : Thread nD τ) arg4 fullShare (x3 : Vec F S5120x3456 .fp8e4m3) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare (x7 : Vec F S1x1 .f32) ∗ owns (c : Thread nD τ) arg9 fullShare (pair s0 s1 : Vec F S2 .f32) ∗ owns (c : Thread nD τ) arg10 fullShare (x9 : Vec F S8x128 .f32)
        ∗ (iprop(owns (c : Thread nD τ) arg1 fullShare (x0 : Vec F S1x16 .f32) ∗ owns (c : Thread nD τ) arg2 fullShare (x1 : Vec F S1x16 .f32) ∗ owns (c : Thread nD τ) arg3 fullShare (x2 : Vec F S512x3456 .bf16) ∗ owns (c : Thread nD τ) arg4 fullShare (x3 : Vec F S5120x3456 .fp8e4m3) ∗ owns (c : Thread nD τ) arg5 fullShare (k2_pay1 (k2_pay25 x2 s0 x3 s1) : Vec F S1x512x5120 .bf16) ∗ owns (c : Thread nD τ) arg6 fullShare (k2_pay24 x2 s0 : Vec F S512x3456 .fp8e5m2) ∗ owns (c : Thread nD τ) arg7 fullShare (k2_pay2 x0 (k2_pay23 x2 x9) : Vec F S1x16 .f32) ∗ owns (c : Thread nD τ) arg8 fullShare (x7 : Vec F S1x1 .f32) ∗ owns (c : Thread nD τ) arg9 fullShare (pair s0 s1 : Vec F S2 .f32) ∗ owns (c : Thread nD τ) arg10 fullShare (k2_pay23 x2 x9 : Vec F S8x128 .f32)) -∗ K ⟨⟩))
      ⊢ wp frame (wpE (defs₀ (F := F)) Variants.none c none) E (cc2_bwd_dx i arg1 harg1 arg2 harg2 arg3 harg3 arg4 harg4 arg5 harg5 arg6 harg6 arg7 harg7 arg8 harg8 arg9 harg9 arg10 harg10) K := by
  simp only [cc2_bwd_dx_eq_skeleton]; unfold cc2_bwd_dx_skel
  simp only [k2_part5_eq_skeleton, k2_part1_eq_skeleton, k2_part2_eq_skeleton, k2_part3_eq_skeleton, k2_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg8.eq_unread hf7; obtain rfl := harg9.eq_unread hf8; obtain rfl := harg10.eq_unread hf9
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine (View.read_writes_full _ _ _ _ _).trans ?_
    sl_unfold_words
    try simp only [View.readAt_eq_ld, harg1.read_unread, harg2.read_unread, harg3.read_unread, harg4.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
    first | done | rfl
  isplitl [H5]
  · iexists _; isplitr; swap; · iexact H5
    ipureintro
    refine (View.read_writes_full _ _ _ _ _).trans ?_
    sl_unfold_words
    try simp only [View.readAt_eq_ld, harg1.read_unread, harg2.read_unread, harg3.read_unread, harg4.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
    first | done | rfl
  isplitl [H6]
  · iexists _; isplitr; swap; · iexact H6
    ipureintro
    refine (View.read_writes_full _ _ _ _ _).trans ?_
    sl_unfold_words
    try simp only [View.readAt_eq_ld, harg1.read_unread, harg2.read_unread, harg3.read_unread, harg4.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
    first | done | rfl
  isplitl [H7]
  · iexists _; isplitr; · ipureintro; exact harg8.read_unread _
    iexact H7
  isplitl [H8]
  · iexists _; isplitr; · ipureintro; exact harg9.read_unread _
    iexact H8
  iexists _; isplitr; swap; · iexact H9
  ipureintro
  refine (View.read_writes_full _ _ _ _ _).trans ?_
  sl_unfold_words
  try simp only [View.readAt_eq_ld, harg1.read_unread, harg2.read_unread, harg3.read_unread, harg4.read_unread, harg8.read_unread, harg9.read_unread, harg10.read_unread, View.ld_unit_zero (S := S1x1) hz2, View.readCov_unit_zero (S := S1x1) _ hz2, View.ld_unit_zero (S := S1x16) hz2, View.readCov_unit_zero (S := S1x16) _ hz2, View.ld_unit_zero (S := S1x512x5120) hz3, View.readCov_unit_zero (S := S1x512x5120) _ hz3, View.ld_unit_zero (S := S2) hz1, View.readCov_unit_zero (S := S2) _ hz1, View.ld_unit_zero (S := S5120x3456) hz2, View.readCov_unit_zero (S := S5120x3456) _ hz2, View.ld_unit_zero (S := S512x3456) hz2, View.readCov_unit_zero (S := S512x3456) _ hz2, View.ld_unit_zero (S := S8x128) hz2, View.readCov_unit_zero (S := S8x128) _ hz2]
  first | done | rfl

end Cert.KernelIdeal.Own

end
-- ==== Proof.KI.Dat2.lean ====
/- Region 2 of the program: the proof data over any entry contents of the buffers, and the body obligation. Stated at any float family. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp
public import Idealize.ShloMosaic.Lib.Pipeline.TableIdle
public import proofs.«01_k».proof.Proof.KI.Run2

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- The first and the last grid point of region 2. -/
abbrev first2 : Fin cfg2.N := ⟨0, by decide⟩
abbrev last2 : Fin cfg2.N := ⟨35, by decide⟩

/-- An input window's block at a point, of the arrays at the entry contents. -/
abbrev iblk2 (c : Dev nD) (w : Fin cfg2.W) (t : Fin cfg2.N) := ((cfg2.win w).blk t).view.read (Elt F) (V c (Proc.devRef .tc (Pipeline.arrRef spec2 w)))
abbrev blk2_0 (c : Dev nD) (t : Fin cfg2.N) : Vec F S1x16 .f32 := iblk2 V c 0 t
abbrev blk2_1 (c : Dev nD) (t : Fin cfg2.N) : Vec F S1x16 .f32 := iblk2 V c 1 t
abbrev blk2_2 (c : Dev nD) (t : Fin cfg2.N) : Vec F S512x3456 .bf16 := iblk2 V c 2 t
abbrev blk2_3 (c : Dev nD) (t : Fin cfg2.N) : Vec F S5120x3456 .fp8e4m3 := iblk2 V c 3 t

/-- The inverse scale and the product of the scales, held in scalar memory. -/
def sI2 (c : Dev nD) : Elt F .f32 := inv2 (blk2_0 V c first2)
def sP2 (c : Dev nD) : Elt F .f32 := prod2 (blk2_0 V c first2) (blk2_1 V c first2)
/-- The scratch amax after a point: the maximum folded over the blocks so far. -/
def am2 (c : Dev nD) : (n : ℕ) → n < cfg2.N → Vec F S8x128 .f32
  | 0, h => k2_pay23 (blk2_2 V c ⟨0, h⟩) k2_pay21
  | n + 1, h => k2_pay23 (blk2_2 V c ⟨n + 1, h⟩) (am2 c n (Nat.lt_of_succ_lt h))
/-- What each output's buffer holds after a point. -/
def out2_4 (c : Dev nD) (t : Fin cfg2.N) : Vec F S1x512x5120 .bf16 := k2_pay1 (k2_pay25 (blk2_2 V c t) (sI2 V c) (blk2_3 V c t) (sP2 V c))
def out2_5 (c : Dev nD) (t : Fin cfg2.N) : Vec F S512x3456 .fp8e5m2 := k2_pay24 (blk2_2 V c t) (sI2 V c)
def out2_6 (c : Dev nD) : Vec F S1x16 .f32 := k2_pay2 (blk2_0 V c last2) (am2 V c last2.val last2.isLt)
def out2_7 (c : Dev nD) : Vec F S1x1 .f32 := scale2 (blk2_0 V c first2)

/-- The invariant: before the first point every scoped buffer at anything, then the scratch at what the points so far left. -/
def PhiS2 (c : Dev nD) : (n : ℕ) → n ≤ cfg2.N → sProp 𝕄
  | 0, _ => Pipeline.scopedRest (Ix := Unit) (Name := ℕ) (U := UR sig nD τ) (Lvl := ℕ) (Val := Elt F) spec2 c
  | n + 1, h => iprop(iprop(owns (c : Thread nD τ) (Memref.whole cc2_scratch1) fullShare (am2 V c n h) ∗ owns (c : Thread nD τ) (Memref.whole cc2_scratch0) fullShare (pair (sI2 V c) (sP2 V c))) ∗ Pipeline.scopedRestBut (Ix := Unit) (Name := ℕ) (U := UR sig nD τ) (Lvl := ℕ) (Val := Elt F) spec2 c [cc2_scratch1, cc2_scratch0])
theorem PhiS2_zero (c : Dev nD) (n : ℕ) (h : n ≤ cfg2.N) (hz : n = 0) : PhiS2 V c n h = Pipeline.scopedRest (Ix := Unit) (Name := ℕ) (U := UR sig nD τ) (Lvl := ℕ) (Val := Elt F) spec2 c := by
  subst hz; rfl
theorem PhiS2_succ (c : Dev nD) (n : ℕ) (h : n < cfg2.N) : PhiS2 V c (n + 1) h = iprop(iprop(owns (c : Thread nD τ) (Memref.whole cc2_scratch1) fullShare (am2 V c n h) ∗ owns (c : Thread nD τ) (Memref.whole cc2_scratch0) fullShare (pair (sI2 V c) (sP2 V c))) ∗ Pipeline.scopedRestBut (Ix := Unit) (Name := ℕ) (U := UR sig nD τ) (Lvl := ℕ) (Val := Elt F) spec2 c [cc2_scratch1, cc2_scratch0]) := rfl
theorem PhiS2_pos (c : Dev nD) (n : ℕ) (h' : n + 1 ≤ cfg2.N) (h : n < cfg2.N) : PhiS2 V c (n + 1) h' = iprop(iprop(owns (c : Thread nD τ) (Memref.whole cc2_scratch1) fullShare (am2 V c n h) ∗ owns (c : Thread nD τ) (Memref.whole cc2_scratch0) fullShare (pair (sI2 V c) (sP2 V c))) ∗ Pipeline.scopedRestBut (Ix := Unit) (Name := ℕ) (U := UR sig nD τ) (Lvl := ℕ) (Val := Elt F) spec2 c [cc2_scratch1, cc2_scratch0]) := rfl

/-- The region's proof data at entry contents `V`. -/
def dat2 (c : Dev nD) : Dat τ (Elt F) Unit ℕ (UR sig nD τ) ℕ cfg2 c where
  A w := V c (Proc.devRef .tc (Pipeline.arrRef spec2 w))
  after w t := match w with
    | ⟨0, _⟩ => blk2_0 V c t
    | ⟨1, _⟩ => blk2_1 V c t
    | ⟨2, _⟩ => blk2_2 V c t
    | ⟨3, _⟩ => blk2_3 V c t
    | ⟨4, _⟩ => out2_4 V c t
    | ⟨5, _⟩ => out2_5 V c t
    | ⟨6, _⟩ => out2_6 V c
    | ⟨7, _⟩ => out2_7 V c
  Φ t := PhiS2 V c t.val (Nat.le_of_lt_succ t.isLt)
  q _ := fullShare
  owed _ := 0

theorem dat2_A (c : Dev nD) (w : Fin cfg2.W) : (dat2 V c).A w = V c (Proc.devRef .tc (Pipeline.arrRef spec2 w)) := by dsimp only [dat2]
theorem PhiS2_castSucc (c : Dev nD) (t : Fin cfg2.N) : (dat2 V c).Φ t.castSucc = PhiS2 V c t.val (Nat.le_of_lt t.isLt) := by
  dsimp only [dat2]; exact Pipeline.Dat.Φ_castSucc (PhiS2 V c) t
theorem after2_0 (c : Dev nD) (t : Fin cfg2.N) : (dat2 V c).after 0 t = blk2_0 V c t := by dsimp only [dat2]
theorem after2_1 (c : Dev nD) (t : Fin cfg2.N) : (dat2 V c).after 1 t = blk2_1 V c t := by dsimp only [dat2]
theorem after2_2 (c : Dev nD) (t : Fin cfg2.N) : (dat2 V c).after 2 t = blk2_2 V c t := by dsimp only [dat2]
theorem after2_3 (c : Dev nD) (t : Fin cfg2.N) : (dat2 V c).after 3 t = blk2_3 V c t := by dsimp only [dat2]
theorem after2_4 (c : Dev nD) (t : Fin cfg2.N) : (dat2 V c).after 4 t = out2_4 V c t := by dsimp only [dat2]
theorem after2_5 (c : Dev nD) (t : Fin cfg2.N) : (dat2 V c).after 5 t = out2_5 V c t := by dsimp only [dat2]
theorem after2_6 (c : Dev nD) (t : Fin cfg2.N) : (dat2 V c).after 6 t = out2_6 V c := by dsimp only [dat2]
theorem after2_7 (c : Dev nD) (t : Fin cfg2.N) : (dat2 V c).after 7 t = out2_7 V c := by dsimp only [dat2]
theorem before2_0 (c : Dev nD) (t : Fin cfg2.N) (d) : (dat2 V c).before 0 t d = blk2_0 V c t :=
  ((dat2 V c).before_in_eq_fetched 0 rfl (fun _ => rfl) (fun _ _ _ => rfl) (fun t => by rw [after2_0]; unfold Dat.blockOf; rw [dat2_A]; try rfl) t d).trans (by unfold Dat.fetched Dat.blockOf; rw [dat2_A]; try rfl)
theorem before2_1 (c : Dev nD) (t : Fin cfg2.N) (d) : (dat2 V c).before 1 t d = blk2_1 V c t :=
  ((dat2 V c).before_in_eq_fetched 1 rfl (fun _ => rfl) (fun _ _ _ => rfl) (fun t => by rw [after2_1]; unfold Dat.blockOf; rw [dat2_A]; try rfl) t d).trans (by unfold Dat.fetched Dat.blockOf; rw [dat2_A]; try rfl)
theorem before2_2 (c : Dev nD) (t : Fin cfg2.N) (d) : (dat2 V c).before 2 t d = blk2_2 V c t :=
  ((dat2 V c).before_in_eq_fetched 2 rfl (fun _ => rfl) (fun _ _ _ => rfl) (fun t => by rw [after2_2]; unfold Dat.blockOf; rw [dat2_A]; try rfl) t d).trans (by unfold Dat.fetched Dat.blockOf; rw [dat2_A]; try rfl)
theorem before2_3 (c : Dev nD) (t : Fin cfg2.N) (d) : (dat2 V c).before 3 t d = blk2_3 V c t :=
  ((dat2 V c).before_in_eq_fetched 3 rfl (fun _ => rfl) (fun _ _ _ => rfl) (fun t => by rw [after2_3]; unfold Dat.blockOf; rw [dat2_A]; try rfl) t d).trans (by unfold Dat.fetched Dat.blockOf; rw [dat2_A]; try rfl)

/-- The conditions, as the point's number. -/
theorem hcond2_0 : ∀ t : Fin cfg2.N, cond2_0 (grid2.coords t) ↔ t.val % 36 = 0 :=
  (fun t => by
    have ht : t.val < 36 := Nat.lt_of_lt_of_eq t.isLt N_2
    have e0 : (grid2.coords t 0).val = t.val / 1 % 36 := Pipeline.Grid.coords_val t 0 (by decide) rfl
    simp only [cond2_0, k2_cond1, e0]
    word_cmp : ∀ t : Fin grid2.N, cond2_0 (grid2.coords t) ↔ t.val % 36 = 0)
theorem hcond2_1 : ∀ t : Fin cfg2.N, cond2_1 (grid2.coords t) ↔ t.val % 36 = 35 :=
  (fun t => by
    have ht : t.val < 36 := Nat.lt_of_lt_of_eq t.isLt N_2
    have e0 : (grid2.coords t 0).val = t.val / 1 % 36 := Pipeline.Grid.coords_val t 0 (by decide) rfl
    simp only [cond2_1, k2_cond2, e0]
    word_cmp : ∀ t : Fin grid2.N, cond2_1 (grid2.coords t) ↔ t.val % 36 = 35)
theorem idle2_6_iff (t : Fin cfg2.N) : cfg2.idle 6 (cfg2.grid.coords t) = true ↔ ¬ cond2_1 (grid2.coords t) := by
  show (!(k2_cond2 (grid2.coords t) == 1#1)) = true ↔ _
  simp [cond2_1]
theorem idle2_7_iff (t : Fin cfg2.N) : cfg2.idle 7 (cfg2.grid.coords t) = true ↔ ¬ cond2_0 (grid2.coords t) := by
  show (!(k2_cond1 (grid2.coords t) == 1#1)) = true ↔ _
  simp [cond2_0]
/-- The new history's buffer is at anything until the last point; the scale's is at the scale after the first. -/
theorem fresh2_6 : ∀ t : Fin cfg2.N, cfg2.fresh 6 t.val = true := (by decide +kernel : ∀ t : Fin grid2.N, cfg2.fresh 6 t.val = true)
theorem fresh2_7 : ∀ t : Fin cfg2.N, t.val ≠ 0 → cfg2.fresh 7 t.val = false := (by decide +kernel : ∀ t : Fin grid2.N, t.val ≠ 0 → cfg2.fresh 7 t.val = false)
theorem before2_6 (c : Dev nD) (t : Fin cfg2.N) (d) : (dat2 V c).before 6 t d = d := by
  rw [(dat2 V c).before_out_traj 6 rfl (fun _ _ => rfl) (fun t _ _ _ => by rw [after2_6, after2_6]) t.val t rfl d, fresh2_6, if_pos rfl]
theorem before2_7 (c : Dev nD) (t : Fin cfg2.N) (ht : t.val ≠ 0) (d) : (dat2 V c).before 7 t d = out2_7 V c := by
  rw [(dat2 V c).before_out_traj 7 rfl (fun _ _ => rfl) (fun t _ _ _ => by rw [after2_7, after2_7]) t.val t rfl d, fresh2_7 t ht, if_neg Bool.false_ne_true, after2_7]

/-- What the body is called with at a point, -/
def bodyPre2 (c : Dev nD) (t : Fin cfg2.N) : sProp 𝕄 :=
  iprop((dat2 V c).Φ t.castSucc ∗ (dat2 V c).owesAt () t.castSucc ∗ (∃ d, owns (c : Thread nD τ) ((cfg2.win 0).stage (cfg2.slots t 0)) fullShare ((dat2 V c).before 0 t d)) ∗ (∃ d, owns (c : Thread nD τ) ((cfg2.win 1).stage (cfg2.slots t 1)) fullShare ((dat2 V c).before 1 t d)) ∗ (∃ d, owns (c : Thread nD τ) ((cfg2.win 2).stage (cfg2.slots t 2)) fullShare ((dat2 V c).before 2 t d)) ∗ (∃ d, owns (c : Thread nD τ) ((cfg2.win 3).stage (cfg2.slots t 3)) fullShare ((dat2 V c).before 3 t d)) ∗ (∃ d, owns (c : Thread nD τ) ((cfg2.win 4).stage (cfg2.slots t 4)) fullShare ((dat2 V c).before 4 t d)) ∗ (∃ d, owns (c : Thread nD τ) ((cfg2.win 5).stage (cfg2.slots t 5)) fullShare ((dat2 V c).before 5 t d)) ∗ (∃ d, owns (c : Thread nD τ) ((cfg2.win 6).stage (cfg2.slots t 6)) fullShare ((dat2 V c).before 6 t d)) ∗ (∃ d, owns (c : Thread nD τ) ((cfg2.win 7).stage (cfg2.slots t 7)) fullShare ((dat2 V c).before 7 t d)))
/-- and what it hands back. -/
def bodyPost2 (c : Dev nD) (t : Fin cfg2.N) : sProp 𝕄 :=
  iprop((dat2 V c).Φ t.succ ∗ (dat2 V c).owesAt () t.succ ∗ (dat2 V c).leavesExact 0 t ∗ (dat2 V c).leavesExact 1 t ∗ (dat2 V c).leavesExact 2 t ∗ (dat2 V c).leavesExact 3 t ∗ (dat2 V c).leavesExact 4 t ∗ (dat2 V c).leavesExact 5 t ∗ (dat2 V c).leavesExact 6 t ∗ (dat2 V c).leavesExact 7 t)

set_option maxHeartbeats 1000000 in
/-- The body at every point: the case's run, the scratch taken from and handed back to the invariant. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ, PhiS2_castSucc]
  have hN : t.val < 36 := lt_of_lt_of_eq t.isLt (show cfg2.N = 36 from N_2)
  by_cases h0 : t.val % 36 = 0
  · have h1 : ¬ t.val % 36 = 35 := by omega
    have hc0 := (hcond2_0 t).mpr h0
    have hc1 : ¬ cond2_1 (grid2.coords t) := fun h => h1 ((hcond2_1 t).mp h)
    rw [show (dat2 V c).leavesExact 0 t = owns (c : Thread nD τ) ((cfg2.win 0).stage (cfg2.slots t 0)) fullShare ((dat2 V c).after 0 t) from rfl, after2_0]
    rw [show (dat2 V c).leavesExact 1 t = owns (c : Thread nD τ) ((cfg2.win 1).stage (cfg2.slots t 1)) fullShare ((dat2 V c).after 1 t) from rfl, after2_1]
    rw [show (dat2 V c).leavesExact 2 t = owns (c : Thread nD τ) ((cfg2.win 2).stage (cfg2.slots t 2)) fullShare ((dat2 V c).after 2 t) from rfl, after2_2]
    rw [show (dat2 V c).leavesExact 3 t = owns (c : Thread nD τ) ((cfg2.win 3).stage (cfg2.slots t 3)) fullShare ((dat2 V c).after 3 t) from rfl, after2_3]
    rw [show (dat2 V c).leavesExact 4 t = owns (c : Thread nD τ) ((cfg2.win 4).stage (cfg2.slots t 4)) fullShare ((dat2 V c).after 4 t) from rfl, after2_4]
    rw [show (dat2 V c).leavesExact 5 t = owns (c : Thread nD τ) ((cfg2.win 5).stage (cfg2.slots t 5)) fullShare ((dat2 V c).after 5 t) from rfl, after2_5]
    rw [(dat2 V c).leavesExact_idle 6 t ((idle2_6_iff t).mpr hc1) (Bool.eq_false_iff.mpr fun h => h1 ((flush2_6 t).mp h))]
    rw [show (dat2 V c).leavesExact 7 t = owns (c : Thread nD τ) ((cfg2.win 7).stage (cfg2.slots t 7)) fullShare ((dat2 V c).after 7 t) from by
      unfold Dat.leavesExact; rw [Bool.eq_false_iff.mpr fun h => (idle2_7_iff t).mp h hc0], after2_7]
    rw [PhiS2_zero V c _ _ (by omega), scopedRest2_split]
    obtain rfl : t = first2 := Fin.ext (by simp only; omega)
    iintro ⟨⟨⟨⟨%fs1, HS1⟩, ⟨%fs0, HS0⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run2_A c (grid2.coords first2) _ _ _ _ _ _ _ _ _ _ _ _ _ _ _ _ _ _ _ _ hc0 hc1 (blk2_0 V c first2) (blk2_1 V c first2) (blk2_2 V c first2) (blk2_3 V c first2) _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexists _; iexact H7
    isplitl [HS0]; · iexists fs0; rw [owns_whole]; iexact HS0
    isplitl [HS1]; · iexists fs1; rw [owns_whole]; iexact HS1
    iintro ⟨H0, H1, H2, H3, H4, H5, H6, H7, HS0, HS1⟩
    isplitl [HS1 HS0 Hg]
    · isplitl [HS1 HS0]
      · isplitl [HS1]; · iexact HS1
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    iexact H7
  · have hc0 : ¬ cond2_0 (grid2.coords t) := fun h => h0 ((hcond2_0 t).mp h)
    by_cases h1 : t.val % 36 = 35
    · have hc1 := (hcond2_1 t).mpr h1
      obtain rfl : t = last2 := Fin.ext (by simp only; omega)
      rw [show (dat2 V c).leavesExact 0 last2 = owns (c : Thread nD τ) ((cfg2.win 0).stage (cfg2.slots last2 0)) fullShare ((dat2 V c).after 0 last2) from rfl, after2_0]
      rw [show (dat2 V c).leavesExact 1 last2 = owns (c : Thread nD τ) ((cfg2.win 1).stage (cfg2.slots last2 1)) fullShare ((dat2 V c).after 1 last2) from rfl, after2_1]
      rw [show (dat2 V c).leavesExact 2 last2 = owns (c : Thread nD τ) ((cfg2.win 2).stage (cfg2.slots last2 2)) fullShare ((dat2 V c).after 2 last2) from rfl, after2_2]
      rw [show (dat2 V c).leavesExact 3 last2 = owns (c : Thread nD τ) ((cfg2.win 3).stage (cfg2.slots last2 3)) fullShare ((dat2 V c).after 3 last2) from rfl, after2_3]
      rw [show (dat2 V c).leavesExact 4 last2 = owns (c : Thread nD τ) ((cfg2.win 4).stage (cfg2.slots last2 4)) fullShare ((dat2 V c).after 4 last2) from rfl, after2_4]
      rw [show (dat2 V c).leavesExact 5 last2 = owns (c : Thread nD τ) ((cfg2.win 5).stage (cfg2.slots last2 5)) fullShare ((dat2 V c).after 5 last2) from rfl, after2_5]
      rw [show (dat2 V c).leavesExact 6 last2 = owns (c : Thread nD τ) ((cfg2.win 6).stage (cfg2.slots last2 6)) fullShare ((dat2 V c).after 6 last2) from by
        unfold Dat.leavesExact; rw [Bool.eq_false_iff.mpr fun h => (idle2_6_iff last2).mp h hc1], after2_6]
      rw [show (dat2 V c).leavesExact 7 last2 = owns (c : Thread nD τ) ((cfg2.win 7).stage (cfg2.slots last2 7)) fullShare ((dat2 V c).after 7 last2) from by
        unfold Dat.leavesExact; rw [(idle2_7_iff last2).mpr hc0, (flush2_7 last2).mpr h1], after2_7]
      rw [show PhiS2 V c (last2 : Fin cfg2.N).val _ = PhiS2 V c (34 + 1) (by decide) from rfl, PhiS2_pos V c 34 _ (by decide)]
      simp only [before2_7 V c last2 (by decide)]
      iintro ⟨⟨⟨HS1, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run2_C c (grid2.coords last2) _ _ _ _ _ _ _ _ _ _ _ _ _ _ _ _ _ _ _ _ hc0 hc1 (blk2_0 V c last2) (blk2_1 V c last2) (blk2_2 V c last2) (blk2_3 V c last2) _ (am2 V c 34 (by decide)) (sI2 V c) (sP2 V c) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexact H7
      isplitl [HS0]; · iexact HS0
      isplitl [HS1]; · iexact HS1
      iintro ⟨H0, H1, H2, H3, H4, H5, H6, H7, HS0, HS1⟩
      isplitl [HS1 HS0 Hg]
      · isplitl [HS1 HS0]
        · isplitl [HS1]; · iexact HS1
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬ cond2_1 (grid2.coords t) := fun h => h1 ((hcond2_1 t).mp h)
      rw [show (dat2 V c).leavesExact 0 t = owns (c : Thread nD τ) ((cfg2.win 0).stage (cfg2.slots t 0)) fullShare ((dat2 V c).after 0 t) from rfl, after2_0]
      rw [show (dat2 V c).leavesExact 1 t = owns (c : Thread nD τ) ((cfg2.win 1).stage (cfg2.slots t 1)) fullShare ((dat2 V c).after 1 t) from rfl, after2_1]
      rw [show (dat2 V c).leavesExact 2 t = owns (c : Thread nD τ) ((cfg2.win 2).stage (cfg2.slots t 2)) fullShare ((dat2 V c).after 2 t) from rfl, after2_2]
      rw [show (dat2 V c).leavesExact 3 t = owns (c : Thread nD τ) ((cfg2.win 3).stage (cfg2.slots t 3)) fullShare ((dat2 V c).after 3 t) from rfl, after2_3]
      rw [show (dat2 V c).leavesExact 4 t = owns (c : Thread nD τ) ((cfg2.win 4).stage (cfg2.slots t 4)) fullShare ((dat2 V c).after 4 t) from rfl, after2_4]
      rw [show (dat2 V c).leavesExact 5 t = owns (c : Thread nD τ) ((cfg2.win 5).stage (cfg2.slots t 5)) fullShare ((dat2 V c).after 5 t) from rfl, after2_5]
      rw [(dat2 V c).leavesExact_idle 6 t ((idle2_6_iff t).mpr hc1) (Bool.eq_false_iff.mpr fun h => h1 ((flush2_6 t).mp h))]
      rw [(dat2 V c).leavesExact_idle 7 t ((idle2_7_iff t).mpr hc0) (Bool.eq_false_iff.mpr fun h => h1 ((flush2_7 t).mp h))]
      obtain ⟨n, hn⟩ : ∃ n, t.val = n + 1 := ⟨t.val - 1, by omega⟩
      obtain ⟨tv, ht⟩ := t
      simp only at hn; subst hn
      rw [PhiS2_pos V c n _ (by omega)]
      simp only [before2_7 V c ⟨n + 1, ht⟩ (Nat.succ_ne_zero n)]
      iintro ⟨⟨⟨HS1, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run2_B c (grid2.coords ⟨n + 1, ht⟩) _ _ _ _ _ _ _ _ _ _ _ _ _ _ _ _ _ _ _ _ hc0 hc1 (blk2_0 V c ⟨n + 1, ht⟩) (blk2_1 V c ⟨n + 1, ht⟩) (blk2_2 V c ⟨n + 1, ht⟩) (blk2_3 V c ⟨n + 1, ht⟩) _ _ (am2 V c n (by omega)) (sI2 V c) (sP2 V c) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS1 HS0 Hg]
      · isplitl [HS1 HS0]
        · isplitl [HS1]; · iexact HS1
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7

theorem defs₀_row2 (t : Fin cfg2.N) : defs₀ (F := F) .tc cfg2.body (cfg2.bodyArgs t (cfg2.slots t)) = bodyAt2 t := by
  unfold defs₀; rw [Defs.onTc_tc]
/-- The body obligation of region 2. -/
theorem body_obligation2 (c : Dev nD) : BodyObligation (dat2 V c) (defs₀ (F := F)) Variants.none () Set.univ := fun t => by
  rw [bigSep_W2, bigSep_W2, defs₀_row2]
  exact triple_restated (sound_body2 V c t) rfl .rfl fun _ => .rfl
/-- The invariant at the start, from the scoped buffers, -/
theorem hin2 (c : Dev nD) : iprop(Pipeline.scopedRest spec2 c ∗ BI.emp) ⊢ (dat2 V c).Φ 0 := by
  rw [show (dat2 V c).Φ 0 = PhiS2 V c 0 (Nat.zero_le _) from rfl, PhiS2_zero V c _ _ rfl]
  iintro ⟨H, -⟩; iexact H
/-- and the scoped buffers back at the end. -/
theorem hout2 (c : Dev nD) : (dat2 V c).Φ (Fin.last cfg2.N) ⊢ iprop(Pipeline.scopedRest spec2 c ∗ BI.emp) := by
  rw [show (dat2 V c).Φ (Fin.last cfg2.N) = PhiS2 V c (35 + 1) (by decide) from rfl, PhiS2_pos V c 35 _ (by decide), scopedRest2_split]
  simp only [owns_whole]
  iintro ⟨⟨HS1, HS0⟩, Hg⟩
  isplitl [HS1 HS0 Hg]
  · isplitl [HS1 HS0]
    · isplitl [HS1]; · iexists (am2 V c 35 (by decide)); iexact HS1
      iexists (pair (sI2 V c) (sP2 V c)); iexact HS0
    iexact Hg
  iempintro

end Cert.KernelIdeal.Own

end
-- ==== Proof.KI.Run3.lean ====
/- The body of the weight-gradient accumulation (`bwd_dw`), run once per case of its condition, with the values every buffer holds afterwards named. Stated at any float family. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp
public import proofs.«01_k».proof.Proof.KI.Base

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The product of the two scales, from the two amax histories. -/
def prod3 (h : Vec F S1x16 .f32) (g : Vec F S1x16 .f32) : F .f32 :=
  k3_pay1 (k3_pay8 (k3_pay3 h) (k3_pay5 h) (k3_pay6 h) k3_pay7) (k3_pay13 (k3_pay9 g) (k3_pay10 g) (iota .tc S1x384 32 [1] iota_S1x384_d1_w32) k3_pay11 k3_pay12 22#32) (k3_pay14 (k3_pay9 g) (k3_pay10 g) (iota .tc S1x384 32 [1] iota_S1x384_d1_w32) k3_pay11 k3_pay12 22#32) k3_pay15

/-- The condition that the token block is the first. -/
abbrev cond3_0 (i : grid3.Coords) : Prop := (Scalar.cmpi .ne (Scalar.extui (Scalar.cmpi .eq (BitVec.ofNat 32 (i 1).val) 0#32)) 0#32) = 1#1

set_option maxHeartbeats 2000000 in
/-- The first token block: the product of the scales is computed from the histories, and the accumulator is restarted (what it held before is not used). -/
theorem run3_A (c : Dev nD) (i : grid3.Coords) (arg2 : Memref sig .tc .vmem S1x16 .f32) (harg2 : arg2.IsWhole) (arg3 : Memref sig .tc .vmem S1x16 .f32) (harg3 : arg3.IsWhole) (arg4 : Memref sig .tc .vmem S2048x1280 .fp8e4m3) (harg4 : arg4.IsWhole) (arg5 : Memref sig .tc .vmem S2048x3456 .fp8e5m2) (harg5 : arg5.IsWhole) (arg6 : Memref sig .tc .vmem S1280x3456 .f32) (harg6 : arg6.IsWhole) (arg7 : Memref sig .tc .smem S1 .f32) (harg7 : arg7.IsWhole) (hc0 : cond3_0 i)
    (x0 : Vec F S1x16 .f32) (x1 : Vec F S1x16 .f32) (x2 : Vec F S2048x1280 .fp8e4m3) (x3 : Vec F S2048x3456 .fp8e5m2) (x4 : Vec F S1280x3456 .f32)  (E : Set ℕ) (K : PUnit → sProp 𝕄) :
    iprop(owns (c : Thread nD τ) arg2 fullShare (x0 : Vec F S1x16 .f32) ∗ owns (c : Thread nD τ) arg3 fullShare (x1 : Vec F S1x16 .f32) ∗ owns (c : Thread nD τ) arg4 fullShare (x2 : Vec F S2048x1280 .fp8e4m3) ∗ owns (c : Thread nD τ) arg5 fullShare (x3 : Vec F S2048x3456 .fp8e5m2) ∗ owns (c : Thread nD τ) arg6 fullShare (x4 : Vec F S1280x3456 .f32) ∗ (∃ d, owns (c : Thread nD τ) arg7 fullShare d)
        ∗ (iprop(owns (c : Thread nD τ) arg2 fullShare (x0 : Vec F S1x16 .f32) ∗ owns (c : Thread nD τ) arg3 fullShare (x1 : Vec F S1x16 .f32) ∗ owns (c : Thread nD τ) arg4 fullShare (x2 : Vec F S2048x1280 .fp8e4m3) ∗ owns (c : Thread nD τ) arg5 fullShare (x3 : Vec F S2048x3456 .fp8e5m2) ∗ owns (c : Thread nD τ) arg6 fullShare (k3_pay2 i x2 x3 (prod3 x0 x1) x4 : Vec F S1280x3456 .f32) ∗ owns (c : Thread nD τ) arg7 fullShare (fun _ => prod3 x0 x1 : Vec F S1 .f32)) -∗ K ⟨⟩))
      ⊢ wp frame (wpE (defs₀ (F := F)) Variants.none c none) E (cc3_bwd_dw i arg2 harg2 arg3 harg3 arg4 harg4 arg5 harg5 arg6 harg6 arg7 harg7) K := by
  simp only [cc3_bwd_dw_eq_skeleton]; unfold cc3_bwd_dw_skel
  simp only [k3_part1_eq_skeleton, k3_part2_eq_skeleton, k3_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    sl_unfold_words
    try simp only [View.readAt_eq_ld, harg2.read_unread, harg3.read_unread, harg4.read_unread, harg5.read_unread, harg6.read_unread, View.ld_unit_zero (S := S1) hz1, View.readCov_unit_zero (S := S1) _ hz1, View.ld_unit_zero (S := S1280x3456) hz2, View.readCov_unit_zero (S := S1280x3456) _ hz2, View.ld_unit_zero (S := S1x16) hz2, View.readCov_unit_zero (S := S1x16) _ hz2, View.ld_unit_zero (S := S2048x1280) hz2, View.readCov_unit_zero (S := S2048x1280) _ hz2, View.ld_unit_zero (S := S2048x3456) hz2, View.readCov_unit_zero (S := S2048x3456) _ hz2]
    first | done | rfl
  iexists _; isplitr; swap; · iexact H5
  ipureintro
  refine (View.read_writes_full _ _ _ _ _).trans ?_
  sl_unfold_words
  try simp only [View.readAt_eq_ld, harg2.read_unread, harg3.read_unread, harg4.read_unread, harg5.read_unread, harg6.read_unread, View.ld_unit_zero (S := S1) hz1, View.readCov_unit_zero (S := S1) _ hz1, View.ld_unit_zero (S := S1280x3456) hz2, View.readCov_unit_zero (S := S1280x3456) _ hz2, View.ld_unit_zero (S := S1x16) hz2, View.readCov_unit_zero (S := S1x16) _ hz2, View.ld_unit_zero (S := S2048x1280) hz2, View.readCov_unit_zero (S := S2048x1280) _ hz2, View.ld_unit_zero (S := S2048x3456) hz2, View.readCov_unit_zero (S := S2048x3456) _ hz2]
  first | done | rfl

set_option maxHeartbeats 2000000 in
/-- A later token block: the accumulator takes the block product in (scaled at the last one). -/
theorem run3_B (c : Dev nD) (i : grid3.Coords) (arg2 : Memref sig .tc .vmem S1x16 .f32) (harg2 : arg2.IsWhole) (arg3 : Memref sig .tc .vmem S1x16 .f32) (harg3 : arg3.IsWhole) (arg4 : Memref sig .tc .vmem S2048x1280 .fp8e4m3) (harg4 : arg4.IsWhole) (arg5 : Memref sig .tc .vmem S2048x3456 .fp8e5m2) (harg5 : arg5.IsWhole) (arg6 : Memref sig .tc .vmem S1280x3456 .f32) (harg6 : arg6.IsWhole) (arg7 : Memref sig .tc .smem S1 .f32) (harg7 : arg7.IsWhole) (hc0 : ¬cond3_0 i)
    (x0 : Vec F S1x16 .f32) (x1 : Vec F S1x16 .f32) (x2 : Vec F S2048x1280 .fp8e4m3) (x3 : Vec F S2048x3456 .fp8e5m2) (x4 : Vec F S1280x3456 .f32) (s : Elt F .f32) (E : Set ℕ) (K : PUnit → sProp 𝕄) :
    iprop(owns (c : Thread nD τ) arg2 fullShare (x0 : Vec F S1x16 .f32) ∗ owns (c : Thread nD τ) arg3 fullShare (x1 : Vec F S1x16 .f32) ∗ owns (c : Thread nD τ) arg4 fullShare (x2 : Vec F S2048x1280 .fp8e4m3) ∗ owns (c : Thread nD τ) arg5 fullShare (x3 : Vec F S2048x3456 .fp8e5m2) ∗ owns (c : Thread nD τ) arg6 fullShare (x4 : Vec F S1280x3456 .f32) ∗ owns (c : Thread nD τ) arg7 fullShare (fun _ => s : Vec F S1 .f32)
        ∗ (iprop(owns (c : Thread nD τ) arg2 fullShare (x0 : Vec F S1x16 .f32) ∗ owns (c : Thread nD τ) arg3 fullShare (x1 : Vec F S1x16 .f32) ∗ owns (c : Thread nD τ) arg4 fullShare (x2 : Vec F S2048x1280 .fp8e4m3) ∗ owns (c : Thread nD τ) arg5 fullShare (x3 : Vec F S2048x3456 .fp8e5m2) ∗ owns (c : Thread nD τ) arg6 fullShare (k3_pay2 i x2 x3 s x4 : Vec F S1280x3456 .f32) ∗ owns (c : Thread nD τ) arg7 fullShare (fun _ => s : Vec F S1 .f32)) -∗ K ⟨⟩))
      ⊢ wp frame (wpE (defs₀ (F := F)) Variants.none c none) E (cc3_bwd_dw i arg2 harg2 arg3 harg3 arg4 harg4 arg5 harg5 arg6 harg6 arg7 harg7) K := by
  simp only [cc3_bwd_dw_eq_skeleton]; unfold cc3_bwd_dw_skel
  simp only [k3_part1_eq_skeleton, k3_part2_eq_skeleton, k3_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    sl_unfold_words
    try simp only [View.readAt_eq_ld, harg2.read_unread, harg3.read_unread, harg4.read_unread, harg5.read_unread, harg6.read_unread, harg7.read_unread, View.ld_unit_zero (S := S1) hz1, View.readCov_unit_zero (S := S1) _ hz1, View.ld_unit_zero (S := S1280x3456) hz2, View.readCov_unit_zero (S := S1280x3456) _ hz2, View.ld_unit_zero (S := S1x16) hz2, View.readCov_unit_zero (S := S1x16) _ hz2, View.ld_unit_zero (S := S2048x1280) hz2, View.readCov_unit_zero (S := S2048x1280) _ hz2, View.ld_unit_zero (S := S2048x3456) hz2, View.readCov_unit_zero (S := S2048x3456) _ hz2]
    first | done | rfl
  iexists _; isplitr; · ipureintro; exact harg7.read_unread _
  iexact H5

end Cert.KernelIdeal.Own

end
-- ==== Proof.KI.Dat3.lean ====
/- Region 3 of the program: the proof data over any entry contents of the buffers, and the body obligation. Stated at any float family. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp
public import Idealize.ShloMosaic.Lib.Pipeline.TableIdle
public import proofs.«01_k».proof.Proof.KI.Run3

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- The first and the last grid point of region 3. -/
abbrev first3 : Fin cfg3.N := ⟨0, by decide⟩
abbrev last3 : Fin cfg3.N := ⟨35, by decide⟩

/-- An input window's block at a point, of the arrays at the entry contents. -/
abbrev iblk3 (c : Dev nD) (w : Fin cfg3.W) (t : Fin cfg3.N) := ((cfg3.win w).blk t).view.read (Elt F) (V c (Proc.devRef .tc (Pipeline.arrRef spec3 w)))
abbrev blk3_0 (c : Dev nD) (t : Fin cfg3.N) : Vec F S1x16 .f32 := iblk3 V c 0 t
abbrev blk3_1 (c : Dev nD) (t : Fin cfg3.N) : Vec F S1x16 .f32 := iblk3 V c 1 t
abbrev blk3_2 (c : Dev nD) (t : Fin cfg3.N) : Vec F S2048x1280 .fp8e4m3 := iblk3 V c 2 t
abbrev blk3_3 (c : Dev nD) (t : Fin cfg3.N) : Vec F S2048x3456 .fp8e5m2 := iblk3 V c 3 t

/-- The product of the scales, held in scalar memory. -/
def sP3 (c : Dev nD) : Elt F .f32 := prod3 (blk3_0 V c first3) (blk3_1 V c first3)
/-- The histories' blocks are the same at every point. -/
theorem blk3_0_const (c : Dev nD) (t : Fin cfg3.N) : blk3_0 V c t = blk3_0 V c first3 := rfl
theorem blk3_1_const (c : Dev nD) (t : Fin cfg3.N) : blk3_1 V c t = blk3_1 V c first3 := rfl
/-- The accumulator's block after a point: restarted at the first token block, the block products added up. -/
def acc3 (c : Dev nD) : (n : ℕ) → n < cfg3.N → Vec F S1280x3456 .f32
  | 0, h => k3_pay2 (grid3.coords ⟨0, h⟩) (blk3_2 V c ⟨0, h⟩) (blk3_3 V c ⟨0, h⟩) (sP3 V c) (fun _ => FloatOps.ofBits .f32 0#32)
  | n + 1, h => k3_pay2 (grid3.coords ⟨n + 1, h⟩) (blk3_2 V c ⟨n + 1, h⟩) (blk3_3 V c ⟨n + 1, h⟩) (sP3 V c) (acc3 c n (Nat.lt_of_succ_lt h))
theorem acc3_congr (c : Dev nD) {n n' : ℕ} (h : n < cfg3.N) (h' : n' < cfg3.N) (e : n = n') : acc3 V c n h = acc3 V c n' h' := by
  subst e; rfl

/-- The invariant: before the first point every scoped buffer at anything, then the scratch at what the points so far left. -/
def PhiS3 (c : Dev nD) : (n : ℕ) → n ≤ cfg3.N → sProp 𝕄
  | 0, _ => Pipeline.scopedRest (Ix := Unit) (Name := ℕ) (U := UR sig nD τ) (Lvl := ℕ) (Val := Elt F) spec3 c
  | n + 1, h => iprop(owns (c : Thread nD τ) (Memref.whole cc3_scratch0) fullShare (fun _ => sP3 V c) ∗ Pipeline.scopedRestBut (Ix := Unit) (Name := ℕ) (U := UR sig nD τ) (Lvl := ℕ) (Val := Elt F) spec3 c [cc3_scratch0])
theorem PhiS3_zero (c : Dev nD) (n : ℕ) (h : n ≤ cfg3.N) (hz : n = 0) : PhiS3 V c n h = Pipeline.scopedRest (Ix := Unit) (Name := ℕ) (U := UR sig nD τ) (Lvl := ℕ) (Val := Elt F) spec3 c := by
  subst hz; rfl
theorem PhiS3_succ (c : Dev nD) (n : ℕ) (h : n < cfg3.N) : PhiS3 V c (n + 1) h = iprop(owns (c : Thread nD τ) (Memref.whole cc3_scratch0) fullShare (fun _ => sP3 V c) ∗ Pipeline.scopedRestBut (Ix := Unit) (Name := ℕ) (U := UR sig nD τ) (Lvl := ℕ) (Val := Elt F) spec3 c [cc3_scratch0]) := rfl
theorem PhiS3_pos (c : Dev nD) (n : ℕ) (h' : n + 1 ≤ cfg3.N) (h : n < cfg3.N) : PhiS3 V c (n + 1) h' = iprop(owns (c : Thread nD τ) (Memref.whole cc3_scratch0) fullShare (fun _ => sP3 V c) ∗ Pipeline.scopedRestBut (Ix := Unit) (Name := ℕ) (U := UR sig nD τ) (Lvl := ℕ) (Val := Elt F) spec3 c [cc3_scratch0]) := rfl

/-- The region's proof data at entry contents `V`. -/
def dat3 (c : Dev nD) : Dat τ (Elt F) Unit ℕ (UR sig nD τ) ℕ cfg3 c where
  A w := V c (Proc.devRef .tc (Pipeline.arrRef spec3 w))
  after w t := match w with
    | ⟨0, _⟩ => blk3_0 V c t
    | ⟨1, _⟩ => blk3_1 V c t
    | ⟨2, _⟩ => blk3_2 V c t
    | ⟨3, _⟩ => blk3_3 V c t
    | ⟨4, _⟩ => acc3 V c t.val t.isLt
  Φ t := PhiS3 V c t.val (Nat.le_of_lt_succ t.isLt)
  q _ := fullShare
  owed _ := 0

theorem dat3_A (c : Dev nD) (w : Fin cfg3.W) : (dat3 V c).A w = V c (Proc.devRef .tc (Pipeline.arrRef spec3 w)) := by dsimp only [dat3]
theorem PhiS3_castSucc (c : Dev nD) (t : Fin cfg3.N) : (dat3 V c).Φ t.castSucc = PhiS3 V c t.val (Nat.le_of_lt t.isLt) := by
  dsimp only [dat3]; exact Pipeline.Dat.Φ_castSucc (PhiS3 V c) t
theorem after3_0 (c : Dev nD) (t : Fin cfg3.N) : (dat3 V c).after 0 t = blk3_0 V c t := by dsimp only [dat3]
theorem after3_1 (c : Dev nD) (t : Fin cfg3.N) : (dat3 V c).after 1 t = blk3_1 V c t := by dsimp only [dat3]
theorem after3_2 (c : Dev nD) (t : Fin cfg3.N) : (dat3 V c).after 2 t = blk3_2 V c t := by dsimp only [dat3]
theorem after3_3 (c : Dev nD) (t : Fin cfg3.N) : (dat3 V c).after 3 t = blk3_3 V c t := by dsimp only [dat3]
theorem after3_4 (c : Dev nD) (t : Fin cfg3.N) : (dat3 V c).after 4 t = acc3 V c t.val t.isLt := by dsimp only [dat3]
theorem before3_0 (c : Dev nD) (t : Fin cfg3.N) (d) : (dat3 V c).before 0 t d = blk3_0 V c t :=
  ((dat3 V c).before_in_eq_fetched 0 rfl (fun _ => rfl) (fun _ _ _ => rfl) (fun t => by rw [after3_0]; unfold Dat.blockOf; rw [dat3_A]; try rfl) t d).trans (by unfold Dat.fetched Dat.blockOf; rw [dat3_A]; try rfl)
theorem before3_1 (c : Dev nD) (t : Fin cfg3.N) (d) : (dat3 V c).before 1 t d = blk3_1 V c t :=
  ((dat3 V c).before_in_eq_fetched 1 rfl (fun _ => rfl) (fun _ _ _ => rfl) (fun t => by rw [after3_1]; unfold Dat.blockOf; rw [dat3_A]; try rfl) t d).trans (by unfold Dat.fetched Dat.blockOf; rw [dat3_A]; try rfl)
theorem before3_2 (c : Dev nD) (t : Fin cfg3.N) (d) : (dat3 V c).before 2 t d = blk3_2 V c t :=
  ((dat3 V c).before_in_eq_fetched 2 rfl (fun _ => rfl) (fun _ _ _ => rfl) (fun t => by rw [after3_2]; unfold Dat.blockOf; rw [dat3_A]; try rfl) t d).trans (by unfold Dat.fetched Dat.blockOf; rw [dat3_A]; try rfl)
theorem before3_3 (c : Dev nD) (t : Fin cfg3.N) (d) : (dat3 V c).before 3 t d = blk3_3 V c t :=
  ((dat3 V c).before_in_eq_fetched 3 rfl (fun _ => rfl) (fun _ _ _ => rfl) (fun t => by rw [after3_3]; unfold Dat.blockOf; rw [dat3_A]; try rfl) t d).trans (by unfold Dat.fetched Dat.blockOf; rw [dat3_A]; try rfl)

/-- The condition, as the point's number. -/
theorem hcond3_0 : ∀ t : Fin cfg3.N, cond3_0 (grid3.coords t) ↔ t.val % 9 = 0 :=
  (fun t => by
    have ht : t.val < 36 := Nat.lt_of_lt_of_eq t.isLt N_3
    have e1 : (grid3.coords t 1).val = t.val / 1 % 9 := Pipeline.Grid.coords_val t 1 (by decide) rfl
    simp only [cond3_0, e1]
    word_cmp : ∀ t : Fin grid3.N, cond3_0 (grid3.coords t) ↔ t.val % 9 = 0)
theorem fresh3_4 : ∀ t : Fin cfg3.N, t.val % 9 ≠ 0 → cfg3.fresh 4 t.val = false := (by decide +kernel : ∀ t : Fin grid3.N, t.val % 9 ≠ 0 → cfg3.fresh 4 t.val = false)
theorem before3_4 (c : Dev nD) (t : Fin cfg3.N) (ht : t.val % 9 ≠ 0) (d) : (dat3 V c).before 4 t d = acc3 V c (t.val - 1) (by omega) := by
  rw [(dat3 V c).before_out_traj 4 rfl (fun _ _ => rfl) (fun t _ hi _ => absurd hi Bool.false_ne_true) t.val t rfl d, fresh3_4 t ht, if_neg Bool.false_ne_true, after3_4]
/-- At the first token block the accumulator's old contents are not used. -/
theorem k3_pay2_reset (i : grid3.Coords) (hc : cond3_0 i) (a : Vec F S2048x1280 .fp8e4m3) (b : Vec F S2048x3456 .fp8e5m2) (s : Elt F .f32) (d d' : Vec F S1280x3456 .f32) :
    k3_pay2 i a b s d = k3_pay2 i a b s d' := by
  have hb : Scalar.cmpi .eq (BitVec.ofNat 32 (i 1).val) 0#32 = 1#1 := by
    unfold cond3_0 at hc
    generalize Scalar.cmpi .eq (BitVec.ofNat 32 (i 1).val) 0#32 = b at hc ⊢
    revert hc; revert b; decide
  unfold k3_pay2
  dsimp only
  rw [hb]
  rfl
/-- At a point of the first token block the accumulator is restarted, whatever it held. -/
theorem acc3_first (c : Dev nD) (t : Fin cfg3.N) (ht : t.val % 9 = 0) (d : Vec F S1280x3456 .f32) :
    acc3 V c t.val t.isLt = k3_pay2 (grid3.coords t) (blk3_2 V c t) (blk3_3 V c t) (sP3 V c) d := by
  obtain ⟨n, hn⟩ := t
  cases n with
  | zero => exact k3_pay2_reset _ ((hcond3_0 _).mpr ht) _ _ _ _ _
  | succ n => exact k3_pay2_reset _ ((hcond3_0 _).mpr ht) _ _ _ _ _
/-- At a later token block it takes the block product in. -/
theorem acc3_next (c : Dev nD) (t : Fin cfg3.N) (ht : t.val % 9 ≠ 0) :
    acc3 V c t.val t.isLt = k3_pay2 (grid3.coords t) (blk3_2 V c t) (blk3_3 V c t) (sP3 V c) (acc3 V c (t.val - 1) (by omega)) := by
  obtain ⟨n, hn⟩ := t
  cases n with
  | zero => exact absurd rfl ht
  | succ n => rfl

/-- What the body is called with at a point, -/
def bodyPre3 (c : Dev nD) (t : Fin cfg3.N) : sProp 𝕄 :=
  iprop((dat3 V c).Φ t.castSucc ∗ (dat3 V c).owesAt () t.castSucc ∗ (∃ d, owns (c : Thread nD τ) ((cfg3.win 0).stage (cfg3.slots t 0)) fullShare ((dat3 V c).before 0 t d)) ∗ (∃ d, owns (c : Thread nD τ) ((cfg3.win 1).stage (cfg3.slots t 1)) fullShare ((dat3 V c).before 1 t d)) ∗ (∃ d, owns (c : Thread nD τ) ((cfg3.win 2).stage (cfg3.slots t 2)) fullShare ((dat3 V c).before 2 t d)) ∗ (∃ d, owns (c : Thread nD τ) ((cfg3.win 3).stage (cfg3.slots t 3)) fullShare ((dat3 V c).before 3 t d)) ∗ (∃ d, owns (c : Thread nD τ) ((cfg3.win 4).stage (cfg3.slots t 4)) fullShare ((dat3 V c).before 4 t d)))
/-- and what it hands back. -/
def bodyPost3 (c : Dev nD) (t : Fin cfg3.N) : sProp 𝕄 :=
  iprop((dat3 V c).Φ t.succ ∗ (dat3 V c).owesAt () t.succ ∗ (dat3 V c).leavesExact 0 t ∗ (dat3 V c).leavesExact 1 t ∗ (dat3 V c).leavesExact 2 t ∗ (dat3 V c).leavesExact 3 t ∗ (dat3 V c).leavesExact 4 t)

set_option maxHeartbeats 1000000 in
/-- The body at every point: the case's run, the scratch taken from and handed back to the invariant. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ, PhiS3_castSucc]
  have hN : t.val < 36 := lt_of_lt_of_eq t.isLt (show cfg3.N = 36 from N_3)
  rw [show (dat3 V c).leavesExact 0 t = owns (c : Thread nD τ) ((cfg3.win 0).stage (cfg3.slots t 0)) fullShare ((dat3 V c).after 0 t) from rfl, after3_0]
  rw [show (dat3 V c).leavesExact 1 t = owns (c : Thread nD τ) ((cfg3.win 1).stage (cfg3.slots t 1)) fullShare ((dat3 V c).after 1 t) from rfl, after3_1]
  rw [show (dat3 V c).leavesExact 2 t = owns (c : Thread nD τ) ((cfg3.win 2).stage (cfg3.slots t 2)) fullShare ((dat3 V c).after 2 t) from rfl, after3_2]
  rw [show (dat3 V c).leavesExact 3 t = owns (c : Thread nD τ) ((cfg3.win 3).stage (cfg3.slots t 3)) fullShare ((dat3 V c).after 3 t) from rfl, after3_3]
  rw [show (dat3 V c).leavesExact 4 t = owns (c : Thread nD τ) ((cfg3.win 4).stage (cfg3.slots t 4)) fullShare ((dat3 V c).after 4 t) from rfl, after3_4]
  by_cases h0 : t.val % 9 = 0
  · have hc0 := (hcond3_0 t).mpr h0
    have hpre : PhiS3 V c t.val (Nat.le_of_lt t.isLt) ⊢ iprop((∃ d, owns (c : Thread nD τ) (Memref.whole cc3_scratch0) fullShare d) ∗ Pipeline.scopedRestBut (Ix := Unit) (Name := ℕ) (U := UR sig nD τ) (Lvl := ℕ) (Val := Elt F) spec3 c [cc3_scratch0]) := by
      obtain ⟨n, hn⟩ := t
      cases n with
      | zero =>
        rw [PhiS3_zero V c _ _ rfl, scopedRest3_split]
        iintro ⟨⟨%f, H⟩, Hg⟩
        isplitl [H]; · iexists f; rw [owns_whole]; iexact H
        iexact Hg
      | succ n =>
        rw [PhiS3_pos V c n _ (by omega)]
        iintro ⟨H, Hg⟩
        isplitl [H]; · iexists _; iexact H
        iexact Hg
    iintro ⟨HP, Ho, ⟨%d0, H0⟩, ⟨%d1, H1⟩, ⟨%d2, H2⟩, ⟨%d3, H3⟩, ⟨%d4, H4⟩⟩
    ihave HP' := hpre $$ HP
    icases HP' with ⟨HS0, Hg⟩
    iapply (run3_A c (grid3.coords t) _ _ _ _ _ _ _ _ _ _ _ _ hc0 (blk3_0 V c t) (blk3_1 V c t) (blk3_2 V c t) (blk3_3 V c t) _ Set.univ _)
    isplitl [H0]; · iexact H0
    isplitl [H1]; · iexact H1
    isplitl [H2]; · iexact H2
    isplitl [H3]; · iexact H3
    isplitl [H4]; · iexact H4
    isplitl [HS0]; · iexact HS0
    rw [blk3_0_const, blk3_1_const, acc3_first V c t h0 ((dat3 V c).before 4 t d4)]
    iintro ⟨H0, H1, H2, H3, H4, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    iexact H4
  · have hc0 : ¬ cond3_0 (grid3.coords t) := fun h => h0 ((hcond3_0 t).mp h)
    simp only [before3_4 V c t h0]
    rw [acc3_next V c t h0]
    obtain ⟨n, hn⟩ : ∃ n, t.val = n + 1 := ⟨t.val - 1, by omega⟩
    obtain ⟨tv, ht⟩ := t
    simp only at hn; subst hn
    rw [PhiS3_pos V c n _ (by omega)]
    iintro ⟨⟨HS0, Hg⟩, Ho, ⟨%d0, H0⟩, ⟨%d1, H1⟩, ⟨%d2, H2⟩, ⟨%d3, H3⟩, ⟨%d4, H4⟩⟩
    iapply (run3_B c (grid3.coords ⟨n + 1, ht⟩) _ _ _ _ _ _ _ _ _ _ _ _ hc0 (blk3_0 V c ⟨n + 1, ht⟩) (blk3_1 V c ⟨n + 1, ht⟩) (blk3_2 V c ⟨n + 1, ht⟩) (blk3_3 V c ⟨n + 1, ht⟩) _ (sP3 V c) Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    iexact H4

theorem defs₀_row3 (t : Fin cfg3.N) : defs₀ (F := F) .tc cfg3.body (cfg3.bodyArgs t (cfg3.slots t)) = bodyAt3 t := by
  unfold defs₀; rw [Defs.onTc_tc]
/-- The body obligation of region 3. -/
theorem body_obligation3 (c : Dev nD) : BodyObligation (dat3 V c) (defs₀ (F := F)) Variants.none () Set.univ := fun t => by
  rw [bigSep_W3, bigSep_W3, defs₀_row3]
  exact triple_restated (sound_body3 V c t) rfl .rfl fun _ => .rfl
/-- The invariant at the start, from the scoped buffers, -/
theorem hin3 (c : Dev nD) : iprop(Pipeline.scopedRest spec3 c ∗ BI.emp) ⊢ (dat3 V c).Φ 0 := by
  rw [show (dat3 V c).Φ 0 = PhiS3 V c 0 (Nat.zero_le _) from rfl, PhiS3_zero V c _ _ rfl]
  iintro ⟨H, -⟩; iexact H
/-- and the scoped buffers back at the end. -/
theorem hout3 (c : Dev nD) : (dat3 V c).Φ (Fin.last cfg3.N) ⊢ iprop(Pipeline.scopedRest spec3 c ∗ BI.emp) := by
  rw [show (dat3 V c).Φ (Fin.last cfg3.N) = PhiS3 V c (35 + 1) (by decide) from rfl, PhiS3_pos V c 35 _ (by decide), scopedRest3_split]
  simp only [owns_whole]
  iintro ⟨HS0, Hg⟩
  isplitl [HS0 Hg]
  · isplitl [HS0]; · iexists (fun _ => sP3 V c); iexact HS0
    iexact Hg
  iempintro

end Cert.KernelIdeal.Own

end
-- ==== Proof.KI.Whole.lean ====
/- The whole run: the four regions chained, from the launch memory to what every buffer holds at the end. Stated at any float family. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp
public import proofs.«01_k».proof.Proof.Gen.KernelIdeal.Regions
public import Idealize.ShloMosaic.Lib.Pipeline.RegionArraysS
public import Idealize.ShloMosaic.Lib.Pipeline.Regions
public import proofs.«01_k».proof.Proof.KI.Dat0
public import proofs.«01_k».proof.Proof.KI.Dat1
public import proofs.«01_k».proof.Proof.KI.Dat2
public import proofs.«01_k».proof.Proof.KI.Dat3

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers between the items -/

/-- At launch, -/
def U0 (c : Dev nD) : Valuation τ sig (Elt F) := fun b => m (c, b)
/-- after the host reshapes before the regions, -/
def U1 (c : Dev nD) : Valuation τ sig (Elt F) := StableHlo.after hostOps0 (U0 m c)
/-- after the weight's quantisation, -/
def U2 (c : Dev nD) : Valuation τ sig (Elt F) := Pipeline.afterRegion (dat0 (U1 m) c) (U1 m c)
/-- after the forward matmul, -/
def U3 (c : Dev nD) : Valuation τ sig (Elt F) := Pipeline.afterRegion (dat1 (U2 m) c) (U2 m c)
/-- after the matmul for dx, -/
def U4 (c : Dev nD) : Valuation τ sig (Elt F) := Pipeline.afterRegion (dat2 (U3 m) c) (U3 m c)
/-- after the accumulation of dW, -/
def U5 (c : Dev nD) : Valuation τ sig (Elt F) := Pipeline.afterRegion (dat3 (U4 m) c) (U4 m c)
/-- and after the host reshapes at the end. -/
def U6 (c : Dev nD) : Valuation τ sig (Elt F) := StableHlo.after hostOps4 (U5 m c)

/-! ## The segments -/

/-- Every region's proof data. -/
def pdats : (p : Fin 4) → (c : Dev nD) → Dat τ (Elt F) Unit ℕ (UR sig nD τ) ℕ (cfgs p) c := fun p => match p with
  | ⟨0, _⟩ => fun c => dat0 (U1 m) c
  | ⟨1, _⟩ => fun c => dat1 (U2 m) c
  | ⟨2, _⟩ => fun c => dat2 (U3 m) c
  | ⟨3, _⟩ => fun c => dat3 (U4 m) c

/-- The only index, at every TensorCore cell; one level. -/
def L : GSem nD τ sig → Finset Unit := fun g => if g.1.2 = .tc then {()} else ∅
def lv : GSem nD τ sig → Unit → ℕ := fun _ _ => 0
theorem L_off (g : GSem nD τ sig) (h : g.1.2 ≠ .tc) : L g = ∅ := if_neg h
abbrev owe0 : Dev nD → CellTallies nD τ sig Unit := fun _ => 0

theorem levelCut (p : Fin 4) : Pipeline.LevelCut (pcfgs (F := F)) adm () L lv p owe0 (fun _ => 0) where
  hι _ _ _ := by unfold L; rw [if_pos rfl]; exact Finset.mem_singleton_self _
  hιb _ _ _ := le_rfl
  hD _ _ _ h := absurd h (Nat.lt_irrefl 0)

/-- What rides beside the buffers between the items: the core owing nothing. -/
abbrev E (c : Dev nD) : sProp 𝕄 := iprop((∃ Wd, owes (c : Thread nD τ) (owe0 c) Wd) ∗ BI.emp ∗ BI.emp)

theorem kitP0 : Pipeline.PLaunchFacts (nD := nD) (τ := τ) (pcfgs (F := F)) 0 := launch0.toP
/-- Region 0's record. -/
def reg0 : RegionSeg (pcfgs (F := F)) adm (pdats m) () defs₀ Variants.none L lv 0 :=
  RegionSeg.ofHeldIn (pcfgs (F := F)) adm (pdats m) () defs₀ Variants.none L lv 0 owe0 (Pipeline.ucRefs τ sig) (fun _ => BI.emp) (fun _ => BI.emp)
    kitP0 rfl (fun c => (body_obligation0 (U1 m) c).loose) (fun _ _ => rfl) (fun _ => rfl)
    (fun c => (dat0 (U1 m) c).share_full fun _ => rfl) (fun c => hin0 (U1 m) c) (fun c => hout0 (U1 m) c)
    (fun _ => 0) (levelCut 0) (fun _ => BI.emp) (U1 m) (fun c w => dat0_A (U1 m) c w)
theorem arr_sub0 : Pipeline.arrRefs (pcfgs (F := F) 0).spec ⊆ Pipeline.ucRefs τ sig := Pipeline.arrRefs_sub_ucRefs _ fun w => winFacts0.arr_unscoped w
theorem pre0 (c : Dev nD) : iprop(StableHlo.held (c : Thread nD τ) (Pipeline.ucRefs τ sig) (U1 m c) ∗ E c) ⊢ (reg0 m).pre c :=
  by unfold reg0; exact RegionSeg.ofHeldIn_pre (S := Pipeline.ucRefs τ sig) (X := fun _ => BI.emp) (Y := fun _ => BI.emp) (R := fun _ => BI.emp) (W := U1 m) (D := owe0) arr_sub0 c
theorem post0 (c : Dev nD) : (reg0 m).post c ⊢ iprop(StableHlo.held (c : Thread nD τ) (Pipeline.ucRefs τ sig) (U2 m c) ∗ E c) :=
  RegionSeg.ofHeldIn_post arr_sub0 c
theorem kitP1 : Pipeline.PLaunchFacts (nD := nD) (τ := τ) (pcfgs (F := F)) 1 := launch1.toP
/-- Region 1's record. -/
def reg1 : RegionSeg (pcfgs (F := F)) adm (pdats m) () defs₀ Variants.none L lv 1 :=
  RegionSeg.ofHeldIn (pcfgs (F := F)) adm (pdats m) () defs₀ Variants.none L lv 1 owe0 (Pipeline.ucRefs τ sig) (fun _ => BI.emp) (fun _ => BI.emp)
    kitP1 rfl (fun c => (body_obligation1 (U2 m) c).loose) (fun _ _ => rfl) (fun _ => rfl)
    (fun c => (dat1 (U2 m) c).share_full fun _ => rfl) (fun c => hin1 (U2 m) c) (fun c => hout1 (U2 m) c)
    (fun _ => 0) (levelCut 1) (fun _ => BI.emp) (U2 m) (fun c w => dat1_A (U2 m) c w)
theorem arr_sub1 : Pipeline.arrRefs (pcfgs (F := F) 1).spec ⊆ Pipeline.ucRefs τ sig := Pipeline.arrRefs_sub_ucRefs _ fun w => winFacts1.arr_unscoped w
theorem pre1 (c : Dev nD) : iprop(StableHlo.held (c : Thread nD τ) (Pipeline.ucRefs τ sig) (U2 m c) ∗ E c) ⊢ (reg1 m).pre c :=
  by unfold reg1; exact RegionSeg.ofHeldIn_pre (S := Pipeline.ucRefs τ sig) (X := fun _ => BI.emp) (Y := fun _ => BI.emp) (R := fun _ => BI.emp) (W := U2 m) (D := owe0) arr_sub1 c
theorem post1 (c : Dev nD) : (reg1 m).post c ⊢ iprop(StableHlo.held (c : Thread nD τ) (Pipeline.ucRefs τ sig) (U3 m c) ∗ E c) :=
  RegionSeg.ofHeldIn_post arr_sub1 c
theorem kitP2 : Pipeline.PLaunchFacts (nD := nD) (τ := τ) (pcfgs (F := F)) 2 := launch2.toP
/-- Region 2's record. -/
def reg2 : RegionSeg (pcfgs (F := F)) adm (pdats m) () defs₀ Variants.none L lv 2 :=
  RegionSeg.ofHeldIn (pcfgs (F := F)) adm (pdats m) () defs₀ Variants.none L lv 2 owe0 (Pipeline.ucRefs τ sig) (fun _ => BI.emp) (fun _ => BI.emp)
    kitP2 rfl (fun c => (body_obligation2 (U3 m) c).loose) (fun _ _ => rfl) (fun _ => rfl)
    (fun c => (dat2 (U3 m) c).share_full fun _ => rfl) (fun c => hin2 (U3 m) c) (fun c => hout2 (U3 m) c)
    (fun _ => 0) (levelCut 2) (fun _ => BI.emp) (U3 m) (fun c w => dat2_A (U3 m) c w)
theorem arr_sub2 : Pipeline.arrRefs (pcfgs (F := F) 2).spec ⊆ Pipeline.ucRefs τ sig := Pipeline.arrRefs_sub_ucRefs _ fun w => winFacts2.arr_unscoped w
theorem pre2 (c : Dev nD) : iprop(StableHlo.held (c : Thread nD τ) (Pipeline.ucRefs τ sig) (U3 m c) ∗ E c) ⊢ (reg2 m).pre c :=
  by unfold reg2; exact RegionSeg.ofHeldIn_pre (S := Pipeline.ucRefs τ sig) (X := fun _ => BI.emp) (Y := fun _ => BI.emp) (R := fun _ => BI.emp) (W := U3 m) (D := owe0) arr_sub2 c
theorem post2 (c : Dev nD) : (reg2 m).post c ⊢ iprop(StableHlo.held (c : Thread nD τ) (Pipeline.ucRefs τ sig) (U4 m c) ∗ E c) :=
  RegionSeg.ofHeldIn_post arr_sub2 c
theorem kitP3 : Pipeline.PLaunchFacts (nD := nD) (τ := τ) (pcfgs (F := F)) 3 := launch3.toP
/-- Region 3's record. -/
def reg3 : RegionSeg (pcfgs (F := F)) adm (pdats m) () defs₀ Variants.none L lv 3 :=
  RegionSeg.ofHeldIn (pcfgs (F := F)) adm (pdats m) () defs₀ Variants.none L lv 3 owe0 (Pipeline.ucRefs τ sig) (fun _ => BI.emp) (fun _ => BI.emp)
    kitP3 rfl (fun c => (body_obligation3 (U4 m) c).loose) (fun _ _ => rfl) (fun _ => rfl)
    (fun c => (dat3 (U4 m) c).share_full fun _ => rfl) (fun c => hin3 (U4 m) c) (fun c => hout3 (U4 m) c)
    (fun _ => 0) (levelCut 3) (fun _ => BI.emp) (U4 m) (fun c w => dat3_A (U4 m) c w)
theorem arr_sub3 : Pipeline.arrRefs (pcfgs (F := F) 3).spec ⊆ Pipeline.ucRefs τ sig := Pipeline.arrRefs_sub_ucRefs _ fun w => winFacts3.arr_unscoped w
theorem pre3 (c : Dev nD) : iprop(StableHlo.held (c : Thread nD τ) (Pipeline.ucRefs τ sig) (U4 m c) ∗ E c) ⊢ (reg3 m).pre c :=
  by unfold reg3; exact RegionSeg.ofHeldIn_pre (S := Pipeline.ucRefs τ sig) (X := fun _ => BI.emp) (Y := fun _ => BI.emp) (R := fun _ => BI.emp) (W := U4 m) (D := owe0) arr_sub3 c
theorem post3 (c : Dev nD) : (reg3 m).post c ⊢ iprop(StableHlo.held (c : Thread nD τ) (Pipeline.ucRefs τ sig) (U5 m c) ∗ E c) :=
  RegionSeg.ofHeldIn_post arr_sub3 c

/-- The host stretches. -/
def segA : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (U0 m) E
def segZ : HostSeg (Ix := Unit) (Name := ℕ) (U := UR sig nD τ) (Lvl := ℕ) (pcfgs (F := F)) defs₀ Variants.none L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (U5 m) E
/-- @main as the run of the six. -/
abbrev items : List (Seg (pcfgs (F := F)) adm (pdats m) () defs₀ Variants.none L lv) :=
  [.host (segA m), .region (reg0 m), .region (reg1 m), .region (reg2 m), .region (reg3 m), .host (segZ m)]

/-- What the run leaves: every buffer that outlives the run at `U6`. -/
def Final (s : MemSt nD τ sig (Elt F)) (c : Dev nD) : Prop :=
  ∀ b : Ref sig .tc, (Proc.devRef .tc b : DevRef τ sig) ∈ Pipeline.ucRefs τ sig → s.mem ((c : Thread nD τ).loc b) = U6 m c (Proc.devRef .tc b)

set_option backward.isDefEq.respectTransparency.types false in
set_option maxHeartbeats 1000000 in
/-- The run: from any memory with every counter at zero, every weakly fair execution ends with every buffer at `U6` and every
    counter at zero. -/
theorem run_all : θ_run defs (onTc (τ := τ) (main (F := F))) ⟨m, fun _ => 0, ρ⟩ (fun r => (∀ c : Dev nD, Final m r.2 c) ∧ r.2.sem = fun _ => 0) := by
  refine Pipeline.θ_run_regions_kit_dev_sems (pcfgs (F := F)) adm (pdats m) () cellOf_inj emb₁ defs₀ Variants.none L lv m ρ main
    (fun _ => items m)
    (fun c Q => by
      rewrite [main_chain c, Seg.run_eq_chain,
        show (items m).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          StableHlo.seq hostOps4 ] from rfl]
      exact .rfl)
    (fun c => by simp only [items, Seg.pipes_host, Seg.pipes_region, Seg.pipes_nil]; decide) owe0 L_off (fun _ => BI.emp)
    (initOf (Pipeline.cells (Pipeline.pin (pcfgs (F := F)) adm) cellOf_inj) (Pipeline.launchToks (Pipeline.pin (pcfgs (F := F)) adm) cellOf_inj)) ?_
    (T₀ := fun c => iprop(StableHlo.held (c : Thread nD τ) (Pipeline.ucRefs τ sig) (U0 m c) ∗ E c))
    (Tₙ := fun c => StableHlo.held (c : Thread nD τ) (Pipeline.ucRefs τ sig) (U6 m c))
    (hch := fun c => ⟨.rfl, pre0 m c, (post0 m c).trans (pre1 m c), (post1 m c).trans (pre2 m c), (post2 m c).trans (pre3 m c), post3 m c, sep_mono .rfl ?_⟩)
    (hinit := ?_) (QY := fun c s => Final m s c)
    (hfin := fun c s' => ?_) (hQ := fun _ h hz => ⟨h, funext fun g => hz g (.inr (regions_no_unscoped g.2))⟩)
  · iintro Hu
    imodintro
    isplitl [Hu]; · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
    rw [BI.bigSep_emp_const]; iempintro
  · iintro ⟨H, -⟩; iexact H
  · have hsplit (c : Dev nD) : iprop(unscopedBufs c (fun b => m ((c.tc : Thread nD τ).loc b)) ∗ unscopedSems0 c
          ∗ owes (c.tc : Thread nD τ) (owe0 c) ∅ ∗ Pipeline.launchCred owe0 c ∗ prngReg c (ρ c) ∗ BI.emp)
        ⊢ (iprop(StableHlo.held (c : Thread nD τ) (Pipeline.ucRefs τ sig) (U0 m c) ∗ E c) : sProp 𝕄) := by
      rw [← Pipeline.unscopedBufs_held (Ix := Unit) (Name := ℕ) (U := UR sig nD τ) (Lvl := ℕ) c (U0 m c)]
      iintro ⟨H, -, Ho, -⟩
      isplitl [H]; · iexact H
      isplitl [Ho]; · iexists _; iexact Ho
      isplitl [] <;> iempintro
    iintro ⟨H, -⟩
    imodintro
    iapply (show _ ⊢ (bigSep Finset.univ fun c : Dev nD => iprop(StableHlo.held (c : Thread nD τ) (Pipeline.ucRefs τ sig) (U0 m c) ∗ E c) : sProp 𝕄) from bigSep_mono fun c _ => hsplit c) $$ H
  · unfold StableHlo.held
    iintro ⟨Hh, HSI⟩
    ihave Hr := (pointsTo_read_all (Pipeline.ucRefs τ sig) (fun b => ((c : Thread nD τ).1, b)) (U6 m c) s') $$ [Hh HSI]
    · isplitl [Hh] <;> iassumption
    icases Hr with ⟨%h, HSI⟩
    imodintro
    isplitr
    · ipureintro; exact fun b hb => h _ hb
    · iexact HSI

/-! ## No item writes an argument -/

/-- A region leaves every buffer that is none of its outputs. -/
theorem U2_of (c : Dev nD) (r : Ref sig .tc) (h : ∀ w, Pipeline.arrRef spec0 w = r → (cfg0.win w).isOut = false) :
    U2 m c (Proc.devRef .tc r) = U1 m c (Proc.devRef .tc r) :=
  Pipeline.afterRegion_keeps (dat0 (U1 m) c) (U1 m c) winFacts0.arr_inj (dat0_A (U1 m) c) r h
theorem U3_of (c : Dev nD) (r : Ref sig .tc) (h : ∀ w, Pipeline.arrRef spec1 w = r → (cfg1.win w).isOut = false) :
    U3 m c (Proc.devRef .tc r) = U2 m c (Proc.devRef .tc r) :=
  Pipeline.afterRegion_keeps (dat1 (U2 m) c) (U2 m c) winFacts1.arr_inj (dat1_A (U2 m) c) r h
theorem U4_of (c : Dev nD) (r : Ref sig .tc) (h : ∀ w, Pipeline.arrRef spec2 w = r → (cfg2.win w).isOut = false) :
    U4 m c (Proc.devRef .tc r) = U3 m c (Proc.devRef .tc r) :=
  Pipeline.afterRegion_keeps (dat2 (U3 m) c) (U3 m c) winFacts2.arr_inj (dat2_A (U3 m) c) r h
theorem U5_of (c : Dev nD) (r : Ref sig .tc) (h : ∀ w, Pipeline.arrRef spec3 w = r → (cfg3.win w).isOut = false) :
    U5 m c (Proc.devRef .tc r) = U4 m c (Proc.devRef .tc r) :=
  Pipeline.afterRegion_keeps (dat3 (U4 m) c) (U4 m c) winFacts3.arr_inj (dat3_A (U4 m) c) r h
/-- The host reshapes leave every buffer they do not write. -/
theorem U1_of (c : Dev nD) (r : Ref sig .tc) (h : r ∉ hostOps0_W) : U1 m c (Proc.devRef .tc r) = m ((c : Thread nD τ).loc r) :=
  StableHlo.after_of_writes_sub hostOps0 _ hostOps0_writes h
theorem U6_of (c : Dev nD) (r : Ref sig .tc) (h : r ∉ hostOps4_W) : U6 m c (Proc.devRef .tc r) = U5 m c (Proc.devRef .tc r) :=
  StableHlo.after_of_writes_sub hostOps4 _ hostOps4_writes h
theorem U6_main_arg0 (c : Dev nD) : U6 m c (Proc.devRef .tc main_arg0) = m ((c : Thread nD τ).loc main_arg0) :=
  (U6_of m c main_arg0 (by decide)).trans <| (U5_of m c main_arg0 (by decide)).trans <| (U4_of m c main_arg0 (by decide)).trans <|
    (U3_of m c main_arg0 (by decide)).trans <| (U2_of m c main_arg0 (by decide)).trans (U1_of m c main_arg0 (by decide))
theorem main_arg0_mem : (Proc.devRef .tc main_arg0 : DevRef τ sig) ∈ Pipeline.ucRefs τ sig := Finset.mem_filter.mpr ⟨StableHlo.devRef_mem_tcRefs main_arg0, by decide⟩
theorem U6_main_arg1 (c : Dev nD) : U6 m c (Proc.devRef .tc main_arg1) = m ((c : Thread nD τ).loc main_arg1) :=
  (U6_of m c main_arg1 (by decide)).trans <| (U5_of m c main_arg1 (by decide)).trans <| (U4_of m c main_arg1 (by decide)).trans <|
    (U3_of m c main_arg1 (by decide)).trans <| (U2_of m c main_arg1 (by decide)).trans (U1_of m c main_arg1 (by decide))
theorem main_arg1_mem : (Proc.devRef .tc main_arg1 : DevRef τ sig) ∈ Pipeline.ucRefs τ sig := Finset.mem_filter.mpr ⟨StableHlo.devRef_mem_tcRefs main_arg1, by decide⟩
theorem U6_main_arg2 (c : Dev nD) : U6 m c (Proc.devRef .tc main_arg2) = m ((c : Thread nD τ).loc main_arg2) :=
  (U6_of m c main_arg2 (by decide)).trans <| (U5_of m c main_arg2 (by decide)).trans <| (U4_of m c main_arg2 (by decide)).trans <|
    (U3_of m c main_arg2 (by decide)).trans <| (U2_of m c main_arg2 (by decide)).trans (U1_of m c main_arg2 (by decide))
theorem main_arg2_mem : (Proc.devRef .tc main_arg2 : DevRef τ sig) ∈ Pipeline.ucRefs τ sig := Finset.mem_filter.mpr ⟨StableHlo.devRef_mem_tcRefs main_arg2, by decide⟩
theorem U6_main_arg3 (c : Dev nD) : U6 m c (Proc.devRef .tc main_arg3) = m ((c : Thread nD τ).loc main_arg3) :=
  (U6_of m c main_arg3 (by decide)).trans <| (U5_of m c main_arg3 (by decide)).trans <| (U4_of m c main_arg3 (by decide)).trans <|
    (U3_of m c main_arg3 (by decide)).trans <| (U2_of m c main_arg3 (by decide)).trans (U1_of m c main_arg3 (by decide))
theorem main_arg3_mem : (Proc.devRef .tc main_arg3 : DevRef τ sig) ∈ Pipeline.ucRefs τ sig := Finset.mem_filter.mpr ⟨StableHlo.devRef_mem_tcRefs main_arg3, by decide⟩
theorem U6_main_arg4 (c : Dev nD) : U6 m c (Proc.devRef .tc main_arg4) = m ((c : Thread nD τ).loc main_arg4) :=
  (U6_of m c main_arg4 (by decide)).trans <| (U5_of m c main_arg4 (by decide)).trans <| (U4_of m c main_arg4 (by decide)).trans <|
    (U3_of m c main_arg4 (by decide)).trans <| (U2_of m c main_arg4 (by decide)).trans (U1_of m c main_arg4 (by decide))
theorem main_arg4_mem : (Proc.devRef .tc main_arg4 : DevRef τ sig) ∈ Pipeline.ucRefs τ sig := Finset.mem_filter.mpr ⟨StableHlo.devRef_mem_tcRefs main_arg4, by decide⟩
theorem U6_main_arg5 (c : Dev nD) : U6 m c (Proc.devRef .tc main_arg5) = m ((c : Thread nD τ).loc main_arg5) :=
  (U6_of m c main_arg5 (by decide)).trans <| (U5_of m c main_arg5 (by decide)).trans <| (U4_of m c main_arg5 (by decide)).trans <|
    (U3_of m c main_arg5 (by decide)).trans <| (U2_of m c main_arg5 (by decide)).trans (U1_of m c main_arg5 (by decide))
theorem main_arg5_mem : (Proc.devRef .tc main_arg5 : DevRef τ sig) ∈ Pipeline.ucRefs τ sig := Finset.mem_filter.mpr ⟨StableHlo.devRef_mem_tcRefs main_arg5, by decide⟩

/-- The frame: every argument ends as launched and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c _ main_arg0_mem).trans (U6_main_arg0 m c), (h.1 c _ main_arg1_mem).trans (U6_main_arg1 m c), (h.1 c _ main_arg2_mem).trans (U6_main_arg2 m c), (h.1 c _ main_arg3_mem).trans (U6_main_arg3 m c), (h.1 c _ main_arg4_mem).trans (U6_main_arg4 m c), (h.1 c _ main_arg5_mem).trans (U6_main_arg5 m c)⟩, h.2⟩) (run_all m ρ)

end Cert.KernelIdeal.Own

end
-- ==== Proof.Math.Word.lean ====
/- Powers of two as float32 words, read as extended reals: the word a program builds for 2^e from the integer e, and the word it
   builds for the j-th of the powers 2^-149, …, 2^127, each denote that power. -/
module

public import Idealize.ShloMosaic.PureOps.Ideal

@[expose] public section

set_option maxRecDepth 16384

noncomputable section

namespace Cert.Math

open Idealize.ShloMosaic

/-- The value of a word with sign bit 0, exponent field 0 and trailing field `n`. -/
theorem ieee_subnormal (b : BitVec 32) (n : ℕ) (hs : b.extractLsb' 31 1 = 0#1) (he : (b.extractLsb' 23 8).toNat = 0)
    (hf : (b.extractLsb' 0 23).toNat = n) : Ideal.ieee 8 23 b = (((n : ℝ) * (2 : ℝ) ^ (-149 : ℤ) : ℝ) : EReal) := by
  unfold Ideal.ieee
  simp only [hs, he, hf, show (8 + 23 : ℕ) = 31 from rfl]
  norm_num

/-- The value of a word with sign bit 0, exponent field `n` in 1 … 254 and trailing field 0. -/
theorem ieee_normal (b : BitVec 32) (n : ℕ) (hs : b.extractLsb' 31 1 = 0#1) (he : (b.extractLsb' 23 8).toNat = n)
    (h0 : n ≠ 0) (h1 : n ≠ 255) (hf : (b.extractLsb' 0 23).toNat = 0) :
    Ideal.ieee 8 23 b = (((2 : ℝ) ^ ((n : ℤ) - 127) : ℝ) : EReal) := by
  unfold Ideal.ieee
  simp only [hs, he, hf, show (8 + 23 : ℕ) = 31 from rfl]
  rw [if_neg (by norm_num; exact h1), if_neg h0]
  congr 1
  have : (2 : ℝ) ^ ((n : ℤ) - 127) = (2 : ℝ) ^ (23 : ℤ) * (2 : ℝ) ^ ((n : ℤ) - 127 - 23) := by
    rw [← zpow_add₀ (by norm_num : (2 : ℝ) ≠ 0)]; congr 1; ring
  rw [this]
  norm_num

/-- The value of a word with sign bit 0, exponent field 255 and trailing field 0. -/
theorem ieee_infinite (b : BitVec 32) (hs : b.extractLsb' 31 1 = 0#1) (he : (b.extractLsb' 23 8).toNat = 255)
    (hf : (b.extractLsb' 0 23).toNat = 0) : Ideal.ieee 8 23 b = ⊤ := by
  unfold Ideal.ieee
  simp only [hs, he, hf, show (8 + 23 : ℕ) = 31 from rfl]
  norm_num

/-- The word the kernel builds for 2^e. -/
def powWord (e : BitVec 32) : BitVec 32 :=
  if e.slt 4294967170#32 then IntOp.shli .vector 1#32 (IntOp.minsi 22#32 (IntOp.maxsi 0#32 (e + 149#32)))
  else IntOp.shli .vector (IntOp.minsi 255#32 (IntOp.maxsi 1#32 (e + 127#32))) 23#32

/-- The word the kernel builds for the `j`-th power of two. -/
def lanePow (j : BitVec 32) : BitVec 32 :=
  if j.slt 277#32 then
    if j.slt 23#32 then IntOp.shli .vector 1#32 (IntOp.minsi j 22#32)
    else IntOp.shli .vector (IntOp.maxsi (j - 22#32) 1#32) 23#32
  else 2130706432#32

/-- 2^e as the reference states it: infinite for e above 127, else the exponential. -/
def pow2 (e : BitVec 32) : EReal := if (127#32).slt e then ⊤ else Ideal.exp2 ((e.toInt : ℝ) : EReal)

theorem exp2_int (n : ℤ) : Ideal.exp2 (((n : ℤ) : ℝ) : EReal) = (((2 : ℝ) ^ n : ℝ) : EReal) := by
  show ((Real.rpow 2 (n : ℝ) : ℝ) : EReal) = _
  congr 1
  exact Real.rpow_intCast 2 n

private theorem powWord_fields : ∀ k : Fin 299, let e := BitVec.ofNat 32 k.val - 149#32;
    e.toInt = (k.val : ℤ) - 149 ∧ (127#32).slt e = decide (276 < k.val) ∧ (powWord e).extractLsb' 31 1 = 0#1 ∧
    (k.val < 23 → ((powWord e).extractLsb' 23 8).toNat = 0 ∧ ((powWord e).extractLsb' 0 23).toNat = 2 ^ k.val) ∧
    (23 ≤ k.val → k.val ≤ 276 → ((powWord e).extractLsb' 23 8).toNat = k.val - 22 ∧ ((powWord e).extractLsb' 0 23).toNat = 0) ∧
    (276 < k.val → ((powWord e).extractLsb' 23 8).toNat = 255 ∧ ((powWord e).extractLsb' 0 23).toNat = 0) := by
  decide +kernel

private theorem lanePow_fields : ∀ k : Fin 277, let e := BitVec.ofNat 32 k.val;
    (e - 149#32).toInt = (k.val : ℤ) - 149 ∧ (lanePow e).extractLsb' 31 1 = 0#1 ∧
    (k.val < 23 → ((lanePow e).extractLsb' 23 8).toNat = 0 ∧ ((lanePow e).extractLsb' 0 23).toNat = 2 ^ k.val) ∧
    (23 ≤ k.val → ((lanePow e).extractLsb' 23 8).toNat = k.val - 22 ∧ ((lanePow e).extractLsb' 0 23).toNat = 0) := by
  decide +kernel

/-- A word with the fields of the `k`-th power of two denotes 2^(k-149). -/
private theorem ieee_pow (b : BitVec 32) (k : ℕ) (hk : k ≤ 276) (hs : b.extractLsb' 31 1 = 0#1)
    (h1 : k < 23 → (b.extractLsb' 23 8).toNat = 0 ∧ (b.extractLsb' 0 23).toNat = 2 ^ k)
    (h2 : 23 ≤ k → (b.extractLsb' 23 8).toNat = k - 22 ∧ (b.extractLsb' 0 23).toNat = 0) :
    Ideal.ieee 8 23 b = (((2 : ℝ) ^ ((k : ℤ) - 149) : ℝ) : EReal) := by
  by_cases h : k < 23
  · rw [ieee_subnormal b (2 ^ k) hs (h1 h).1 (h1 h).2]
    congr 1
    rw [sub_eq_add_neg, zpow_add₀ (by norm_num : (2 : ℝ) ≠ 0)]
    push_cast
    rw [zpow_natCast]
  · rw [ieee_normal b (k - 22) hs (h2 (by omega)).1 (by omega) (by omega) (h2 (by omega)).2]
    congr 2
    omega

/-- The kernel's word for 2^(k-149), `k` in 0 … 298, denotes what the reference states. -/
theorem powWord_eq (k : ℕ) (hk : k < 299) :
    Ideal.ofBits .f32 (powWord (BitVec.ofNat 32 k - 149#32)) = pow2 (BitVec.ofNat 32 k - 149#32) := by
  obtain ⟨ht, hi, hs, h1, h2, h3⟩ := powWord_fields ⟨k, hk⟩
  dsimp only at ht hi hs h1 h2 h3
  show Ideal.ieee 8 23 _ = _
  unfold pow2
  rw [hi, ht]
  by_cases h : 276 < k
  · rw [if_pos (by simpa using h)]
    exact ieee_infinite _ hs (h3 h).1 (h3 h).2
  · rw [if_neg (by simpa using h), exp2_int]
    exact ieee_pow _ k (by omega) hs h1 (fun h' => h2 h' (by omega))

/-- The kernel's `k`-th lane holds the `k`-th power the reference states. -/
theorem lanePow_eq (k : ℕ) (hk : k < 277) :
    Ideal.ofBits .f32 (lanePow (BitVec.ofNat 32 k)) = Ideal.exp2 (((BitVec.ofNat 32 k - 149#32).toInt : ℝ) : EReal) := by
  obtain ⟨ht, hs, h1, h2⟩ := lanePow_fields ⟨k, hk⟩
  dsimp only at ht hs h1 h2
  show Ideal.ieee 8 23 _ = _
  rw [ht, exp2_int]
  exact ieee_pow _ k (by omega) hs h1 h2

/-- The kernel's word for 2^-e, e = k-149 with `k` in 0 … 277, denotes what the reference states. -/
theorem powWord_neg_eq (k : ℕ) (hk : k < 278) :
    Ideal.ofBits .f32 (powWord (0#32 - (BitVec.ofNat 32 k - 149#32))) = pow2 (0#32 - (BitVec.ofNat 32 k - 149#32)) := by
  have : ∀ k : Fin 278, 0#32 - (BitVec.ofNat 32 k.val - 149#32) = BitVec.ofNat 32 (298 - k.val) - 149#32 := by decide +kernel
  rw [this ⟨k, hk⟩]
  exact powWord_eq _ (by omega)

end Cert.Math
-- ==== Proof.Math.Scale.lean ====
/- The power-of-two scale of a quantiser, over the extended reals. `eWord a x` is its exponent as both programs state it, from the
   largest entry `a` of the history and `x`, that entry over the format's bound. The kernel counts, among 384 lanes, the powers of two
   not above |x|; the reference counts them among 277. Both counts are `cntOf`. -/
module

public import proofs.«01_k».proof.Proof.Math.Word
public import proofs.«01_k».proof.Proof.Gen.KernelIdeal.Skeleton
public import Idealize.ShloMosaic.Lib.WordSum
public import Idealize.ShloMosaic.Lib.Pipeline.Value

@[expose] public section

set_option maxRecDepth 16384

noncomputable section

namespace Cert.Math

open Idealize.ShloMosaic

/-- How many of the powers 2^-149, …, 2^127 are at most `a`. -/
def cntOf (a : EReal) : ℕ :=
  ∑ k ∈ Finset.range 277, if Ideal.exp2 (((BitVec.ofNat 32 k - 149#32).toInt : ℝ) : EReal) ≤ a then 1 else 0

/-- At most all 277 powers of two are counted. -/
theorem cntOf_le (a : EReal) : cntOf a ≤ 277 := by
  unfold cntOf
  refine (Finset.sum_le_card_nsmul _ _ 1 fun k _ => ?_).trans (by simp)
  split <;> omega

/-- The exponent of the scale: zero for an empty history or a bound that is zero or infinite, else the count less 149. -/
def eWord (a x : EReal) : BitVec 32 :=
  if a = 0 then 0#32 else if x = 0 ∨ max x (-x) = ⊤ then 0#32 else BitVec.ofNat 32 (cntOf (max x (-x))) - 149#32

/-- The exponent is a count less 149. -/
theorem eWord_form (a x : EReal) : ∃ k, k < 278 ∧ eWord a x = BitVec.ofNat 32 k - 149#32 := by
  unfold eWord
  split
  · exact ⟨149, by norm_num, by decide⟩
  split
  · exact ⟨149, by norm_num, by decide⟩
  · exact ⟨_, Nat.lt_succ_of_le (cntOf_le _), rfl⟩

theorem powWord_eWord (a x : EReal) : Ideal.ofBits .f32 (powWord (eWord a x)) = pow2 (eWord a x) := by
  obtain ⟨k, hk, h⟩ := eWord_form a x
  rw [h]; exact powWord_eq k (by omega)

theorem powWord_neg_eWord (a x : EReal) : Ideal.ofBits .f32 (powWord (0#32 - eWord a x)) = pow2 (0#32 - eWord a x) := by
  obtain ⟨k, hk, h⟩ := eWord_form a x
  rw [h]; exact powWord_neg_eq k hk

/-! ### The words the two programs compute -/

theorem select_ofBool {α : Type} (p : Bool) (a b : α) : Scalar.select (BitVec.ofBool p) a b = if p then a else b := by
  cases p <;> simp [Scalar.select]

/-- The kernel's word for 2^e, as its operations state it. -/
def kPow (e : BitVec 32) : BitVec 32 :=
  Scalar.select (IntOp.cmpi .slt e 4294967170#32)
    (IntOp.shli .vector 1#32 (IntOp.minsi 22#32 (IntOp.maxsi 0#32 (IntOp.addi e 149#32))))
    (IntOp.shli .vector (IntOp.minsi 255#32 (IntOp.maxsi 1#32 (IntOp.addi e 127#32))) 23#32)

theorem kPow_eq (e : BitVec 32) : kPow e = powWord e := select_ofBool _ _ _

/-- The `j`-th lane's word, as the kernel's operations state it. -/
def kLane (j : BitVec 32) : BitVec 32 :=
  Scalar.select (IntOp.cmpi .slt j 277#32)
    (Scalar.select (IntOp.cmpi .slt j 23#32) (IntOp.shli .vector 1#32 (IntOp.minsi j 22#32))
      (IntOp.shli .vector (IntOp.maxsi (IntOp.subi j 22#32) 1#32) 23#32))
    2130706432#32

theorem kLane_eq (j : BitVec 32) : kLane j = lanePow j :=
  (select_ofBool _ _ _).trans (by unfold lanePow; rw [show IntOp.cmpi .slt j 23#32 = BitVec.ofBool (j.slt 23#32) from rfl, select_ofBool]; rfl)

/-- The zero word is the number zero. -/
theorem ofBits_zero : Ideal.ofBits .f32 0x00000000#32 = 0 := by
  refine (ieee_subnormal 0x00000000#32 0 (by decide) (by decide) (by decide)).trans ?_
  norm_num

/-- The word of infinity is infinity. -/
theorem ofBits_inf : Ideal.ofBits .f32 0x7F800000#32 = ⊤ := by
  exact ieee_infinite 0x7F800000#32 (by decide) (by decide) (by decide)

/-- The kernel's exponent from the count `n`. -/
def kSel (a x : EReal) (n : BitVec 32) : BitVec 32 :=
  Scalar.select (Ideal.cmp .oeq a (Ideal.ofBits .f32 0x00000000#32)) 0#32
    (Scalar.select (IntOp.ori (IntOp.ori (Ideal.cmp .oeq (max x (-x)) (Ideal.ofBits .f32 0x7F800000#32)) (Ideal.cmp .one x x))
        (Ideal.cmp .oeq x (Ideal.ofBits .f32 0x00000000#32))) 0#32 (IntOp.subi n 149#32))

theorem kSel_eq (a x : EReal) (n : BitVec 32) (h : n.toNat = cntOf (max x (-x))) : kSel a x n = eWord a x := by
  have hn : n = BitVec.ofNat 32 (cntOf (max x (-x))) := by rw [← h]; simp
  subst hn
  unfold kSel eWord
  rw [ofBits_zero, ofBits_inf]
  unfold Ideal.cmp
  simp only [select_ofBool, ne_eq, not_true_eq_false, decide_false, decide_eq_true_eq]
  by_cases h0 : a = 0
  · simp [h0]
  rw [if_neg h0, if_neg h0]
  by_cases h1 : x = 0 <;> by_cases h2 : max x (-x) = ⊤ <;> simp [h1, h2, IntOp.ori, IntOp.subi, Scalar.select] <;> rfl

/-- The reference's exponent from the count `n`. -/
def rSel (a x : EReal) (n : BitVec 32) : BitVec 32 :=
  Scalar.select (Ideal.cmp .oeq a (Ideal.ofBits .f32 0x00000000#32)) 0#32
    (Scalar.select (IntOp.ori (Ideal.cmp .oeq x (Ideal.ofBits .f32 0x00000000#32))
      (Ideal.cmp .oeq (max x (-x)) (Ideal.ofBits .f32 0x7F800000#32))) 0#32 (IntOp.subi n 149#32))

theorem rSel_eq (a x : EReal) (n : BitVec 32) (h : n.toNat = cntOf (max x (-x))) : rSel a x n = eWord a x := by
  have hn : n = BitVec.ofNat 32 (cntOf (max x (-x))) := by rw [← h]; simp
  subst hn
  unfold rSel eWord
  rw [ofBits_zero, ofBits_inf]
  unfold Ideal.cmp
  simp only [select_ofBool, decide_eq_true_eq]
  by_cases h0 : a = 0
  · simp [h0]
  rw [if_neg h0, if_neg h0]
  by_cases h1 : x = 0 <;> by_cases h2 : max x (-x) = ⊤ <;> simp [h1, h2, IntOp.ori, IntOp.subi, Scalar.select] <;> rfl

/-- The reference's power of two, as its operations state it. -/
def rPow (e : BitVec 32) : EReal :=
  Scalar.select (IntOp.cmpi .sgt e 127#32) (Ideal.ofBits .f32 0x7F800000#32) (Ideal.exp2 ((e.toInt : ℝ) : EReal))

/-- The reference's power of two. -/
theorem rPow_eq (e : BitVec 32) : rPow e = pow2 e := by
  unfold rPow pow2
  rw [ofBits_inf]
  exact select_ofBool _ _ _

/-! ### The counts -/

open Cert.KernelIdeal in
instance : Subsingleton S1.Idx := ⟨fun a b => funext fun i => by
  match i with
  | ⟨0, _⟩ => exact Fin.ext (by have := (a ⟨0, by decide⟩).isLt; have := (b ⟨0, by decide⟩).isLt; simp [S1] at *; omega)⟩

theorem ofBool_toNat (p : Prop) [Decidable p] : ((BitVec.ofBool (decide p)).setWidth 32).toNat = if p then 1 else 0 := by
  by_cases h : p <;> simp [h]

theorem ofBool_and_toNat (p q : Prop) [Decidable p] [Decidable q] :
    ((BitVec.ofBool (decide p) &&& BitVec.ofBool (decide q)).setWidth 32).toNat = if p ∧ q then 1 else 0 := by
  by_cases h : p <;> by_cases h' : q <;> simp [h, h']

/-- A word sum of zeros and ones over a whole vector is their number, when the vector's row-major position tells which are ones. -/
theorem count_eq {s t : Shape} {axes : List (Fin s.rank)} [Subsingleton t.Idx] (src : IVec s 32) (h : s.Reduces axes t)
    (hacc : (0#32 : BitVec 32) = IKind.add.neutral) (j : t.Idx) (f : ℕ → ℕ) (N : ℕ) (hN : s.numel = N) (hN' : N < 2 ^ 32) (hf : ∀ k, f k ≤ 1)
    (hs : ∀ i, (src i).toNat = f (s.rowMajor i).val) :
    (multiReductionI .add axes t src 0#32 h hacc j).toNat = ∑ k ∈ Finset.range N, f k := by
  have e : ∑ i ∈ Finset.univ.filter (fun i => h.drop i = j), (src i).toNat = ∑ k ∈ Finset.range N, f k := by
    rw [Finset.filter_true_of_mem fun i _ => Subsingleton.elim _ _, Finset.sum_congr rfl fun i _ => hs i,
      Equiv.sum_comp s.rowMajor (fun k => f k.val), ← hN, Finset.sum_range]
  rw [WordSum.toNat_multiReductionI_add src h hacc j, e]
  rw [e]
  refine lt_of_le_of_lt ((Finset.sum_le_card_nsmul _ _ 1 fun k _ => hf k).trans (by simp)) hN'

open Cert.KernelIdeal Cert.KernelIdeal.Gen

/-- The kernel's count of the lanes not above `ax`. -/
def kcnt (ax : FVec Ideal S1x1 .f32) : IVec S1x1 32 :=
  have v45 : IVec S1x384 32 := iota .tc S1x384 32 [1] iota_S1x384_d1_w32
  have v63 : FVec Ideal S1x384 .f32 := bitcastToFloat .f32 (select (cmpi .slt v45 (broadcast S1x384 277#32))
    (select (cmpi .slt v45 (broadcast S1x384 23#32)) (shli (broadcast S1x384 1#32) (minsi v45 (broadcast S1x384 22#32)))
      (shli (maxsi (subi v45 (broadcast S1x384 22#32)) (broadcast S1x384 1#32)) (broadcast S1x384 23#32))) (broadcast S1x384 2130706432#32))
  shapeCast S1x1 (multiReductionI .add [1] S1 (extui 32 (andi (cmpf .oge (broadcastTo S1x384 ax broadcasts_S1x1_S1x384) v63)
    (cmpi .slt v45 (broadcast S1x384 277#32))) natLt_1_32) 0#32 reduces_S1x384_S1 rfl) shapeCasts_S1_S1x1

instance : Subsingleton S1x1.Idx := ⟨fun a b => funext fun i => by
  match i with
  | ⟨0, _⟩ => exact Fin.ext (by have := (a ⟨0, by decide⟩).isLt; have := (b ⟨0, by decide⟩).isLt; simp [S1x1] at *; omega)
  | ⟨1, _⟩ => exact Fin.ext (by have := (a ⟨1, by decide⟩).isLt; have := (b ⟨1, by decide⟩).isLt; simp [S1x1] at *; omega)⟩

private theorem slt277 : ∀ k : Fin 384, (BitVec.ofNat 32 k.val).slt 277#32 = decide (k.val < 277) := by decide +kernel

theorem kcnt_toNat (ax : FVec Ideal S1x1 .f32) (i : S1x1.Idx) : (kcnt ax i).toNat = cntOf (ax i) := by
  unfold kcnt
  dsimp only
  rw [show ∀ (x : IVec S1 32) (h : S1.ShapeCasts S1x1), shapeCast S1x1 x h i = x (Shape.reshapeEquiv h i) from fun _ _ => rfl]
  refine (count_eq (t := S1) _ _ _ _ (fun k => if (Ideal.ofBits .f32 (kLane (BitVec.ofNat 32 k)) ≤ ax i) ∧ k < 277 then 1 else 0)
    384 (by decide) (by norm_num) (fun k => by split <;> omega) ?_).trans ?_
  rotate_left
  · unfold cntOf
    rw [← Finset.sum_subset (s₁ := Finset.range 277) (fun k hk => by simp at *; omega)
      (fun k _ hk => by simp at hk; rw [if_neg (by omega)])]
    refine Finset.sum_congr rfl fun k hk => ?_
    have hk' : k < 277 := by simpa using hk
    rw [kLane_eq, lanePow_eq k hk']
    simp [hk']
  · intro l
    have hl : (S1x384.rowMajor l).val = (l 1).val := by
      have h0 : (l 0).val = 0 := by have := (l 0).isLt; simp [S1x384] at this; omega
      rw [Shape.rowMajor_val_two]; simp [h0]
    have h1 : (l 1).val < 384 := (l 1).isLt
    rw [hl, ← ofBool_and_toNat, ← slt277 ⟨(l 1).val, h1⟩]
    have e : iota .tc S1x384 32 [1] iota_S1x384_d1_w32 l = BitVec.ofNat 32 (l 1).val := iota_single_apply _ _ _ _ _ _
    dsimp only
    rw [← e]
    rw [show ax i = broadcastTo S1x384 ax broadcasts_S1x1_S1x384 l from congrArg ax (Subsingleton.elim _ _)]
    rfl

/-! ### The scales of the kernel from a history -/

/-- The largest entry of a history. -/
def kmax (h : FVec Ideal S1x16 .f32) : FVec Ideal S1x1 .f32 :=
  shapeCast S1x1 (multiReduction .maximumf [1] S1 (shapeCast S1x16 h shapeCasts_S1x16_S1x16) 0xFF800000#32 reduces_S1x16_S1 (.inl rfl) rfl) shapeCasts_S1_S1x1

/-- The exponent of a history's scale, with `w` the reciprocal of the format's bound. -/
def kExp (w : BitVec 32) (h : FVec Ideal S1x16 .f32) (i : S1x1.Idx) : BitVec 32 := eWord (kmax h i) (kmax h i * Ideal.ofBits .f32 w)

/-- The exponent as the kernel computes it. -/
theorem kExp_eq (w : BitVec 32) (h : FVec Ideal S1x16 .f32) (i : S1x1.Idx) :
    kSel (kmax h i) (kmax h i * Ideal.ofBits .f32 w) (kcnt (absf (mulf (kmax h) (broadcast S1x1 (Scalar.ofBits (F := Ideal) .f32 w)))) i) = kExp w h i :=
  kSel_eq _ _ _ (kcnt_toNat _ i)

end Cert.Math
-- ==== Proof.KI.ScaleEq.lean ====
/- The scales, inverse scales and products of scales the four bodies compute from the histories, as powers of two of the exponents
   `kExp` over the extended reals. -/
module

public import proofs.«01_k».proof.Proof.Math.Scale
public import proofs.«01_k».proof.Proof.KI.Run0
public import proofs.«01_k».proof.Proof.KI.Run1
public import proofs.«01_k».proof.Proof.KI.Run2
public import proofs.«01_k».proof.Proof.KI.Run3

@[expose] public section

set_option maxRecDepth 16384

noncomputable section

namespace Cert.KernelIdeal.Own

open Cert.KernelIdeal Cert.KernelIdeal.Gen Cert.Math Idealize.ShloMosaic

/-- The only index of a one-element matrix. -/
abbrev z11 : S1x1.Idx := fun a => ⟨(![0, 0] : Fin 2 → ℕ) a, inpos_S1x1_p0_0 a⟩

/-- A history's largest entry times the reciprocal of the format's bound. -/
def kx (w : BitVec 32) (h : FVec Ideal S1x16 .f32) : FVec Ideal S1x1 .f32 := mulf (kmax h) (broadcast S1x1 (Scalar.ofBits (F := Ideal) .f32 w))

/-- Whether the bound is infinite, not equal to itself, or zero. -/
def kSpec (x ax : FVec Ideal S1x1 .f32) : IVec S1x1 1 :=
  ori (ori (cmpf .oeq ax (broadcast S1x1 (Scalar.ofBits (F := Ideal) .f32 0x7F800000#32))) (cmpf .one x x))
    (cmpf .oeq x (broadcast S1x1 (Scalar.ofBits (F := Ideal) .f32 0x00000000#32)))

/-- The exponent from the largest entry `a`, the count `n` and the special cases `s`. -/
def kSelV (a : FVec Ideal S1x1 .f32) (n : IVec S1x1 32) (s : IVec S1x1 1) : IVec S1x1 32 :=
  select (cmpf .oeq a (broadcast S1x1 (Scalar.ofBits (F := Ideal) .f32 0x00000000#32))) (broadcast S1x1 0#32)
    (select s (broadcast S1x1 0#32) (subi n (broadcast S1x1 149#32)))

/-- The power of two with exponent `e`. -/
def kPowV (e : IVec S1x1 32) : FVec Ideal S1x1 .f32 :=
  bitcastToFloat .f32 (select (cmpi .slt e (broadcast S1x1 4294967170#32))
    (shli (broadcast S1x1 1#32) (minsi (broadcast S1x1 22#32) (maxsi (broadcast S1x1 0#32) (addi e (broadcast S1x1 149#32)))))
    (shli (minsi (broadcast S1x1 255#32) (maxsi (broadcast S1x1 1#32) (addi e (broadcast S1x1 127#32)))) (broadcast S1x1 23#32)))

/-- The exponent vector of a history's scale as the kernel computes it. -/
abbrev kE (w : BitVec 32) (h : FVec Ideal S1x16 .f32) : IVec S1x1 32 := kSelV (kmax h) (kcnt (absf (kx w h))) (kSpec (kx w h) (absf (kx w h)))

theorem kSelV_apply (a x : FVec Ideal S1x1 .f32) (n : IVec S1x1 32) (i : S1x1.Idx) :
    kSelV a n (kSpec x (absf x)) i = kSel (a i) (x i) (n i) := rfl

theorem kPowV_apply (e : IVec S1x1 32) (i : S1x1.Idx) : kPowV e i = Ideal.ofBits .f32 (kPow (e i)) := rfl

theorem kE_eq (w : BitVec 32) (h : FVec Ideal S1x16 .f32) (i : S1x1.Idx) : kE w h i = kExp w h i :=
  (kSelV_apply _ _ _ _).trans (kExp_eq w h i)

theorem kPowV_kE (w : BitVec 32) (h : FVec Ideal S1x16 .f32) (i : S1x1.Idx) : kPowV (kE w h) i = pow2 (kExp w h i) := by
  rw [kPowV_apply, kE_eq, kPow_eq]; exact powWord_eWord _ _

theorem kPowV_neg_kE (w : BitVec 32) (h : FVec Ideal S1x16 .f32) (i : S1x1.Idx) :
    kPowV (subi (broadcast S1x1 0#32) (kE w h)) i = pow2 (0#32 - kExp w h i) := by
  rw [kPowV_apply, show subi (broadcast S1x1 0#32) (kE w h) i = 0#32 - kE w h i from rfl, kE_eq, kPow_eq]; exact powWord_neg_eWord _ _

/-- Region 0's intermediate values as plain expressions. -/
theorem max0_def (h : FVec Ideal S1x16 .f32) : k0_pay6 (F := Ideal) h = kmax h := rfl
theorem cnt0_def (h : FVec Ideal S1x16 .f32) : k0_pay8 (F := Ideal) h = kcnt (absf (kx 0x3B124925#32 h)) := rfl
theorem spec0_def (h : FVec Ideal S1x16 .f32) : k0_pay9 (F := Ideal) h = kSpec (kx 0x3B124925#32 h) (absf (kx 0x3B124925#32 h)) := rfl
theorem sel0_def (a : FVec Ideal S1x1 .f32) (n : IVec S1x1 32) (s : IVec S1x1 1) : k0_pay11 (F := Ideal) a n s k0_pay10 = kSelV a n s := rfl
theorem pow0_def (a : FVec Ideal S1x1 .f32) (n : IVec S1x1 32) (s : IVec S1x1 1) (z : IVec S1x1 32) :
    k0_pay12 (F := Ideal) a n s z = kPowV (k0_pay11 (F := Ideal) a n s z) := rfl
theorem neg0_def (a : FVec Ideal S1x1 .f32) (n : IVec S1x1 32) (s : IVec S1x1 1) (z : IVec S1x1 32) :
    k0_pay1 (F := Ideal) (k0_pay13 (F := Ideal) a n s z) (k0_pay14 (F := Ideal) a n s z) (k0_pay15 (F := Ideal) a n s z) 255#32 (k0_pay16)
      = kPowV (subi (broadcast S1x1 0#32) (k0_pay11 (F := Ideal) a n s z)) z11 := rfl
/-- The weight's scale is 2^e. -/
theorem scale0_eq (h : FVec Ideal S1x16 .f32) (i : S1x1.Idx) : scale0 (F := Ideal) h i = pow2 (kExp 0x3B124925#32 h i) := by
  unfold scale0
  rw [max0_def, cnt0_def, spec0_def, pow0_def, sel0_def]
  exact kPowV_kE _ _ _
/-- The weight's inverse scale is 2^-e. -/
theorem inv0_eq (h : FVec Ideal S1x16 .f32) : inv0 (F := Ideal) h = pow2 (0#32 - kExp 0x3B124925#32 h z11) := by
  unfold inv0
  rw [max0_def, cnt0_def, spec0_def, neg0_def, sel0_def]
  exact kPowV_neg_kE _ _ _

/-- Region 1's intermediate values as plain expressions. -/
theorem max1_def (h : FVec Ideal S1x16 .f32) : k1_pay3 (F := Ideal) h = kmax h := rfl
theorem cnt1_def (h : FVec Ideal S1x16 .f32) : k1_pay5 (F := Ideal) h = kcnt (absf (kx 0x3B124925#32 h)) := rfl
theorem spec1_def (h : FVec Ideal S1x16 .f32) : k1_pay6 (F := Ideal) h = kSpec (kx 0x3B124925#32 h) (absf (kx 0x3B124925#32 h)) := rfl
theorem sel1_def (a : FVec Ideal S1x1 .f32) (n : IVec S1x1 32) (s : IVec S1x1 1) : k1_pay8 (F := Ideal) a n s k1_pay7 = kSelV a n s := rfl
theorem pow1_def (a : FVec Ideal S1x1 .f32) (n : IVec S1x1 32) (s : IVec S1x1 1) (z : IVec S1x1 32) :
    k1_pay9 (F := Ideal) a n s z = kPowV (k1_pay8 (F := Ideal) a n s z) := rfl
theorem neg1_def (a : FVec Ideal S1x1 .f32) (n : IVec S1x1 32) (s : IVec S1x1 1) (z : IVec S1x1 32) :
    k1_pay14 (F := Ideal) (k1_pay10 (F := Ideal) a n s z) (k1_pay11 (F := Ideal) a n s z) (k1_pay12 (F := Ideal) a n s z) 255#32 k1_pay13
      = kPowV (subi (broadcast S1x1 0#32) (k1_pay8 (F := Ideal) a n s z)) := rfl
theorem max1w_def (h : FVec Ideal S1x16 .f32) : k1_pay15 (F := Ideal) h = kmax h := rfl
theorem x1w_def (h : FVec Ideal S1x16 .f32) : k1_pay16 (F := Ideal) h = kx 0x3B124925#32 h := rfl
theorem cnt1w_def (h : FVec Ideal S1x16 .f32) : k1_pay17 (F := Ideal) h = kcnt (absf (kx 0x3B124925#32 h)) := rfl
theorem abs1w_def (h : FVec Ideal S1x16 .f32) : k1_pay18 (F := Ideal) h = absf (kx 0x3B124925#32 h) := rfl
theorem prod1_def (v a x ax : FVec Ideal S1x1 .f32) (n : IVec S1x1 32) :
    k1_pay20 (F := Ideal) v a x n ax = mulf v (kPowV (kSelV a n (kSpec x ax))) z11 := rfl
/-- The activation's scale is 2^e. -/
theorem scale1_eq (h : FVec Ideal S1x16 .f32) (i : S1x1.Idx) : scale1 (F := Ideal) h i = pow2 (kExp 0x3B124925#32 h i) := by
  unfold scale1
  rw [max1_def, cnt1_def, spec1_def, pow1_def, sel1_def]
  exact kPowV_kE _ _ _
/-- The activation's inverse scale is 2^-e. -/
theorem inv1_eq (h : FVec Ideal S1x16 .f32) : inv1 (F := Ideal) h = pow2 (0#32 - kExp 0x3B124925#32 h z11) := by
  unfold inv1
  rw [max1_def, cnt1_def, spec1_def, neg1_def, sel1_def]
  exact kPowV_neg_kE _ _ _
/-- The product of the activation's scale and the weight's. -/
theorem prod1_eq (h g : FVec Ideal S1x16 .f32) :
    prod1 (F := Ideal) h g = pow2 (kExp 0x3B124925#32 h z11) * pow2 (kExp 0x3B124925#32 g z11) := by
  unfold prod1
  rw [max1w_def, x1w_def, cnt1w_def, abs1w_def, prod1_def]
  exact congrArg₂ (fun a b : EReal => a * b) (scale1_eq h z11) (kPowV_kE _ _ _)

/-- Region 2's intermediate values as plain expressions. -/
theorem max2_def (h : FVec Ideal S1x16 .f32) : k2_pay3 (F := Ideal) h = kmax h := rfl
theorem cnt2_def (h : FVec Ideal S1x16 .f32) : k2_pay5 (F := Ideal) h = kcnt (absf (kx 0x37924925#32 h)) := rfl
theorem spec2_def (h : FVec Ideal S1x16 .f32) : k2_pay6 (F := Ideal) h = kSpec (kx 0x37924925#32 h) (absf (kx 0x37924925#32 h)) := rfl
theorem sel2_def (a : FVec Ideal S1x1 .f32) (n : IVec S1x1 32) (s : IVec S1x1 1) : k2_pay8 (F := Ideal) a n s k2_pay7 = kSelV a n s := rfl
theorem pow2_def (a : FVec Ideal S1x1 .f32) (n : IVec S1x1 32) (s : IVec S1x1 1) (z : IVec S1x1 32) :
    k2_pay9 (F := Ideal) a n s z = kPowV (k2_pay8 (F := Ideal) a n s z) := rfl
theorem neg2_def (a : FVec Ideal S1x1 .f32) (n : IVec S1x1 32) (s : IVec S1x1 1) (z : IVec S1x1 32) :
    k2_pay14 (F := Ideal) (k2_pay10 (F := Ideal) a n s z) (k2_pay11 (F := Ideal) a n s z) (k2_pay12 (F := Ideal) a n s z) 255#32 k2_pay13
      = kPowV (subi (broadcast S1x1 0#32) (k2_pay8 (F := Ideal) a n s z)) := rfl
theorem max2w_def (h : FVec Ideal S1x16 .f32) : k2_pay15 (F := Ideal) h = kmax h := rfl
theorem x2w_def (h : FVec Ideal S1x16 .f32) : k2_pay16 (F := Ideal) h = kx 0x3B124925#32 h := rfl
theorem cnt2w_def (h : FVec Ideal S1x16 .f32) : k2_pay17 (F := Ideal) h = kcnt (absf (kx 0x3B124925#32 h)) := rfl
theorem abs2w_def (h : FVec Ideal S1x16 .f32) : k2_pay18 (F := Ideal) h = absf (kx 0x3B124925#32 h) := rfl
theorem prod2_def (v a x ax : FVec Ideal S1x1 .f32) (n : IVec S1x1 32) :
    k2_pay20 (F := Ideal) v a x n ax = mulf v (kPowV (kSelV a n (kSpec x ax))) z11 := rfl
/-- The gradient's scale is 2^e. -/
theorem scale2_eq (h : FVec Ideal S1x16 .f32) (i : S1x1.Idx) : scale2 (F := Ideal) h i = pow2 (kExp 0x37924925#32 h i) := by
  unfold scale2
  rw [max2_def, cnt2_def, spec2_def, pow2_def, sel2_def]
  exact kPowV_kE _ _ _
/-- The gradient's inverse scale is 2^-e. -/
theorem inv2_eq (h : FVec Ideal S1x16 .f32) : inv2 (F := Ideal) h = pow2 (0#32 - kExp 0x37924925#32 h z11) := by
  unfold inv2
  rw [max2_def, cnt2_def, spec2_def, neg2_def, sel2_def]
  exact kPowV_neg_kE _ _ _
/-- The product of the gradient's scale and the weight's. -/
theorem prod2_eq (h g : FVec Ideal S1x16 .f32) :
    prod2 (F := Ideal) h g = pow2 (kExp 0x37924925#32 h z11) * pow2 (kExp 0x3B124925#32 g z11) := by
  unfold prod2
  rw [max2w_def, x2w_def, cnt2w_def, abs2w_def, prod2_def]
  exact congrArg₂ (fun a b : EReal => a * b) (scale2_eq h z11) (kPowV_kE _ _ _)

/-- Region 3's intermediate values as plain expressions. -/
theorem max3_def (h : FVec Ideal S1x16 .f32) : k3_pay3 (F := Ideal) h = kmax h := rfl
theorem cnt3_def (h : FVec Ideal S1x16 .f32) : k3_pay5 (F := Ideal) h = kcnt (absf (kx 0x3B124925#32 h)) := rfl
theorem spec3_def (h : FVec Ideal S1x16 .f32) : k3_pay6 (F := Ideal) h = kSpec (kx 0x3B124925#32 h) (absf (kx 0x3B124925#32 h)) := rfl
theorem pow3_def (a : FVec Ideal S1x1 .f32) (n : IVec S1x1 32) (s : IVec S1x1 1) : k3_pay8 (F := Ideal) a n s k3_pay7 = kPowV (kSelV a n s) := rfl
theorem max3g_def (h : FVec Ideal S1x16 .f32) : k3_pay9 (F := Ideal) h = kmax h := rfl
theorem x3g_def (h : FVec Ideal S1x16 .f32) : k3_pay10 (F := Ideal) h = kx 0x37924925#32 h := rfl
theorem sel3g_def (a x : FVec Ideal S1x1 .f32) :
    k3_pay13 (F := Ideal) a x (iota .tc S1x384 32 [1] iota_S1x384_d1_w32) k3_pay11 k3_pay12 22#32 = kSelV a (kcnt (absf x)) (kSpec x (absf x)) := rfl
theorem min3g_def (a x : FVec Ideal S1x1 .f32) (i : IVec S1x384 32) (p : IVec S1x384 1) (q : IVec S1x384 32) (w : BitVec 32) (v : FVec Ideal S1x1 .f32) :
    k3_pay1 (F := Ideal) v (k3_pay13 (F := Ideal) a x i p q w) (k3_pay14 (F := Ideal) a x i p q w) k3_pay15
      = mulf v (kPowV (k3_pay13 (F := Ideal) a x i p q w)) z11 := rfl
/-- The product of the activation's scale and the gradient's. -/
theorem prod3_eq (h g : FVec Ideal S1x16 .f32) :
    prod3 (F := Ideal) h g = pow2 (kExp 0x3B124925#32 h z11) * pow2 (kExp 0x37924925#32 g z11) := by
  unfold prod3
  rw [min3g_def, max3_def, cnt3_def, spec3_def, pow3_def, max3g_def, x3g_def, sel3g_def]
  exact congrArg₂ (fun a b : EReal => a * b) (kPowV_kE _ _ _) (kPowV_kE _ _ _)

end Cert.KernelIdeal.Own
-- ==== Proof.Math.Order.lean ====
/- Maxima over the extended reals, told by their upper bounds: a maximum over some axes, a re-laying and an elementwise maximum are
   bounded by `c` exactly when their operands are. -/
module

public import proofs.«01_k».proof.Proof.Math.Scale
public import Idealize.ShloMosaic.PureOps.Ideal.Laws

@[expose] public section

noncomputable section

namespace Cert.Math

open Idealize.ShloMosaic

theorem ofBits_bot : Ideal.ofBits .f32 0xFF800000#32 = ⊥ := by
  show Ideal.ieee 8 23 (0xFF800000#32 : BitVec 32) = ⊥
  unfold Ideal.ieee
  rw [if_pos (by decide)]
  rw [if_pos (by decide), if_pos (by decide)]

/-- A maximum over some axes is at most `c` everywhere exactly when the operand is. -/
theorem reduce_max_le {s t : Shape} {axes : List (Fin s.rank)} (src : FVec Ideal s .f32) (h : s.Reduces axes t)
    (hφ : FKind.Formats .f32) (hacc : (0xFF800000#32 : BitVec 32) = FKind.maximumf.neutral .f32 hφ) (c : EReal) :
    (∀ j, multiReduction .maximumf axes t src 0xFF800000#32 h hφ hacc j ≤ c) ↔ ∀ i, src i ≤ c := by
  have e : ∀ j, multiReduction .maximumf axes t src 0xFF800000#32 h hφ hacc j ≤ c ↔ ∀ i, h.drop i = j → src i ≤ c := by
    intro j
    rw [multiReduction_maximumf_eq_reduceFold, reduceFold_eq_fold]
    refine (Finset.fold_max_le (f := src) (s := Finset.univ.filter fun i => h.drop i = j) (b := Ideal.ofBits .f32 0xFF800000#32) c).trans ?_
    rw [ofBits_bot]
    simp
  constructor
  · intro H i; exact (e _).1 (H (h.drop i)) i rfl
  · intro H j; exact (e j).2 fun i _ => H i

/-- A re-laid vector is at most `c` everywhere exactly when the vector is. -/
theorem shapeCast_le {s t : Shape} (x : s.Idx → EReal) (h : s.ShapeCasts t) (c : EReal) : (∀ j, shapeCast t x h j ≤ c) ↔ ∀ i, x i ≤ c :=
  (Shape.reshapeEquiv h).forall_congr_left.trans (by
    constructor
    · intro H i; have := H i; simpa [shapeCast] using this
    · intro H i; simpa [shapeCast] using H i)

/-- An elementwise maximum is at most `c` everywhere exactly when both operands are. -/
theorem max_le_all {s : Shape} (x y : FVec Ideal s .f32) (c : EReal) : (∀ j, maximumf x y j ≤ c) ↔ (∀ i, x i ≤ c) ∧ ∀ i, y i ≤ c := by
  constructor
  · intro H; exact ⟨fun i => (le_max_left _ _).trans (H i), fun i => (le_max_right _ _).trans (H i)⟩
  · intro H j; exact max_le (H.1 j) (H.2 j)

/-- Over a one-element index set a bound everywhere is the bound at one index. -/
theorem sub_le {ι : Type} [Subsingleton ι] (x : ι → EReal) (i : ι) (c : EReal) : x i ≤ c ↔ ∀ j, x j ≤ c :=
  ⟨fun h j => Subsingleton.elim i j ▸ h, fun h => h i⟩

/-- Two values with the same upper bounds are equal. -/
theorem eq_of_bounds {a b : EReal} (h : ∀ c, a ≤ c ↔ b ≤ c) : a = b := le_antisymm ((h b).2 le_rfl) ((h a).1 le_rfl)

end Cert.Math
-- ==== Proof.KI.RefScale.lean ====
/- The reference's results over the extended reals, with its scales as the powers of two of the exponents `rExp` and its codes
   as `quant`. -/
module

public import proofs.«01_k».proof.Proof.Math.Order
public import proofs.«01_k».proof.Proof.Gen.ReferenceIdeal.Value

@[expose] public section

set_option maxRecDepth 16384

noncomputable section

namespace Cert.ReferenceIdeal.Own

open Cert.ReferenceIdeal Cert.ReferenceIdeal.Gen Cert.Math Idealize.ShloMosaic

/-- The codes of a value: scaled and clamped to the format's bounds. -/
def quant (lo hi : BitVec 32) (s v : EReal) : EReal := min (Ideal.ofBits .f32 hi) (max (Ideal.ofBits .f32 lo) (v * s))

/-- The largest entry of a history. -/
def rmax (h : FVec Ideal S16 .f32) : EReal := k0_pay6 (F := Ideal) h

/-- The exponent of a history's scale. -/
def rExp (w : BitVec 32) (h : FVec Ideal S16 .f32) : BitVec 32 := eWord (rmax h) (rmax h * Ideal.ofBits .f32 w)

/-- The reference's count of the powers of two not above `ax`. -/
def rcnt (ax : EReal) : BitVec 32 :=
  extractAt ![0, 0, 0] (shapeCast S1x1x1 (multiReductionI .add [1, 2] S1 (shapeCast S1x1x277 (extui 32
    (cmpf .ole (exp2 (F := Ideal) (sitofp .f32 (subi (iota .tc S1x277 32 [1] iota_S1x277_d1_w32) (broadcast S1x277 149#32)))) (broadcast S1x277 ax)) natLt_1_32)
    shapeCasts_S1x277_S1x1x277) 0#32 reduces_S1x1x277_S1 rfl) shapeCasts_S1_S1x1x1) inpos_S1x1x1_p0_0_0

theorem rcnt_toNat (ax : EReal) : (rcnt ax).toNat = cntOf ax := by
  unfold rcnt
  rw [show ∀ (x : IVec S1 32) (h : S1.ShapeCasts S1x1x1), extractAt ![0, 0, 0] (shapeCast S1x1x1 x h) inpos_S1x1x1_p0_0_0
    = x (Shape.reshapeEquiv h fun a => ⟨(![0, 0, 0] : Fin 3 → ℕ) a, inpos_S1x1x1_p0_0_0 a⟩) from fun _ _ => rfl]
  refine (count_eq (t := Cert.KernelIdeal.S1) _ _ _ _ (fun k => if Ideal.exp2 (((BitVec.ofNat 32 k - 149#32).toInt : ℝ) : EReal) ≤ ax then 1 else 0)
    277 (by decide) (by norm_num) (fun k => by split <;> omega) ?_).trans ?_
  rotate_left
  · rfl
  · intro l
    have key : ∀ l' : S1x277.Idx, (S1x277.rowMajor l').val = (l' 1).val := by
      intro l'
      have h0 : (l' 0).val = 0 := by have := (l' 0).isLt; simp [S1x277] at this; omega
      rw [Shape.rowMajor_val_two]; simp [h0]
    have e1 : (S1x1x277.rowMajor l).val = (Shape.reshapeEquiv shapeCasts_S1x277_S1x1x277 l 1).val := by
      rw [← key]; simp [Shape.reshapeEquiv]
    rw [e1, ← ofBool_toNat]
    have e := iota_single_apply .tc S1x277 32 1 iota_S1x277_d1_w32 (Shape.reshapeEquiv shapeCasts_S1x277_S1x1x277 l)
    rw [← e]
    rfl

/-- The reference's exponent, as the scalar operations state it. -/
abbrev rE (a x : EReal) : BitVec 32 := rSel a x (rcnt (max x (-x)))

theorem rE_eq (w : BitVec 32) (h : FVec Ideal S16 .f32) : rE (rmax h) (rmax h * Ideal.ofBits .f32 w) = rExp w h := rSel_eq _ _ _ (rcnt_toNat _)

/-! ### The pieces of the reference -/

variable (a0 : Vec Ideal S6x3072x5120 .bf16) (a1 : Vec Ideal S5120x3456 .f32) (a2 : Vec Ideal S6x3072x3456 .bf16) (a3 a4 a5 : Vec Ideal S16 .f32)

/-- The exponent word the reference's activation branch computes. -/
abbrev wx (h : Vec Ideal S16 .f32) : BitVec 32 :=
  Scalar.select (Scalar.cmpf (F := Ideal) .oeq (k0_pay6 h) (Scalar.ofBits .f32 0x00000000#32)) 0#32 (Scalar.select (Scalar.ori (Scalar.cmpf (F := Ideal) .oeq (k0_pay7 h) (Scalar.ofBits .f32 0x00000000#32)) (Scalar.cmpf (F := Ideal) .oeq (k0_pay9 h) (Scalar.ofBits .f32 0x7F800000#32))) 0#32 (Scalar.subi (extractAt ![0, 0, 0] (k0_pay8 (F := Ideal) h) inpos_S1x1x1_p0_0_0) 149#32))
/-- The exponent word the weight's branch computes. -/
abbrev ww (h : Vec Ideal S16 .f32) : BitVec 32 :=
  Scalar.select (Scalar.cmpf (F := Ideal) .oeq (k0_pay12 h) (Scalar.ofBits .f32 0x00000000#32)) 0#32 (Scalar.select (Scalar.ori (Scalar.cmpf (F := Ideal) .oeq (k0_pay13 h) (Scalar.ofBits .f32 0x00000000#32)) (Scalar.cmpf (F := Ideal) .oeq (k0_pay15 h) (Scalar.ofBits .f32 0x7F800000#32))) 0#32 (Scalar.subi (extractAt ![0, 0, 0] (k0_pay14 (F := Ideal) h) inpos_S1x1x1_p0_0_0) 149#32))
/-- The gradient's exponent word but for an empty history. -/
abbrev wg (h : Vec Ideal S16 .f32) : BitVec 32 :=
  Scalar.select (Scalar.ori (Scalar.cmpf (F := Ideal) .oeq (k0_pay20 h) (Scalar.ofBits .f32 0x00000000#32)) (Scalar.cmpf (F := Ideal) .oeq (k0_pay22 h) (Scalar.ofBits .f32 0x7F800000#32))) 0#32 (Scalar.subi (extractAt ![0, 0, 0] (k0_pay21 (F := Ideal) h) inpos_S1x1x1_p0_0_0) 149#32)

/-- The reference's intermediate values as plain expressions. -/
theorem x7_def (h : Vec Ideal S16 .f32) : k0_pay7 (F := Ideal) h = rmax h * Ideal.ofBits .f32 0x3B124925#32 := rfl
theorem x9_def (h : Vec Ideal S16 .f32) : k0_pay9 (F := Ideal) h = max (k0_pay7 (F := Ideal) h) (-k0_pay7 (F := Ideal) h) := rfl
theorem c8_def (h : Vec Ideal S16 .f32) : extractAt ![0, 0, 0] (k0_pay8 (F := Ideal) h) inpos_S1x1x1_p0_0_0 = rcnt (max (k0_pay7 (F := Ideal) h) (-k0_pay7 (F := Ideal) h)) := rfl
theorem m12_def (h : Vec Ideal S16 .f32) : k0_pay12 (F := Ideal) h = rmax h := rfl
theorem x13_def (h : Vec Ideal S16 .f32) : k0_pay13 (F := Ideal) h = rmax h * Ideal.ofBits .f32 0x3B124925#32 := rfl
theorem x15_def (h : Vec Ideal S16 .f32) : k0_pay15 (F := Ideal) h = max (k0_pay13 (F := Ideal) h) (-k0_pay13 (F := Ideal) h) := rfl
theorem c14_def (h : Vec Ideal S16 .f32) : extractAt ![0, 0, 0] (k0_pay14 (F := Ideal) h) inpos_S1x1x1_p0_0_0 = rcnt (max (k0_pay13 (F := Ideal) h) (-k0_pay13 (F := Ideal) h)) := rfl
theorem m19_def (h : Vec Ideal S16 .f32) : k0_pay19 (F := Ideal) h = rmax h := rfl
theorem x20_def (h : Vec Ideal S16 .f32) : k0_pay20 (F := Ideal) h = rmax h * Ideal.ofBits .f32 0x37924925#32 := rfl
theorem x22_def (h : Vec Ideal S16 .f32) : k0_pay22 (F := Ideal) h = max (k0_pay20 (F := Ideal) h) (-k0_pay20 (F := Ideal) h) := rfl
theorem c21_def (h : Vec Ideal S16 .f32) : extractAt ![0, 0, 0] (k0_pay21 (F := Ideal) h) inpos_S1x1x1_p0_0_0 = rcnt (max (k0_pay20 (F := Ideal) h) (-k0_pay20 (F := Ideal) h)) := rfl

/-- The activations' exponent in the reference. -/
theorem wx_eq (h : Vec Ideal S16 .f32) : wx h = rExp 0x3B124925#32 h := by
  unfold wx
  rw [x9_def, c8_def, x7_def]
  exact rE_eq _ _
/-- The weights' exponent in the reference. -/
theorem ww_eq (h : Vec Ideal S16 .f32) : ww h = rExp 0x3B124925#32 h := by
  unfold ww
  rw [x15_def, c14_def, x13_def, m12_def]
  exact rE_eq _ _
/-- The gradients' exponent in the reference. -/
theorem wg_eq (h : Vec Ideal S16 .f32) :
    Scalar.select (Scalar.cmpf (F := Ideal) .oeq (k0_pay19 h) (Scalar.ofBits .f32 0x00000000#32)) 0#32 (wg h) = rExp 0x37924925#32 h := by
  unfold wg
  rw [x22_def, c21_def, x20_def, m19_def]
  exact rE_eq _ _

/-- The activation's scale in the reference. -/
theorem pay10_eq (h : Vec Ideal S16 .f32) : k0_pay10 (F := Ideal) h = pow2 (rExp 0x3B124925#32 h) := by
  rw [show k0_pay10 (F := Ideal) h = rPow (wx h) from rfl, wx_eq, rPow_eq]
/-- The weight's scale in the reference. -/
theorem pay16_eq (h : Vec Ideal S16 .f32) : k0_pay16 (F := Ideal) h = pow2 (rExp 0x3B124925#32 h) := by
  rw [show k0_pay16 (F := Ideal) h = rPow (ww h) from rfl, ww_eq, rPow_eq]
/-- The gradient's scale in the reference. -/
theorem pay23_eq (h : Vec Ideal S16 .f32) : k0_pay23 (F := Ideal) (k0_pay19 h) (wg h) (Scalar.ofBits .f32 0x00000000#32) = pow2 (rExp 0x37924925#32 h) := by
  rw [show ∀ e z, k0_pay23 (F := Ideal) (k0_pay19 h) e z = rPow (Scalar.select (Scalar.cmpf (F := Ideal) .oeq (k0_pay19 h) z) 0#32 e) from fun _ _ => rfl, wg_eq, rPow_eq]

/-- The activation's codes. -/
def xCode (x : Vec Ideal S6x3072x5120 .bf16) (h : Vec Ideal S16 .f32) : FVec Ideal S6x3072x5120 .fp8e4m3 :=
  fun i => quant 0xC3E00000#32 0x43E00000#32 (pow2 (0#32 - rExp 0x3B124925#32 h)) (x i)
/-- The weight's codes. -/
def wCode (x : Vec Ideal S5120x3456 .f32) (h : Vec Ideal S16 .f32) : FVec Ideal S5120x3456 .fp8e4m3 :=
  fun i => quant 0xC3E00000#32 0x43E00000#32 (pow2 (0#32 - rExp 0x3B124925#32 h)) (x i)
/-- The gradient's codes. -/
def gCode (x : Vec Ideal S6x3072x3456 .bf16) (h : Vec Ideal S16 .f32) : FVec Ideal S6x3072x3456 .fp8e5m2 :=
  fun i => quant 0xC7600000#32 0x47600000#32 (pow2 (0#32 - rExp 0x37924925#32 h)) (x i)

/-- The reference's activation codes. -/
theorem pay28_eq : k0_pay28 (F := Ideal) a0 a1 a2 a3 a4 a5 = xCode a0 a3 := by
  unfold k0_pay28
  rw [View.ld_unit_zero (S := S6x3072x5120) (by decide), View.ld_unit_zero (S := S16) (by decide)]
  refine (congrArg (fun e => k0_pay11 (F := Ideal) a0 e 0#32) (wx_eq a3)).trans ?_
  funext i
  refine Eq.trans (b := quant 0xC3E00000#32 0x43E00000#32 (rPow (0#32 - rExp 0x3B124925#32 a3)) (a0 i)) rfl ?_
  rw [rPow_eq]; rfl
/-- The reference's weight codes. -/
theorem pay29_eq : k0_pay29 (F := Ideal) a0 a1 a2 a3 a4 a5 = wCode a1 a4 := by
  unfold k0_pay29
  rw [View.ld_unit_zero (S := S5120x3456) (by decide), View.ld_unit_zero (S := S16) (by decide)]
  refine (congrArg (fun e => k0_pay17 (F := Ideal) a1 e 0#32) (ww_eq a4)).trans ?_
  funext i
  refine Eq.trans (b := quant 0xC3E00000#32 0x43E00000#32 (rPow (0#32 - rExp 0x3B124925#32 a4)) (a1 i)) rfl ?_
  rw [rPow_eq]; rfl
/-- The reference's gradient codes. -/
theorem pay24_eq : k0_pay24 (F := Ideal) a2 (k0_pay19 a5) (wg a5) (Scalar.ofBits .f32 0x00000000#32) = gCode a2 a5 := by
  funext i
  refine Eq.trans (b := quant 0xC7600000#32 0x47600000#32 (rPow (0#32 - Scalar.select (Scalar.cmpf (F := Ideal) .oeq (k0_pay19 a5) (Scalar.ofBits .f32 0x00000000#32)) 0#32 (wg a5))) (a2 i)) rfl ?_
  rw [rPow_eq, wg_eq]; rfl

/-! ### The results -/

/-- The reference's output: the product of the codes times the product of the scales. -/
theorem G6_eq : Value.G6 (F := Ideal) a0 a1 a2 a3 a4 a5 = fun j => matmul (F := Ideal) dot_S6x3072x5120_S5120x3456_S6x3072x3456_2_0_01_1_n_n none (xCode a0 a3) (wCode a1 a4)
    (constant S6x3072x3456 .f32 0x00000000#32) j * (pow2 (rExp 0x3B124925#32 a3) * pow2 (rExp 0x3B124925#32 a4)) := by
  unfold Value.G6
  rw [pay28_eq, pay10_eq, pay16_eq]
  have hw : k0_pay17 (F := Ideal) a1 (ww a4) 0#32 = wCode a1 a4 := by
    have := pay29_eq a0 a1 a2 a3 a4 a5
    unfold k0_pay29 at this
    rw [View.ld_unit_zero (S := S5120x3456) (by decide), View.ld_unit_zero (S := S16) (by decide)] at this
    exact this
  funext j
  rw [← hw]
  rfl

/-- The gradient with respect to the activation. -/
theorem G7_eq : Value.G7 (F := Ideal) a0 a1 a2 a3 a4 a5 = fun j => matmul (F := Ideal) dot_S6x3072x3456_S5120x3456_S6x3072x5120_2_1_01_0_n_n none (gCode a2 a5) (wCode a1 a4)
    (constant S6x3072x5120 .f32 0x00000000#32) j * (pow2 (rExp 0x37924925#32 a5) * pow2 (rExp 0x3B124925#32 a4)) := by
  unfold Value.G7
  rw [pay29_eq, pay16_eq, ← pay24_eq, ← pay23_eq]
  rfl

/-- The gradient with respect to the weight. -/
theorem G8_eq : Value.G8 (F := Ideal) a0 a1 a2 a3 a4 a5 = fun j => matmul (F := Ideal) dot_S6x3072x5120_S6x3072x3456_S5120x3456_01_01_2_2_n_n none (xCode a0 a3) (gCode a2 a5)
    (constant S5120x3456 .f32 0x00000000#32) j * (pow2 (rExp 0x3B124925#32 a3) * pow2 (rExp 0x37924925#32 a5)) := by
  unfold Value.G8
  rw [pay28_eq, pay10_eq, ← pay24_eq, ← pay23_eq]
  rfl

/-- The reference's results seven, nine and eleven are the codes. -/
theorem G12_eq : Value.G12 (F := Ideal) a0 a1 a2 a3 a4 a5 = xCode a0 a3 := pay28_eq _ _ _ _ _ _
theorem G14_eq : Value.G14 (F := Ideal) a0 a1 a2 a3 a4 a5 = wCode a1 a4 := pay29_eq _ _ _ _ _ _
theorem G16_eq : Value.G16 (F := Ideal) a0 a1 a2 a3 a4 a5 = gCode a2 a5 := pay24_eq _ _
/-- The reference's results eight, ten and twelve are the scales. -/
theorem G13_eq (j : S1x1.Idx) : Value.G13 (F := Ideal) a0 a1 a2 a3 a4 a5 j = pow2 (rExp 0x3B124925#32 a3) := pay10_eq _
theorem G15_eq (j : S1x1.Idx) : Value.G15 (F := Ideal) a0 a1 a2 a3 a4 a5 j = pow2 (rExp 0x3B124925#32 a4) := pay16_eq _
theorem G17_eq (j : S1x1.Idx) : Value.G17 (F := Ideal) a0 a1 a2 a3 a4 a5 j = pow2 (rExp 0x37924925#32 a5) := pay23_eq _

end Cert.ReferenceIdeal.Own
-- ==== Proof.KI.Hist.lean ====
/- The amax histories over the extended reals: the kernel's folded maximum and the reference's maximum over the whole array, each told
   by its upper bounds, and the shifted history of the one as that of the other. -/
module

public import proofs.«01_k».proof.Proof.Gen.KernelIdeal.Skeleton
public import proofs.«01_k».proof.Proof.KI.RefScale
public import proofs.«01_k».proof.Proof.Math.Order
public import Idealize.ShloMosaic.Lib.Pointwise.SelectCore

@[expose] public section

set_option maxRecDepth 16384

noncomputable section

namespace Cert.KernelIdeal.Own

open Cert.KernelIdeal Cert.KernelIdeal.Gen Cert.Math
open Idealize.ShloMosaic

/-- The largest entry of an 8 × 128 vector, as a 1 × 1 vector. -/
def amaxOf (a : FVec Ideal S8x128 .f32) : FVec Ideal S1x1 .f32 :=
  shapeCast S1x1 (multiReduction .maximumf [1] S1 (shapeCast S1x128 (multiReduction .maximumf [0] S128 a 0xFF800000#32 reduces_S8x128_S128 (.inl rfl) rfl)
    shapeCasts_S128_S1x128) 0xFF800000#32 reduces_S1x128_S1 (.inl rfl) rfl) shapeCasts_S1_S1x1

/-- The largest entry is at most a bound exactly when every entry is. -/
theorem amaxOf_le (a : FVec Ideal S8x128 .f32) (i : S1x1.Idx) (c : EReal) : amaxOf a i ≤ c ↔ ∀ j, a j ≤ c := by
  exact (Cert.Math.sub_le _ i c).trans ((shapeCast_le _ _ c).trans ((reduce_max_le _ _ _ _ c).trans ((shapeCast_le _ _ c).trans (reduce_max_le _ _ _ _ c))))

/-- A history shifted by one with a new last entry. -/
def push (h : FVec Ideal S1x16 .f32) (v : FVec Ideal S1x1 .f32) : FVec Ideal S1x16 .f32 :=
  concatenate S1x16 1 [⟨S1x15, extractStridedSlice S1x15 ![0, 1] (shapeCast S1x16 h shapeCasts_S1x16_S1x16) slices_S1x16_o0_1_S1x15⟩, ⟨S1x1, v⟩]
    concatenates_S1x15_S1x1_S1x16_d1

/-- What each region writes to its history is the shifted history. -/
theorem k0_pay5_eq (h : FVec Ideal S1x16 .f32) (a : FVec Ideal S8x128 .f32) : k0_pay5 (F := Ideal) h a = push h (amaxOf a) := rfl
theorem k1_pay2_eq (h : FVec Ideal S1x16 .f32) (a : FVec Ideal S8x128 .f32) : k1_pay2 (F := Ideal) h a = push h (amaxOf a) := rfl
theorem k2_pay2_eq (h : FVec Ideal S1x16 .f32) (a : FVec Ideal S8x128 .f32) : k2_pay2 (F := Ideal) h a = push h (amaxOf a) := rfl

/-- The reference's shifted history. -/
def rpush (h : FVec Ideal S16 .f32) (b : EReal) : FVec Ideal S16 .f32 :=
  concatenate S16 0 [⟨Cert.ReferenceIdeal.S15, extractStridedSlice Cert.ReferenceIdeal.S15 ![1] h Cert.ReferenceIdeal.Gen.slices_S16_o1_S15⟩,
    ⟨S1, broadcast S1 b⟩] Cert.ReferenceIdeal.Gen.concatenates_S15_S1_S16_d0

/-- The index of a history's entry in its one-row layout. -/
def row0 (k : Fin 16) : S1x16.Idx := fun a => match a with
  | ⟨0, _⟩ => (0 : Fin 1)
  | ⟨1, _⟩ => k

/-- The index of a history's entry. -/
def ent (k : Fin 16) : S16.Idx := fun a => match a with
  | ⟨0, _⟩ => k

/-- The kernel's shifted history, laid out as a vector, is the reference's. -/
theorem push_eq (h : FVec Ideal S16 .f32) (v : FVec Ideal S1x1 .f32) (b : EReal) (hv : ∀ i, v i = b) :
    shapeCast S16 (push (shapeCast S1x16 h shapeCasts_S16_S1x16) v) shapeCasts_S1x16_S16 = rpush h b := by
  unfold push rpush
  rw [shapeCast_self]
  funext j
  have hj : (j 0).val < 16 := (j 0).isLt
  rw [shapeCast_apply _ _ j (row0 (j 0)) (by rw [Shape.rowMajor_val_two, Shape.rowMajor_val_one]; simp [row0])]
  rw [concatenate_pair_apply, concatenate_pair_apply]
  by_cases hlt : (j 0).val < 15
  · refine (dif_pos (show (row0 (j 0) 1).val < 15 from hlt)).trans (Eq.trans ?_ (dif_pos hlt).symm)
    refine (extractStridedSlice_apply _ _ _ _ (row0 ⟨(j 0).val + 1, by omega⟩) (fun a => ?_)).trans ?_
    · match a with
      | ⟨0, _⟩ => rfl
      | ⟨1, _⟩ => exact Nat.add_comm _ _
    refine (shapeCast_apply _ _ _ (ent ⟨(j 0).val + 1, by omega⟩) (by rw [Shape.rowMajor_val_two, Shape.rowMajor_val_one]; simp [row0, ent])).trans ?_
    refine (extractStridedSlice_apply _ _ _ _ _ (fun a => ?_)).symm
    match a with
    | ⟨0, _⟩ => exact Nat.add_comm _ _
  · refine (dif_neg (show ¬ (row0 (j 0) 1).val < 15 from hlt)).trans (Eq.trans ?_ (dif_neg hlt).symm)
    exact hv _

/-- One step of the weights' folded maximum. -/
theorem k0_fold_le (v : FVec Ideal S256x3456 .f32) (a : FVec Ideal S8x128 .f32) (c : EReal) :
    (∀ i, k0_pay3 (F := Ideal) v a i ≤ c) ↔ (∀ i, a i ≤ c) ∧ ∀ j, max (v j) (-(v j)) ≤ c := by
  exact (shapeCast_le _ _ c).trans ((max_le_all _ _ c).trans (and_congr_right fun _ => (reduce_max_le _ _ _ _ c).trans
    ((shapeCast_le _ _ c).trans ((reduce_max_le _ _ _ _ c).trans (shapeCast_le _ _ c)))))

/-- One step of the activations' folded maximum. -/
theorem k1_fold_le (v : FVec Ideal S512x5120 .bf16) (a : FVec Ideal S8x128 .f32) (c : EReal) :
    (∀ i, k1_pay23 (F := Ideal) v a i ≤ c) ↔ (∀ i, a i ≤ c) ∧ ∀ j, max (v j) (-(v j)) ≤ c := by
  have e : k1_pay22 (F := Ideal) v = v := shapeCast_self _ _
  unfold k1_pay23
  rw [e]
  exact (shapeCast_le _ _ c).trans ((max_le_all _ _ c).trans (and_congr_right fun _ => (reduce_max_le _ _ _ _ c).trans
    ((shapeCast_le _ _ c).trans ((reduce_max_le _ _ _ _ c).trans (shapeCast_le _ _ c)))))

/-- One step of the gradients' folded maximum. -/
theorem k2_fold_le (v : FVec Ideal S512x3456 .bf16) (a : FVec Ideal S8x128 .f32) (c : EReal) :
    (∀ i, k2_pay23 (F := Ideal) v a i ≤ c) ↔ (∀ i, a i ≤ c) ∧ ∀ j, max (v j) (-(v j)) ≤ c := by
  have e : k2_pay22 (F := Ideal) v = v := shapeCast_self _ _
  unfold k2_pay23
  rw [e]
  exact (shapeCast_le _ _ c).trans ((max_le_all _ _ c).trans (and_congr_right fun _ => (reduce_max_le _ _ _ _ c).trans
    ((shapeCast_le _ _ c).trans ((reduce_max_le _ _ _ _ c).trans (shapeCast_le _ _ c)))))

/-- The bounds of the zeros the folded maximum starts at. -/
theorem zeros0_le (c : EReal) : (∀ i, k0_pay2 (F := Ideal) i ≤ c) ↔ 0 ≤ c := by
  have e : ∀ i, k0_pay2 (F := Ideal) i = 0 := fun i => ofBits_zero
  simp only [e]
  exact ⟨fun h => h (fun a => ⟨0, by fin_cases a <;> decide⟩), fun h _ => h⟩
theorem zeros1_le (c : EReal) : (∀ i, k1_pay21 (F := Ideal) i ≤ c) ↔ 0 ≤ c := zeros0_le c
theorem zeros2_le (c : EReal) : (∀ i, k2_pay21 (F := Ideal) i ≤ c) ↔ 0 ≤ c := zeros0_le c

instance : Subsingleton Cert.ReferenceIdeal.S1x1x1.Idx := ⟨fun a b => funext fun d => by
  fin_cases d <;> exact Subsingleton.elim (α := Fin 1) _ _⟩
instance : Subsingleton Cert.ReferenceIdeal.S1x1x1x1.Idx := ⟨fun a b => funext fun d => by
  fin_cases d <;> exact Subsingleton.elim (α := Fin 1) _ _⟩

/-- A magnitude's bound is not negative. -/
theorem nonneg_of_abs_le {x c : EReal} (h : max x (-x) ≤ c) : 0 ≤ c := by
  rcases le_total 0 x with hx | hx
  · exact hx.trans ((le_max_left _ _).trans h)
  · exact (EReal.neg_nonneg.2 hx).trans ((le_max_right _ _).trans h)

/-- The reference's new history of the activations, the weights and the gradients: the shifted one, with a last entry whose upper
    bounds are those of the magnitudes. -/
theorem ref_hist_x (x : FVec Ideal Cert.ReferenceIdeal.S6x3072x5120 .bf16) (h : FVec Ideal S16 .f32) :
    ∃ b : EReal, Cert.ReferenceIdeal.Gen.k0_pay27 (F := Ideal) x h = rpush h b ∧ ∀ c, b ≤ c ↔ ∀ i, max (x i) (-(x i)) ≤ c := by
  refine ⟨_, rfl, fun c => ?_⟩
  exact (Cert.Math.sub_le _ _ c).trans ((shapeCast_le _ _ c).trans ((reduce_max_le _ _ _ _ c).trans (shapeCast_le _ _ c)))
/-- The same for the weights. -/
theorem ref_hist_w (x : FVec Ideal Cert.ReferenceIdeal.S5120x3456 .f32) (h : FVec Ideal S16 .f32) :
    ∃ b : EReal, Cert.ReferenceIdeal.Gen.k0_pay1 (F := Ideal) x h = rpush h b ∧ ∀ c, b ≤ c ↔ ∀ i, max (x i) (-(x i)) ≤ c := by
  refine ⟨_, rfl, fun c => ?_⟩
  exact (Cert.Math.sub_le _ _ c).trans ((shapeCast_le _ _ c).trans ((reduce_max_le _ _ _ _ c).trans (shapeCast_le _ _ c)))
/-- The same for the gradients. -/
theorem ref_hist_g (x : FVec Ideal Cert.ReferenceIdeal.S6x3072x3456 .bf16) (h : FVec Ideal S16 .f32) :
    ∃ b : EReal, Cert.ReferenceIdeal.Gen.k0_pay2 (F := Ideal) x h = rpush h b ∧ ∀ c, b ≤ c ↔ ∀ i, max (x i) (-(x i)) ≤ c := by
  refine ⟨_, rfl, fun c => ?_⟩
  exact (Cert.Math.sub_le _ _ c).trans ((shapeCast_le _ _ c).trans ((reduce_max_le _ _ _ _ c).trans (shapeCast_le _ _ c)))

end Cert.KernelIdeal.Own

end
-- ==== Proof.KI.Val0.lean ====
/- Region 0 over the extended reals: what each result array holds after it, in terms of the entry contents of the buffers. -/
module

public import proofs.«01_k».proof.Proof.KI.Dat0
public import proofs.«01_k».proof.Proof.KI.ScaleEq
public import proofs.«01_k».proof.Proof.KI.Hist
public import proofs.«01_k».proof.Proof.Math.Order
public import Idealize.ShloMosaic.Lib.Pipeline.ValueKit.Geometry

@[expose] public section

set_option maxRecDepth 16384

noncomputable section

namespace Cert.KernelIdeal.Own

open Cert.KernelIdeal Cert.KernelIdeal.Gen Cert.Math
open Idealize.ShloMosaic Idealize.ShloMosaic.TcCoe
open Cert.ReferenceIdeal.Own (quant)
open Idealize.ShloMosaic.Pipeline (Dat Cfg Window)

variable (V : Dev nD → Valuation τ sig (Elt Ideal))

/-- The block indices of region 0's windows at a point. -/
theorem idx0_0 : ∀ t : Fin cfg0.N, win0_0.index t = ![0, 0] := (by decide +kernel : ∀ t : Fin grid0.N, win0_0.index t = ![0, 0])
theorem idx0_1 : ∀ t : Fin cfg0.N, win0_1.index t = ![t.val, 0] := (by decide +kernel : ∀ t : Fin grid0.N, win0_1.index t = ![t.val, 0])
theorem idx0_2 : ∀ t : Fin cfg0.N, win0_2.index t = ![t.val, 0] := (by decide +kernel : ∀ t : Fin grid0.N, win0_2.index t = ![t.val, 0])

/-- The history's block is the whole history. -/
theorem blk0_0_eq (c : Dev nD) (t : Fin cfg0.N) : blk0_0 V c t = V c (Proc.devRef .tc main_v3) := by
  funext y
  unfold blk0_0 iblk0
  blk_simp
  congr 1
  blk_ext [idx0_0]

/-- The weights on entry. -/
def wArr (c : Dev nD) : FVec Ideal S5120x3456 .f32 := V c (Proc.devRef .tc main_arg1)

/-- The codes of the weights, as region 0 leaves them. -/
theorem arr0_2 (c : Dev nD) : (dat0 V c).arrAt 2 cfg0.N = fun i => quant 0xC3E00000#32 0x43E00000#32 (sI0 V c) (wArr V c i) := by
  refine (dat0 V c).arrAt_eq_of_covers 2 _ (by decide +kernel) fun t hf y => ?_
  blk_simp
  rw [after0_2]
  unfold out0_2
  show quant 0xC3E00000#32 0x43E00000#32 (sI0 V c) (blk0_1 V c t y) = _
  congr 1

/-- The scale of the weights, as region 0 leaves it. -/
theorem arr0_4 (c : Dev nD) : (dat0 V c).arrAt 4 cfg0.N = out0_4 V c := by
  refine (dat0 V c).arrAt_eq_of_covers 4 _ (by decide +kernel) fun t hf y => ?_
  blk_simp
  rw [after0_4]
  exact congrArg (out0_4 V c) (Subsingleton.elim (α := S1x1.Idx) _ _)

/-- The new history of the weights, as region 0 leaves it. -/
theorem arr0_3 (c : Dev nD) : (dat0 V c).arrAt 3 cfg0.N = out0_3 V c := by
  refine (dat0 V c).arrAt_eq_of_covers 3 _ (by decide +kernel) fun t hf y => ?_
  blk_simp
  rw [after0_3]
  congr 1
  blk_ext [(by decide +kernel : ∀ t : Fin grid0.N, win0_3.index t = ![0, 0])]

/-- A bound of the folded maximum after a point is a bound of every block so far (and of the zeros it starts from). -/
theorem am0_le (c : Dev nD) (C : EReal) : ∀ (n : ℕ) (h : n < cfg0.N), (∀ i, am0 V c n h i ≤ C) ↔
    0 ≤ C ∧ ∀ t : Fin cfg0.N, t.val ≤ n → ∀ j, max (blk0_1 V c t j) (-(blk0_1 V c t j)) ≤ C
  | 0, h => by
    refine (k0_fold_le (blk0_1 V c ⟨0, h⟩) k0_pay2 C).trans (and_congr (zeros0_le C) ?_)
    constructor
    · intro H t ht
      obtain rfl : t = ⟨0, h⟩ := Fin.ext (Nat.le_zero.1 ht)
      exact H
    · intro H; exact H ⟨0, h⟩ le_rfl
  | n + 1, h => by
    refine (k0_fold_le (blk0_1 V c ⟨n + 1, h⟩) (am0 V c n (Nat.lt_of_succ_lt h)) C).trans ?_
    rw [am0_le c C n (Nat.lt_of_succ_lt h), and_assoc]
    refine and_congr_right fun _ => ?_
    constructor
    · rintro ⟨H, H'⟩ t ht
      rcases Nat.lt_or_ge n t.val with hlt | hge
      · obtain rfl : t = ⟨n + 1, h⟩ := Fin.ext (Nat.le_antisymm ht hlt)
        exact H'
      · exact H t hge
    · intro H
      exact ⟨fun t ht => H t (Nat.le_succ_of_le ht), H ⟨n + 1, h⟩ le_rfl⟩

/-- Every weight lies in some point's block. -/
theorem blk0_1_onto (c : Dev nD) (i : S5120x3456.Idx) : ∃ (t : Fin cfg0.N) (y : S256x3456.Idx),
    blk0_1 V c t y = wArr V c i := by
  have h0 : (i 0).val < 5120 := (i 0).isLt
  have h1 : (i 1).val < 3456 := (i 1).isLt
  refine ⟨⟨(i 0).val / 256, by rw [show cfg0.N = 20 from N_0]; omega⟩, ix2 ⟨(i 0).val % 256, by omega⟩ ⟨(i 1).val, h1⟩, ?_⟩
  unfold blk0_1 iblk0
  blk_simp
  congr 1
  blk_ext [idx0_1]

/-- A weight read in a block is a weight. -/
theorem blk0_1_mem (c : Dev nD) (t : Fin cfg0.N) (y : S256x3456.Idx) : ∃ i : S5120x3456.Idx,
    blk0_1 V c t y = wArr V c i := ⟨_, rfl⟩

/-- The bounds of the folded maximum of all the blocks are those of the weights' magnitudes. -/
theorem amax0_le (c : Dev nD) (C : EReal) (i : S1x1.Idx) : amaxOf (am0 V c last0.val last0.isLt) i ≤ C ↔
    ∀ i : S5120x3456.Idx, max (wArr V c i) (-(wArr V c i)) ≤ C := by
  rw [amaxOf_le, am0_le]
  constructor
  · rintro ⟨_, H⟩ i
    obtain ⟨t, y, e⟩ := blk0_1_onto V c i
    rw [← e]
    have := lt_of_lt_of_eq t.isLt (show cfg0.N = 20 from N_0)
    exact H t (by show t.val ≤ 19; omega) y
  · intro H
    refine ⟨nonneg_of_abs_le (H (ix2 0 0)), fun t _ y => ?_⟩
    obtain ⟨i, e⟩ := blk0_1_mem V c t y
    rw [e]
    exact H i

end Cert.KernelIdeal.Own

end
-- ==== Proof.KI.Dots.lean ====
/- The programs' dots over the extended reals, at an index: sums of products. -/
module

public import proofs.«01_k».proof.Proof.Gen.KernelIdeal.Skeleton
public import proofs.«01_k».proof.Proof.Gen.ReferenceIdeal.Value
public import Idealize.ShloMosaic.Lib.Pointwise

@[expose] public section

set_option maxRecDepth 16384

noncomputable section

namespace Cert.KernelIdeal.Own

open Cert.KernelIdeal Cert.KernelIdeal.Gen
open Idealize.ShloMosaic

/-- The forward dot of a row block. -/
theorem kdot_fwd (l : FVec Ideal S512x5120 .fp8e4m3) (r : FVec Ideal S5120x3456 .fp8e4m3) (acc : FVec Ideal S512x3456 .f32) (a : Fin 512) (b : Fin 3456) :
    matmul dot_S512x5120_S5120x3456_S512x3456_1_0_0_1_n_n none l r acc (ix2 a b) = acc (ix2 a b) + ∑ k : Fin 5120, l (ix2 a k) * r (ix2 k b) := by
  simp only [pointwise]

/-- The input-gradient dot of a row block. -/
theorem kdot_dx (l : FVec Ideal S512x3456 .fp8e5m2) (r : FVec Ideal S5120x3456 .fp8e4m3) (acc : FVec Ideal S512x5120 .f32) (a : Fin 512) (b : Fin 5120) :
    matmul dot_S512x3456_S5120x3456_S512x5120_1_1_0_0_n_n none l r acc (ix2 a b) = acc (ix2 a b) + ∑ k : Fin 3456, l (ix2 a k) * r (ix2 b k) := by
  simp only [pointwise]

/-- The weight-gradient dot of a token block. -/
theorem kdot_dw (l : FVec Ideal S2048x1280 .fp8e4m3) (r : FVec Ideal S2048x3456 .fp8e5m2) (acc : FVec Ideal S1280x3456 .f32) (a : Fin 1280) (b : Fin 3456) :
    matmul dot_S2048x1280_S2048x3456_S1280x3456_0_0_1_1_n_n none l r acc (ix2 a b) = acc (ix2 a b) + ∑ k : Fin 2048, l (ix2 k a) * r (ix2 k b) := by
  simp only [pointwise]

/-- The reference's forward dot. -/
theorem rdot_fwd (l : FVec Ideal ReferenceIdeal.S6x3072x5120 .fp8e4m3) (r : FVec Ideal S5120x3456 .fp8e4m3) (acc : FVec Ideal ReferenceIdeal.S6x3072x3456 .f32) (a : Fin 6) (b : Fin 3072) (n : Fin 3456) :
    matmul ReferenceIdeal.dot_S6x3072x5120_S5120x3456_S6x3072x3456_2_0_01_1_n_n none l r acc (ix3 a b n) = acc (ix3 a b n) + ∑ k : Fin 5120, l (ix3 a b k) * r (ix2 k n) := by
  simp only [pointwise]

/-- The reference's input-gradient dot. -/
theorem rdot_dx (l : FVec Ideal ReferenceIdeal.S6x3072x3456 .fp8e5m2) (r : FVec Ideal S5120x3456 .fp8e4m3) (acc : FVec Ideal ReferenceIdeal.S6x3072x5120 .f32) (a : Fin 6) (b : Fin 3072) (n : Fin 5120) :
    matmul ReferenceIdeal.dot_S6x3072x3456_S5120x3456_S6x3072x5120_2_1_01_0_n_n none l r acc (ix3 a b n) = acc (ix3 a b n) + ∑ k : Fin 3456, l (ix3 a b k) * r (ix2 n k) := by
  simp only [pointwise]

/-- The reference's weight-gradient dot. -/
theorem rdot_dw (l : FVec Ideal ReferenceIdeal.S6x3072x5120 .fp8e4m3) (r : FVec Ideal ReferenceIdeal.S6x3072x3456 .fp8e5m2) (acc : FVec Ideal S5120x3456 .f32) (a : Fin 5120) (b : Fin 3456) :
    matmul ReferenceIdeal.dot_S6x3072x5120_S6x3072x3456_S5120x3456_01_01_2_2_n_n none l r acc (ix2 a b) = acc (ix2 a b) + ∑ p : Fin 6, ∑ q : Fin 3072, l (ix3 p q a) * r (ix3 p q b) := by
  simp only [pointwise]

end Cert.KernelIdeal.Own

end
-- ==== Proof.KI.Val1.lean ====
/- Region 1 over the extended reals: what each result array holds after it, in terms of the entry contents of the buffers. -/
module

public import proofs.«01_k».proof.Proof.KI.Dat1
public import proofs.«01_k».proof.Proof.KI.Hist
public import proofs.«01_k».proof.Proof.KI.Dots
public import Idealize.ShloMosaic.Lib.Pipeline.ValueKit.Geometry

@[expose] public section

set_option maxRecDepth 16384

noncomputable section

namespace Cert.KernelIdeal.Own

open Cert.KernelIdeal Cert.KernelIdeal.Gen Cert.Math
open Idealize.ShloMosaic Idealize.ShloMosaic.TcCoe
open Cert.ReferenceIdeal.Own (quant)
open Idealize.ShloMosaic.Pipeline (Dat Cfg Window)

variable (V : Dev nD → Valuation τ sig (Elt Ideal))

/-- The block indices of region 1's windows at a point. -/
theorem idx1_0 : ∀ t : Fin cfg1.N, win1_0.index t = ![0, 0] := (by decide +kernel : ∀ t : Fin grid1.N, win1_0.index t = ![0, 0])
theorem idx1_1 : ∀ t : Fin cfg1.N, win1_1.index t = ![0, 0] := (by decide +kernel : ∀ t : Fin grid1.N, win1_1.index t = ![0, 0])
theorem idx1_2 : ∀ t : Fin cfg1.N, win1_2.index t = ![t.val, 0] := (by decide +kernel : ∀ t : Fin grid1.N, win1_2.index t = ![t.val, 0])
theorem idx1_3 : ∀ t : Fin cfg1.N, win1_3.index t = ![0, 0] := (by decide +kernel : ∀ t : Fin grid1.N, win1_3.index t = ![0, 0])
theorem idx1_4 : ∀ t : Fin cfg1.N, win1_4.index t = ![t.val / 6, t.val % 6, 0] := (by decide +kernel : ∀ t : Fin grid1.N, win1_4.index t = ![t.val / 6, t.val % 6, 0])
theorem idx1_5 : ∀ t : Fin cfg1.N, win1_5.index t = ![t.val, 0] := (by decide +kernel : ∀ t : Fin grid1.N, win1_5.index t = ![t.val, 0])

/-- The activations and the codes of the weights on entry. -/
def aArr1 (c : Dev nD) : FVec Ideal S18432x5120 .bf16 := V c (Proc.devRef .tc main_v0)
def wqArr1 (c : Dev nD) : FVec Ideal S5120x3456 .fp8e4m3 := V c (Proc.devRef .tc main_v5_0)

/-- The histories' blocks are the whole histories, the codes' block the whole array of codes. -/
theorem blk1_0_eq (c : Dev nD) (t : Fin cfg1.N) : blk1_0 V c t = V c (Proc.devRef .tc main_v2) := by
  funext y
  unfold blk1_0 iblk1
  blk_simp
  congr 1
  blk_ext [idx1_0]
theorem blk1_1_eq (c : Dev nD) (t : Fin cfg1.N) : blk1_1 V c t = V c (Proc.devRef .tc main_v3) := by
  funext y
  unfold blk1_1 iblk1
  blk_simp
  congr 1
  blk_ext [idx1_1]
theorem blk1_3_eq (c : Dev nD) (t : Fin cfg1.N) : blk1_3 V c t = wqArr1 V c := by
  funext y
  unfold blk1_3 iblk1
  blk_simp
  unfold wqArr1
  congr 1
  blk_ext [idx1_3]

/-- A row of a point's block is the array's row under it. -/
theorem blk1_2_at (c : Dev nD) (t : Fin cfg1.N) (p : Fin 512) (k : Fin 5120) (r : Fin 18432) (hr : r.val = t.val * 512 + p.val) :
    blk1_2 V c t (ix2 p k) = aArr1 V c (ix2 r k) := by
  unfold blk1_2 iblk1
  blk_simp
  unfold aArr1
  congr 1
  blk_ext [idx1_2]

/-- The codes of the activations, as region 1 leaves them. -/
theorem arr1_5 (c : Dev nD) : (dat1 V c).arrAt 5 cfg1.N = fun i => quant 0xC3E00000#32 0x43E00000#32 (sI1 V c) (aArr1 V c i) := by
  refine (dat1 V c).arrAt_eq_of_covers 5 _ (by decide +kernel) fun t hf y => ?_
  blk_simp
  rw [after1_5]
  unfold out1_5
  have e : k1_pay22 (F := Ideal) (blk1_2 V c t) = blk1_2 V c t := shapeCast_self _ _
  unfold k1_pay24
  rw [e]
  show quant 0xC3E00000#32 0x43E00000#32 (sI1 V c) (blk1_2 V c t y) = _
  congr 1

/-- The scale of the activations, as region 1 leaves it. -/
theorem arr1_7 (c : Dev nD) : (dat1 V c).arrAt 7 cfg1.N = out1_7 V c := by
  refine (dat1 V c).arrAt_eq_of_covers 7 _ (by decide +kernel) fun t hf y => ?_
  blk_simp
  rw [after1_7]
  exact congrArg (out1_7 V c) (Subsingleton.elim (α := S1x1.Idx) _ _)

/-- The new history of the activations, as region 1 leaves it. -/
theorem arr1_6 (c : Dev nD) : (dat1 V c).arrAt 6 cfg1.N = out1_6 V c := by
  refine (dat1 V c).arrAt_eq_of_covers 6 _ (by decide +kernel) fun t hf y => ?_
  blk_simp
  rw [after1_6]
  congr 1
  blk_ext [(by decide +kernel : ∀ t : Fin grid1.N, win1_6.index t = ![0, 0])]

/-- A bound of the folded maximum after a point is a bound of every block so far (and of the zeros it starts from). -/
theorem am1_le (c : Dev nD) (C : EReal) : ∀ (n : ℕ) (h : n < cfg1.N), (∀ i, am1 V c n h i ≤ C) ↔
    0 ≤ C ∧ ∀ t : Fin cfg1.N, t.val ≤ n → ∀ j, max (blk1_2 V c t j) (-(blk1_2 V c t j)) ≤ C
  | 0, h => by
    refine (k1_fold_le (blk1_2 V c ⟨0, h⟩) k1_pay21 C).trans (and_congr (zeros1_le C) ?_)
    constructor
    · intro H t ht
      obtain rfl : t = ⟨0, h⟩ := Fin.ext (Nat.le_zero.1 ht)
      exact H
    · intro H; exact H ⟨0, h⟩ le_rfl
  | n + 1, h => by
    refine (k1_fold_le (blk1_2 V c ⟨n + 1, h⟩) (am1 V c n (Nat.lt_of_succ_lt h)) C).trans ?_
    rw [am1_le c C n (Nat.lt_of_succ_lt h), and_assoc]
    refine and_congr_right fun _ => ?_
    constructor
    · rintro ⟨H, H'⟩ t ht
      rcases Nat.lt_or_ge n t.val with hlt | hge
      · obtain rfl : t = ⟨n + 1, h⟩ := Fin.ext (Nat.le_antisymm ht hlt)
        exact H'
      · exact H t hge
    · intro H
      exact ⟨fun t ht => H t (Nat.le_succ_of_le ht), H ⟨n + 1, h⟩ le_rfl⟩

/-- Every entry lies in some point's block, and a block's entry is one of the array's. -/
theorem blk1_2_onto (c : Dev nD) (i : S18432x5120.Idx) : ∃ (t : Fin cfg1.N) (y : S512x5120.Idx), blk1_2 V c t y = aArr1 V c i := by
  have h0 : (i 0).val < 18432 := (i 0).isLt
  refine ⟨⟨(i 0).val / 512, by rw [show cfg1.N = 36 from N_1]; omega⟩, ix2 ⟨(i 0).val % 512, by omega⟩ (i 1), ?_⟩
  exact (blk1_2_at V c _ _ _ (i 0) (by show (i 0).val = (i 0).val / 512 * 512 + (i 0).val % 512; omega)).trans (congrArg (aArr1 V c) (ix2_eta i))
theorem blk1_2_mem (c : Dev nD) (t : Fin cfg1.N) (y : S512x5120.Idx) : ∃ i : S18432x5120.Idx, blk1_2 V c t y = aArr1 V c i := ⟨_, rfl⟩

/-- The bounds of the folded maximum of all the blocks are those of the magnitudes. -/
theorem amax1_le (c : Dev nD) (C : EReal) (i : S1x1.Idx) : amaxOf (am1 V c last1.val last1.isLt) i ≤ C ↔
    ∀ i : S18432x5120.Idx, max (aArr1 V c i) (-(aArr1 V c i)) ≤ C := by
  rw [amaxOf_le, am1_le]
  constructor
  · rintro ⟨_, H⟩ i
    obtain ⟨t, y, e⟩ := blk1_2_onto V c i
    rw [← e]
    have := lt_of_lt_of_eq t.isLt (show cfg1.N = 36 from N_1)
    exact H t (by show t.val ≤ 35; omega) y
  · intro H
    refine ⟨nonneg_of_abs_le (H (ix2 0 0)), fun t _ y => ?_⟩
    obtain ⟨i, e⟩ := blk1_2_mem V c t y
    rw [e]
    exact H i

/-- The dot's result, as region 1 leaves it: each row's codes times the weights' codes, times the product of the scales. -/
theorem arr1_4 (c : Dev nD) : (dat1 V c).arrAt 4 cfg1.N = fun i : S6x3072x3456.Idx =>
    (0 + ∑ k : Fin 5120, quant 0xC3E00000#32 0x43E00000#32 (sI1 V c) (aArr1 V c (ix2 ⟨(i 0).val * 3072 + (i 1).val, by
      have h0 : (i 0).val < 6 := (i 0).isLt
      have h1 : (i 1).val < 3072 := (i 1).isLt
      omega⟩ k)) * wqArr1 V c (ix2 k (i 2))) * sP1 V c := by
  refine (dat1 V c).arrAt_eq_of_covers 4 _ (by decide +kernel) fun t hf y => ?_
  blk_simp
  rw [after1_4]
  unfold out1_4
  have ht := lt_of_lt_of_eq t.isLt (show cfg1.N = 36 from N_1)
  have e : k1_pay22 (F := Ideal) (blk1_2 V c t) = blk1_2 V c t := shapeCast_self _ _
  obtain ⟨p, q, n, rfl⟩ : ∃ (p : Fin 1) (q : Fin 512) (n : Fin 3456), y = ix3 p q n := ⟨y 0, y 1, y 2, (ix3_eta y).symm⟩
  have e1 (x : FVec Ideal S512x3456 .bf16) : k1_pay1 (F := Ideal) x (ix3 p q n) = x (ix2 q n) := by
    unfold k1_pay1
    refine shapeCast_apply _ _ _ _ ?_
    have hp : p.val = 0 := by omega
    rw [Shape.rowMajor_val_two, Shape.rowMajor_val_three]
    simp [hp]
  refine (e1 _).trans ?_
  have e2 : k1_pay25 (F := Ideal) (blk1_2 V c t) (sI1 V c) (blk1_3 V c t) (sP1 V c) (ix2 q n)
      = matmul (F := Ideal) dot_S512x5120_S5120x3456_S512x3456_1_0_0_1_n_n none (k1_pay24 (F := Ideal) (blk1_2 V c t) (sI1 V c)) (shapeCast S5120x3456 (blk1_3 V c t) shapeCasts_S5120x3456_S5120x3456)
        (constant (F := Ideal) S512x3456 .f32 0x00000000#32) (ix2 q n) * sP1 V c := rfl
  rw [e2, shapeCast_self, kdot_fwd, blk1_3_eq]
  refine congrArg (· * sP1 V c) (congrArg₂ (· + ·) ofBits_zero (Finset.sum_congr rfl fun k _ => congrArg₂ (· * ·) ?_ ?_))
  · have e3 : k1_pay24 (F := Ideal) (blk1_2 V c t) (sI1 V c) (ix2 q k) = quant 0xC3E00000#32 0x43E00000#32 (sI1 V c) (k1_pay22 (F := Ideal) (blk1_2 V c t) (ix2 q k)) := rfl
    rw [e3, e]
    refine congrArg (quant _ _ _) (blk1_2_at V c t q k _ ?_)
    blk_simp [idx1_4]
    have hp : p.val = 0 := by omega
    have hq := q.isLt
    simp [ix3_0, ix3_1]
    omega
  · refine congrArg (wqArr1 V c) (congrArg (fun n => ix2 k n) (Fin.ext ?_))
    blk_simp [idx1_4]

end Cert.KernelIdeal.Own

end
-- ==== Proof.KI.Val2.lean ====
/- Region 2 over the extended reals: what each result array holds after it, in terms of the entry contents of the buffers. -/
module

public import proofs.«01_k».proof.Proof.KI.Dat2
public import proofs.«01_k».proof.Proof.KI.Hist
public import proofs.«01_k».proof.Proof.KI.Dots
public import Idealize.ShloMosaic.Lib.Pipeline.ValueKit.Geometry

@[expose] public section

set_option maxRecDepth 16384

noncomputable section

namespace Cert.KernelIdeal.Own

open Cert.KernelIdeal Cert.KernelIdeal.Gen Cert.Math
open Idealize.ShloMosaic Idealize.ShloMosaic.TcCoe
open Cert.ReferenceIdeal.Own (quant)
open Idealize.ShloMosaic.Pipeline (Dat Cfg Window)

variable (V : Dev nD → Valuation τ sig (Elt Ideal))

/-- The block indices of region 2's windows at a point. -/
theorem idx2_0 : ∀ t : Fin cfg2.N, win2_0.index t = ![0, 0] := (by decide +kernel : ∀ t : Fin grid2.N, win2_0.index t = ![0, 0])
theorem idx2_1 : ∀ t : Fin cfg2.N, win2_1.index t = ![0, 0] := (by decide +kernel : ∀ t : Fin grid2.N, win2_1.index t = ![0, 0])
theorem idx2_2 : ∀ t : Fin cfg2.N, win2_2.index t = ![t.val, 0] := (by decide +kernel : ∀ t : Fin grid2.N, win2_2.index t = ![t.val, 0])
theorem idx2_3 : ∀ t : Fin cfg2.N, win2_3.index t = ![0, 0] := (by decide +kernel : ∀ t : Fin grid2.N, win2_3.index t = ![0, 0])
theorem idx2_4 : ∀ t : Fin cfg2.N, win2_4.index t = ![t.val / 6, t.val % 6, 0] := (by decide +kernel : ∀ t : Fin grid2.N, win2_4.index t = ![t.val / 6, t.val % 6, 0])
theorem idx2_5 : ∀ t : Fin cfg2.N, win2_5.index t = ![t.val, 0] := (by decide +kernel : ∀ t : Fin grid2.N, win2_5.index t = ![t.val, 0])

/-- The gradients and the codes of the weights on entry. -/
def aArr2 (c : Dev nD) : FVec Ideal S18432x3456 .bf16 := V c (Proc.devRef .tc main_v1)
def wqArr2 (c : Dev nD) : FVec Ideal S5120x3456 .fp8e4m3 := V c (Proc.devRef .tc main_v5_0)

/-- The histories' blocks are the whole histories, the codes' block the whole array of codes. -/
theorem blk2_0_eq (c : Dev nD) (t : Fin cfg2.N) : blk2_0 V c t = V c (Proc.devRef .tc main_v4) := by
  funext y
  unfold blk2_0 iblk2
  blk_simp
  congr 1
  blk_ext [idx2_0]
theorem blk2_1_eq (c : Dev nD) (t : Fin cfg2.N) : blk2_1 V c t = V c (Proc.devRef .tc main_v3) := by
  funext y
  unfold blk2_1 iblk2
  blk_simp
  congr 1
  blk_ext [idx2_1]
theorem blk2_3_eq (c : Dev nD) (t : Fin cfg2.N) : blk2_3 V c t = wqArr2 V c := by
  funext y
  unfold blk2_3 iblk2
  blk_simp
  unfold wqArr2
  congr 1
  blk_ext [idx2_3]

/-- A row of a point's block is the array's row under it. -/
theorem blk2_2_at (c : Dev nD) (t : Fin cfg2.N) (p : Fin 512) (k : Fin 3456) (r : Fin 18432) (hr : r.val = t.val * 512 + p.val) :
    blk2_2 V c t (ix2 p k) = aArr2 V c (ix2 r k) := by
  unfold blk2_2 iblk2
  blk_simp
  unfold aArr2
  congr 1
  blk_ext [idx2_2]

/-- The codes of the gradients, as region 2 leaves them. -/
theorem arr2_5 (c : Dev nD) : (dat2 V c).arrAt 5 cfg2.N = fun i => quant 0xC7600000#32 0x47600000#32 (sI2 V c) (aArr2 V c i) := by
  refine (dat2 V c).arrAt_eq_of_covers 5 _ (by decide +kernel) fun t hf y => ?_
  blk_simp
  rw [after2_5]
  unfold out2_5
  have e : k2_pay22 (F := Ideal) (blk2_2 V c t) = blk2_2 V c t := shapeCast_self _ _
  unfold k2_pay24
  rw [e]
  show quant 0xC7600000#32 0x47600000#32 (sI2 V c) (blk2_2 V c t y) = _
  congr 1

/-- The scale of the gradients, as region 2 leaves it. -/
theorem arr2_7 (c : Dev nD) : (dat2 V c).arrAt 7 cfg2.N = out2_7 V c := by
  refine (dat2 V c).arrAt_eq_of_covers 7 _ (by decide +kernel) fun t hf y => ?_
  blk_simp
  rw [after2_7]
  exact congrArg (out2_7 V c) (Subsingleton.elim (α := S1x1.Idx) _ _)

/-- The new history of the gradients, as region 2 leaves it. -/
theorem arr2_6 (c : Dev nD) : (dat2 V c).arrAt 6 cfg2.N = out2_6 V c := by
  refine (dat2 V c).arrAt_eq_of_covers 6 _ (by decide +kernel) fun t hf y => ?_
  blk_simp
  rw [after2_6]
  congr 1
  blk_ext [(by decide +kernel : ∀ t : Fin grid2.N, win2_6.index t = ![0, 0])]

/-- A bound of the folded maximum after a point is a bound of every block so far (and of the zeros it starts from). -/
theorem am2_le (c : Dev nD) (C : EReal) : ∀ (n : ℕ) (h : n < cfg2.N), (∀ i, am2 V c n h i ≤ C) ↔
    0 ≤ C ∧ ∀ t : Fin cfg2.N, t.val ≤ n → ∀ j, max (blk2_2 V c t j) (-(blk2_2 V c t j)) ≤ C
  | 0, h => by
    refine (k2_fold_le (blk2_2 V c ⟨0, h⟩) k2_pay21 C).trans (and_congr (zeros2_le C) ?_)
    constructor
    · intro H t ht
      obtain rfl : t = ⟨0, h⟩ := Fin.ext (Nat.le_zero.1 ht)
      exact H
    · intro H; exact H ⟨0, h⟩ le_rfl
  | n + 1, h => by
    refine (k2_fold_le (blk2_2 V c ⟨n + 1, h⟩) (am2 V c n (Nat.lt_of_succ_lt h)) C).trans ?_
    rw [am2_le c C n (Nat.lt_of_succ_lt h), and_assoc]
    refine and_congr_right fun _ => ?_
    constructor
    · rintro ⟨H, H'⟩ t ht
      rcases Nat.lt_or_ge n t.val with hlt | hge
      · obtain rfl : t = ⟨n + 1, h⟩ := Fin.ext (Nat.le_antisymm ht hlt)
        exact H'
      · exact H t hge
    · intro H
      exact ⟨fun t ht => H t (Nat.le_succ_of_le ht), H ⟨n + 1, h⟩ le_rfl⟩

/-- Every entry lies in some point's block, and a block's entry is one of the array's. -/
theorem blk2_2_onto (c : Dev nD) (i : S18432x3456.Idx) : ∃ (t : Fin cfg2.N) (y : S512x3456.Idx), blk2_2 V c t y = aArr2 V c i := by
  have h0 : (i 0).val < 18432 := (i 0).isLt
  refine ⟨⟨(i 0).val / 512, by rw [show cfg2.N = 36 from N_2]; omega⟩, ix2 ⟨(i 0).val % 512, by omega⟩ (i 1), ?_⟩
  exact (blk2_2_at V c _ _ _ (i 0) (by show (i 0).val = (i 0).val / 512 * 512 + (i 0).val % 512; omega)).trans (congrArg (aArr2 V c) (ix2_eta i))
theorem blk2_2_mem (c : Dev nD) (t : Fin cfg2.N) (y : S512x3456.Idx) : ∃ i : S18432x3456.Idx, blk2_2 V c t y = aArr2 V c i := ⟨_, rfl⟩

/-- The bounds of the folded maximum of all the blocks are those of the magnitudes. -/
theorem amax2_le (c : Dev nD) (C : EReal) (i : S1x1.Idx) : amaxOf (am2 V c last2.val last2.isLt) i ≤ C ↔
    ∀ i : S18432x3456.Idx, max (aArr2 V c i) (-(aArr2 V c i)) ≤ C := by
  rw [amaxOf_le, am2_le]
  constructor
  · rintro ⟨_, H⟩ i
    obtain ⟨t, y, e⟩ := blk2_2_onto V c i
    rw [← e]
    have := lt_of_lt_of_eq t.isLt (show cfg2.N = 36 from N_2)
    exact H t (by show t.val ≤ 35; omega) y
  · intro H
    refine ⟨nonneg_of_abs_le (H (ix2 0 0)), fun t _ y => ?_⟩
    obtain ⟨i, e⟩ := blk2_2_mem V c t y
    rw [e]
    exact H i

/-- The dot's result, as region 2 leaves it: each row's codes times the weights' codes, times the product of the scales. -/
theorem arr2_4 (c : Dev nD) : (dat2 V c).arrAt 4 cfg2.N = fun i : S6x3072x5120.Idx =>
    (0 + ∑ k : Fin 3456, quant 0xC7600000#32 0x47600000#32 (sI2 V c) (aArr2 V c (ix2 ⟨(i 0).val * 3072 + (i 1).val, by
      have h0 : (i 0).val < 6 := (i 0).isLt
      have h1 : (i 1).val < 3072 := (i 1).isLt
      omega⟩ k)) * wqArr2 V c (ix2 (i 2) k)) * sP2 V c := by
  refine (dat2 V c).arrAt_eq_of_covers 4 _ (by decide +kernel) fun t hf y => ?_
  blk_simp
  rw [after2_4]
  unfold out2_4
  have ht := lt_of_lt_of_eq t.isLt (show cfg2.N = 36 from N_2)
  have e : k2_pay22 (F := Ideal) (blk2_2 V c t) = blk2_2 V c t := shapeCast_self _ _
  obtain ⟨p, q, n, rfl⟩ : ∃ (p : Fin 1) (q : Fin 512) (n : Fin 5120), y = ix3 p q n := ⟨y 0, y 1, y 2, (ix3_eta y).symm⟩
  have e1 (x : FVec Ideal S512x5120 .bf16) : k2_pay1 (F := Ideal) x (ix3 p q n) = x (ix2 q n) := by
    unfold k2_pay1
    refine shapeCast_apply _ _ _ _ ?_
    have hp : p.val = 0 := by omega
    rw [Shape.rowMajor_val_two, Shape.rowMajor_val_three]
    simp [hp]
  refine (e1 _).trans ?_
  have e2 : k2_pay25 (F := Ideal) (blk2_2 V c t) (sI2 V c) (blk2_3 V c t) (sP2 V c) (ix2 q n)
      = matmul (F := Ideal) dot_S512x3456_S5120x3456_S512x5120_1_1_0_0_n_n none (k2_pay24 (F := Ideal) (blk2_2 V c t) (sI2 V c)) (shapeCast S5120x3456 (blk2_3 V c t) shapeCasts_S5120x3456_S5120x3456)
        (constant (F := Ideal) S512x5120 .f32 0x00000000#32) (ix2 q n) * sP2 V c := rfl
  rw [e2, shapeCast_self, kdot_dx, blk2_3_eq]
  refine congrArg (· * sP2 V c) (congrArg₂ (· + ·) ofBits_zero (Finset.sum_congr rfl fun k _ => congrArg₂ (· * ·) ?_ ?_))
  · have e3 : k2_pay24 (F := Ideal) (blk2_2 V c t) (sI2 V c) (ix2 q k) = quant 0xC7600000#32 0x47600000#32 (sI2 V c) (k2_pay22 (F := Ideal) (blk2_2 V c t) (ix2 q k)) := rfl
    rw [e3, e]
    refine congrArg (quant _ _ _) (blk2_2_at V c t q k _ ?_)
    blk_simp [idx2_4]
    have hp : p.val = 0 := by omega
    have hq := q.isLt
    simp [ix3_0, ix3_1]
    omega
  · refine congrArg (wqArr2 V c) (congrArg (fun n => ix2 n k) (Fin.ext ?_))
    blk_simp [idx2_4]

end Cert.KernelIdeal.Own

end
-- ==== Proof.KI.Val3.lean ====
/- Region 3 over the extended reals: the weight gradient it leaves, in terms of the entry contents of the buffers. The nine token
   blocks of an output block are added up, the product of the scales multiplied in at the last. -/
module

public import proofs.«01_k».proof.Proof.KI.Dat3
public import proofs.«01_k».proof.Proof.KI.Dots
public import proofs.«01_k».proof.Proof.Math.Scale
public import Idealize.ShloMosaic.Lib.Pipeline.ValueKit.Geometry
public import Idealize.ShloMosaic.Lib.Pipeline.ValueKit.Acc

@[expose] public section

set_option maxRecDepth 16384

noncomputable section

namespace Cert.KernelIdeal.Own

open Cert.KernelIdeal Cert.KernelIdeal.Gen Cert.Math
open Idealize.ShloMosaic Idealize.ShloMosaic.TcCoe
open Idealize.ShloMosaic.Pipeline (Dat Cfg Window)

variable (V : Dev nD → Valuation τ sig (Elt Ideal))

/-- The block indices of region 3's windows at a point. -/
theorem idx3_0 : ∀ t : Fin cfg3.N, win3_0.index t = ![0, 0] := (by decide +kernel : ∀ t : Fin grid3.N, win3_0.index t = ![0, 0])
theorem idx3_1 : ∀ t : Fin cfg3.N, win3_1.index t = ![0, 0] := (by decide +kernel : ∀ t : Fin grid3.N, win3_1.index t = ![0, 0])
theorem idx3_2 : ∀ t : Fin cfg3.N, win3_2.index t = ![t.val % 9, t.val / 9] := (by decide +kernel : ∀ t : Fin grid3.N, win3_2.index t = ![t.val % 9, t.val / 9])
theorem idx3_3 : ∀ t : Fin cfg3.N, win3_3.index t = ![t.val % 9, 0] := (by decide +kernel : ∀ t : Fin grid3.N, win3_3.index t = ![t.val % 9, 0])
theorem idx3_4 : ∀ t : Fin cfg3.N, win3_4.index t = ![t.val / 9, 0] := (by decide +kernel : ∀ t : Fin grid3.N, win3_4.index t = ![t.val / 9, 0])

/-- The codes of the activations and of the gradients on entry. -/
def xqArr3 (c : Dev nD) : FVec Ideal S18432x5120 .fp8e4m3 := V c (Proc.devRef .tc main_v6_1)
def gqArr3 (c : Dev nD) : FVec Ideal S18432x3456 .fp8e5m2 := V c (Proc.devRef .tc main_v7_1)

theorem blk3_0_eq (c : Dev nD) (t : Fin cfg3.N) : blk3_0 V c t = V c (Proc.devRef .tc main_v2) := by
  funext y
  unfold blk3_0 iblk3
  blk_simp
  congr 1
  blk_ext [idx3_0]
theorem blk3_1_eq (c : Dev nD) (t : Fin cfg3.N) : blk3_1 V c t = V c (Proc.devRef .tc main_v4) := by
  funext y
  unfold blk3_1 iblk3
  blk_simp
  congr 1
  blk_ext [idx3_1]
theorem blk3_2_at (c : Dev nD) (t : Fin cfg3.N) (k : Fin 2048) (a : Fin 1280) (r : Fin 18432) (d : Fin 5120) (hr : r.val = t.val % 9 * 2048 + k.val)
    (hd : d.val = t.val / 9 * 1280 + a.val) : blk3_2 V c t (ix2 k a) = xqArr3 V c (ix2 r d) := by
  unfold blk3_2 iblk3
  blk_simp
  unfold xqArr3
  congr 1
  blk_ext [idx3_2]
theorem blk3_3_at (c : Dev nD) (t : Fin cfg3.N) (k : Fin 2048) (b : Fin 3456) (r : Fin 18432) (hr : r.val = t.val % 9 * 2048 + k.val) :
    blk3_3 V c t (ix2 k b) = gqArr3 V c (ix2 r b) := by
  unfold blk3_3 iblk3
  blk_simp
  unfold gqArr3
  congr 1
  blk_ext [idx3_3]

/-- The dot of a token block. -/
def dot3 (l : FVec Ideal S2048x1280 .fp8e4m3) (r : FVec Ideal S2048x3456 .fp8e5m2) : FVec Ideal S1280x3456 .f32 :=
  matmul (F := Ideal) dot_S2048x1280_S2048x3456_S1280x3456_0_0_1_1_n_n none l r (constant (F := Ideal) S1280x3456 .f32 0x00000000#32)

theorem word_eq (n k : ℕ) (hn : n < 2 ^ 32) (hk : k < 2 ^ 32) : Scalar.cmpi .eq (BitVec.ofNat 32 n) (BitVec.ofNat 32 k) = 1 ↔ n = k := by
  show BitVec.ofBool (BitVec.ofNat 32 n == BitVec.ofNat 32 k) = 1 ↔ _
  constructor
  · intro h
    by_contra hne
    have : (BitVec.ofNat 32 n == BitVec.ofNat 32 k) = false := by
      rw [beq_eq_false_iff_ne]
      intro e
      have := congrArg BitVec.toNat e
      simp only [BitVec.toNat_ofNat] at this
      rw [Nat.mod_eq_of_lt hn, Nat.mod_eq_of_lt hk] at this
      exact hne this
    rw [this] at h
    exact absurd h (by decide)
  · rintro rfl
    simp

theorem one_bits : Ideal.ofBits .f32 0x3F800000#32 = 1 := by
  refine (ieee_normal 0x3F800000#32 127 (by decide) (by decide) (by decide) (by decide) (by decide)).trans ?_
  norm_num

/-- One step of the accumulation: restarted at the first token block, the scale multiplied in at the last. -/
theorem k3_step (i : grid3.Coords) (l : FVec Ideal S2048x1280 .fp8e4m3) (r : FVec Ideal S2048x3456 .fp8e5m2) (s : EReal) (d : FVec Ideal S1280x3456 .f32)
    (y : S1280x3456.Idx) : k3_pay2 (F := Ideal) i l r s d y = (if (i 1).val = 0 then dot3 l r y else d y + dot3 l r y) * (if (i 1).val = 8 then s else 1) := by
  have h9 : (i 1).val < 9 := (i 1).isLt
  have e1 : shapeCast S2048x1280 l shapeCasts_S2048x1280_S2048x1280 = l := shapeCast_self _ _
  have e2 : shapeCast S2048x3456 r shapeCasts_S2048x3456_S2048x3456 = r := shapeCast_self _ _
  have e3 : shapeCast S1280x3456 d shapeCasts_S1280x3456_S1280x3456 = d := shapeCast_self _ _
  have e : k3_pay2 (F := Ideal) i l r s d = fun y => (if Scalar.cmpi .eq (BitVec.ofNat 32 (i 1).val) (BitVec.ofNat 32 0) = 1 then
      dot3 (shapeCast S2048x1280 l shapeCasts_S2048x1280_S2048x1280) (shapeCast S2048x3456 r shapeCasts_S2048x3456_S2048x3456) else
      fun y => shapeCast S1280x3456 d shapeCasts_S1280x3456_S1280x3456 y + dot3 (shapeCast S2048x1280 l shapeCasts_S2048x1280_S2048x1280) (shapeCast S2048x3456 r shapeCasts_S2048x3456_S2048x3456) y) y
      * (if Scalar.cmpi .eq (BitVec.ofNat 32 (i 1).val) (BitVec.ofNat 32 8) = 1 then s else Ideal.ofBits .f32 0x3F800000#32) := rfl
  rw [e, e1, e2, e3, one_bits]
  simp only [word_eq (i 1).val 0 (by omega) (by omega), word_eq (i 1).val 8 (by omega) (by omega)]
  by_cases h0 : (i 1).val = 0
  · simp only [h0, if_true]
  · simp only [h0, if_false]

theorem coord3_1 (t : Fin cfg3.N) : (grid3.coords t 1).val = t.val % 9 := by
  have e1 : (grid3.coords t 1).val = t.val / 1 % 9 := Pipeline.Grid.coords_val t 1 (by decide) rfl
  rw [e1, Nat.div_one]

/-- The term a point adds (zero past the grid). -/
def term3 (c : Dev nD) (n : ℕ) (y : S1280x3456.Idx) : EReal :=
  if h : n < cfg3.N then dot3 (blk3_2 V c ⟨n, h⟩) (blk3_3 V c ⟨n, h⟩) y else 0

/-- Within the grid the summand is the dot of the point's blocks. -/
theorem term3_pos (c : Dev nD) {n : ℕ} (h : n < cfg3.N) (y : S1280x3456.Idx) : term3 V c n y = dot3 (blk3_2 V c ⟨n, h⟩) (blk3_3 V c ⟨n, h⟩) y := dif_pos h

/-- Before the last token block the accumulator holds the plain sum. -/
theorem acc3_part (c : Dev nD) (q : ℕ) (y : S1280x3456.Idx) : ∀ (r : ℕ) (hr : r < 8) (h : 9 * q + r < cfg3.N),
    acc3 V c (9 * q + r) h y = ∑ s ∈ Finset.range (r + 1), term3 V c (9 * q + s) y
  | 0, hr, h => by
    have hm : (9 * q + 0) % 9 = 0 := by omega
    rw [show acc3 V c (9 * q + 0) h = _ from acc3_first V c ⟨9 * q + 0, h⟩ hm (fun _ => 0), k3_step, coord3_1]
    simp only [hm, if_true, Finset.sum_range_one, Finset.range_one, Nat.zero_add, Finset.sum_singleton]
    rw [if_neg (by decide), mul_one]
    exact (term3_pos V c h y).symm
  | r + 1, hr, h => by
    have hm : (9 * q + (r + 1)) % 9 = r + 1 := by omega
    rw [show acc3 V c (9 * q + (r + 1)) h = _ from acc3_next V c ⟨9 * q + (r + 1), h⟩ (by show (9 * q + (r + 1)) % 9 ≠ 0; omega), k3_step, coord3_1]
    simp only [hm]
    rw [if_neg (by omega), if_neg (by omega), mul_one, Finset.sum_range_succ, ← acc3_part c q y r (by omega) (by omega)]
    congr 1
    unfold term3
    rw [dif_pos h]

/-- At the last token block it holds the sum times the product of the scales. -/
theorem acc3_last (c : Dev nD) (q : ℕ) (y : S1280x3456.Idx) (h : 9 * q + 8 < cfg3.N) :
    acc3 V c (9 * q + 8) h y = (∑ s : Fin 9, term3 V c (9 * q + s.val) y) * sP3 V c := by
  have hm : (9 * q + 8) % 9 = 8 := by omega
  rw [show acc3 V c (9 * q + 8) h = _ from acc3_next V c ⟨9 * q + 8, h⟩ (by show (9 * q + 8) % 9 ≠ 0; omega), k3_step, coord3_1]
  simp only [hm]
  rw [if_neg (by omega), if_pos trivial, Fin.sum_univ_eq_sum_range (fun s => term3 V c (9 * q + s) y), Finset.sum_range_succ, ← acc3_part V c q y 7 (by omega) (by omega)]
  congr 2
  unfold term3
  rw [dif_pos h]

/-- The weight gradient, as region 3 leaves it: the codes' products summed over all tokens, times the product of the scales. -/
theorem arr3_4 (c : Dev nD) : (dat3 V c).arrAt 4 cfg3.N = fun i : S5120x3456.Idx =>
    (∑ k : Fin 18432, xqArr3 V c (ix2 k (i 0)) * gqArr3 V c (ix2 k (i 1))) * sP3 V c := by
  refine (dat3 V c).arrAt_eq_of_covers 4 _ (by decide +kernel) fun t hf y => ?_
  have hm : t.val % 9 = 8 := (flush3_4 t).1 hf
  have ht : t.val < 36 := lt_of_lt_of_eq t.isLt (show cfg3.N = 36 from N_3)
  blk_simp
  rw [after3_4]
  obtain ⟨a, b, rfl⟩ : ∃ (a : Fin 1280) (b : Fin 3456), y = ix2 a b := ⟨y 0, y 1, (ix2_eta y).symm⟩
  have hq : 9 * (t.val / 9) + 8 = t.val := by omega
  refine (congrFun (acc3_congr V c t.isLt (by rw [hq]; exact t.isLt) hq.symm) _).trans ((acc3_last V c (t.val / 9) (ix2 a b) _).trans ?_)
  refine congrArg (· * sP3 V c) ?_
  have e : ∀ s : Fin 9, term3 V c (9 * (t.val / 9) + s.val) (ix2 a b) = ∑ k : Fin 2048, blk3_2 V c ⟨9 * (t.val / 9) + s.val, by have := s.isLt; rw [show cfg3.N = 36 from N_3]; omega⟩ (ix2 k a) *
      blk3_3 V c ⟨9 * (t.val / 9) + s.val, by have := s.isLt; rw [show cfg3.N = 36 from N_3]; omega⟩ (ix2 k b) := by
    intro s
    unfold term3
    rw [dif_pos (by have := s.isLt; rw [show cfg3.N = 36 from N_3]; omega)]
    unfold dot3
    rw [kdot_dw]
    exact (congrArg (· + _) ofBits_zero).trans (zero_add _)
  refine (Fin.sum_fin_congr e).trans ?_
  refine Fin.sum_mul_add_congr (S := 9) (n := 2048) (fun s k hl => ?_)
  have hs := s.isLt
  have hk := k.isLt
  refine congrArg₂ (· * ·) ?_ ?_
  · refine blk3_2_at V c _ k a _ _ ?_ ?_
    · show s.val * 2048 + k.val = (9 * (t.val / 9) + s.val) % 9 * 2048 + k.val
      omega
    · blk_simp [idx3_4]
      show t.val / 9 * 1280 + a.val = (9 * (t.val / 9) + s.val) / 9 * 1280 + a.val
      omega
  · refine (blk3_3_at V c _ k b ⟨s.val * 2048 + k.val, hl⟩ ?_).trans ?_
    · show s.val * 2048 + k.val = (9 * (t.val / 9) + s.val) % 9 * 2048 + k.val
      omega
    · refine congrArg (gqArr3 V c) (congrArg (fun n => ix2 _ n) (Fin.ext ?_))
      blk_simp [idx3_4]

end Cert.KernelIdeal.Own

end
-- ==== Proof.KI.Stage.lean ====
/- What the buffers between the regions hold over the extended reals, in terms of the arguments at launch. -/
module

public import proofs.«01_k».proof.Proof.KI.Whole
public import proofs.«01_k».proof.Proof.KI.Val0
public import proofs.«01_k».proof.Proof.KI.Val1
public import proofs.«01_k».proof.Proof.KI.Val2
public import proofs.«01_k».proof.Proof.KI.Val3
public import proofs.«01_k».proof.Proof.KI.ScaleEq
public import proofs.«01_k».proof.Proof.KI.RefScale
public import proofs.«01_k».proof.Proof.KI.Hist
public import proofs.«01_k».proof.Proof.KI.Dots

@[expose] public section

set_option maxRecDepth 16384

noncomputable section

namespace Cert.KernelIdeal.Own

open Cert.KernelIdeal Cert.KernelIdeal.Gen Cert.Math
open Idealize.ShloMosaic Idealize.ShloMosaic.TcCoe
open Cert.ReferenceIdeal.Own (rExp rmax)

variable (m : (ℓ : Loc nD τ sig) → Buf (Elt Ideal) ℓ)

/-- The arguments at launch: activations, weights, gradients and their histories. -/
def aX (c : Dev nD) : FVec Ideal S6x3072x5120 .bf16 := m ((c : Thread nD τ).loc main_arg0)
def aW (c : Dev nD) : FVec Ideal S5120x3456 .f32 := m ((c : Thread nD τ).loc main_arg1)
def aG (c : Dev nD) : FVec Ideal S6x3072x3456 .bf16 := m ((c : Thread nD τ).loc main_arg2)
def hX (c : Dev nD) : FVec Ideal S16 .f32 := m ((c : Thread nD τ).loc main_arg3)
def hW (c : Dev nD) : FVec Ideal S16 .f32 := m ((c : Thread nD τ).loc main_arg4)
def hG (c : Dev nD) : FVec Ideal S16 .f32 := m ((c : Thread nD τ).loc main_arg5)

/-- A history as one row. -/
def row (h : FVec Ideal S16 .f32) : FVec Ideal S1x16 .f32 := shapeCast S1x16 h shapeCasts_S16_S1x16

/-! ## The reshapes before the regions -/

/-- The activations, one row per token. -/
theorem U1_v0 (c : Dev nD) : U1 m c (Proc.devRef .tc main_v0) = shapeCast S18432x5120 (aX m c) shapeCasts_S6x3072x5120_S18432x5120 := by
  unfold U1; after_results; rfl
/-- The gradients, one row per token. -/
theorem U1_v1 (c : Dev nD) : U1 m c (Proc.devRef .tc main_v1) = shapeCast S18432x3456 (aG m c) shapeCasts_S6x3072x3456_S18432x3456 := by
  unfold U1; after_results; rfl
/-- The activations' history. -/
theorem U1_v2 (c : Dev nD) : U1 m c (Proc.devRef .tc main_v2) = row (hX m c) := by
  unfold U1; after_results; rfl
/-- The weights' history. -/
theorem U1_v3 (c : Dev nD) : U1 m c (Proc.devRef .tc main_v3) = row (hW m c) := by
  unfold U1; after_results; rfl
/-- The gradients' history. -/
theorem U1_v4 (c : Dev nD) : U1 m c (Proc.devRef .tc main_v4) = row (hG m c) := by
  unfold U1; after_results; rfl
/-- The weights, untouched. -/
theorem U1_w (c : Dev nD) : U1 m c (Proc.devRef .tc main_arg1) = aW m c := U1_of m c main_arg1 (by decide)

/-- What each region finds in these buffers is what the reshapes left there. -/
theorem U2_v0 (c : Dev nD) : U2 m c (Proc.devRef .tc main_v0) = shapeCast S18432x5120 (aX m c) shapeCasts_S6x3072x5120_S18432x5120 :=
  (U2_of m c main_v0 (by decide)).trans (U1_v0 m c)
theorem U2_v2 (c : Dev nD) : U2 m c (Proc.devRef .tc main_v2) = row (hX m c) := (U2_of m c main_v2 (by decide)).trans (U1_v2 m c)
theorem U2_v3 (c : Dev nD) : U2 m c (Proc.devRef .tc main_v3) = row (hW m c) := (U2_of m c main_v3 (by decide)).trans (U1_v3 m c)
theorem U3_v1 (c : Dev nD) : U3 m c (Proc.devRef .tc main_v1) = shapeCast S18432x3456 (aG m c) shapeCasts_S6x3072x3456_S18432x3456 :=
  (U3_of m c main_v1 (by decide)).trans <| (U2_of m c main_v1 (by decide)).trans (U1_v1 m c)
theorem U3_v3 (c : Dev nD) : U3 m c (Proc.devRef .tc main_v3) = row (hW m c) := (U3_of m c main_v3 (by decide)).trans (U2_v3 m c)
theorem U3_v4 (c : Dev nD) : U3 m c (Proc.devRef .tc main_v4) = row (hG m c) :=
  (U3_of m c main_v4 (by decide)).trans <| (U2_of m c main_v4 (by decide)).trans (U1_v4 m c)
theorem U4_v2 (c : Dev nD) : U4 m c (Proc.devRef .tc main_v2) = row (hX m c) :=
  (U4_of m c main_v2 (by decide)).trans <| (U3_of m c main_v2 (by decide)).trans (U2_v2 m c)
theorem U4_v4 (c : Dev nD) : U4 m c (Proc.devRef .tc main_v4) = row (hG m c) := (U4_of m c main_v4 (by decide)).trans (U3_v4 m c)

/-! ## The scales -/

/-- A history's largest entry is the same in both layouts, so is its exponent. -/
theorem kmax_row (h : FVec Ideal S16 .f32) : kmax (row h) z11 = rmax h := by
  unfold kmax row
  rw [shapeCast_self]
  rfl
/-- The exponent of a scale is the same in both layouts. -/
theorem kExp_row (w : BitVec 32) (h : FVec Ideal S16 .f32) (i : S1x1.Idx) : kExp w (row h) i = rExp w h := by
  rw [Subsingleton.elim i z11]
  unfold kExp rExp
  rw [kmax_row]

/-- The factor the weights are multiplied by. -/
theorem sI0_eq (c : Dev nD) : sI0 (U1 m) c = pow2 (0#32 - rExp 0x3B124925#32 (hW m c)) := by
  unfold sI0
  rw [blk0_0_eq, U1_v3, inv0_eq, kExp_row]
/-- The factor the activations are multiplied by. -/
theorem sI1_eq (c : Dev nD) : sI1 (U2 m) c = pow2 (0#32 - rExp 0x3B124925#32 (hX m c)) := by
  unfold sI1
  rw [blk1_0_eq, U2_v2, inv1_eq, kExp_row]
/-- The factor the gradients are multiplied by. -/
theorem sI2_eq (c : Dev nD) : sI2 (U3 m) c = pow2 (0#32 - rExp 0x37924925#32 (hG m c)) := by
  unfold sI2
  rw [blk2_0_eq, U3_v4, inv2_eq, kExp_row]
/-- The factor of the forward product. -/
theorem sP1_eq (c : Dev nD) : sP1 (U2 m) c = pow2 (rExp 0x3B124925#32 (hX m c)) * pow2 (rExp 0x3B124925#32 (hW m c)) := by
  unfold sP1
  rw [blk1_0_eq, blk1_1_eq, U2_v2, U2_v3, prod1_eq, kExp_row, kExp_row]
/-- The factor of the input gradient. -/
theorem sP2_eq (c : Dev nD) : sP2 (U3 m) c = pow2 (rExp 0x37924925#32 (hG m c)) * pow2 (rExp 0x3B124925#32 (hW m c)) := by
  unfold sP2
  rw [blk2_0_eq, blk2_1_eq, U3_v4, U3_v3, prod2_eq, kExp_row, kExp_row]
/-- The factor of the weight gradient. -/
theorem sP3_eq (c : Dev nD) : sP3 (U4 m) c = pow2 (rExp 0x3B124925#32 (hX m c)) * pow2 (rExp 0x37924925#32 (hG m c)) := by
  unfold sP3
  rw [blk3_0_eq, blk3_1_eq, U4_v2, U4_v4, prod3_eq, kExp_row, kExp_row]

/-- The weights' scale as region 0 writes it. -/
theorem out0_4_eq (c : Dev nD) : out0_4 (U1 m) c = fun _ => pow2 (rExp 0x3B124925#32 (hW m c)) := by
  funext i
  unfold out0_4
  rw [blk0_0_eq, U1_v3, scale0_eq, kExp_row]
/-- The activations' scale as region 1 writes it. -/
theorem out1_7_eq (c : Dev nD) : out1_7 (U2 m) c = fun _ => pow2 (rExp 0x3B124925#32 (hX m c)) := by
  funext i
  unfold out1_7
  rw [blk1_0_eq, U2_v2, scale1_eq, kExp_row]
/-- The gradients' scale as region 2 writes it. -/
theorem out2_7_eq (c : Dev nD) : out2_7 (U3 m) c = fun _ => pow2 (rExp 0x37924925#32 (hG m c)) := by
  funext i
  unfold out2_7
  rw [blk2_0_eq, U3_v4, scale2_eq, kExp_row]

/-! ## The codes -/

/-- The weights' codes after region 0 are the reference's. -/
theorem U2_wq (c : Dev nD) : U2 m c (Proc.devRef .tc main_v5_0) = Cert.ReferenceIdeal.Own.wCode (aW m c) (hW m c) := by
  refine (Pipeline.afterRegion_arr (dat0 (U1 m) c) (U1 m c) winFacts0.arr_inj 2).trans ((arr0_2 (U1 m) c).trans ?_)
  have e : wArr (U1 m) c = aW m c := U1_w m c
  rw [sI0_eq, e]
  rfl
/-- The activations' codes after region 1, one row per token. -/
theorem U3_xq (c : Dev nD) : U3 m c (Proc.devRef .tc main_v6_1) =
    shapeCast S18432x5120 (Cert.ReferenceIdeal.Own.xCode (aX m c) (hX m c)) shapeCasts_S6x3072x5120_S18432x5120 := by
  refine (Pipeline.afterRegion_arr (dat1 (U2 m) c) (U2 m c) winFacts1.arr_inj 5).trans ((arr1_5 (U2 m) c).trans ?_)
  have e : aArr1 (U2 m) c = _ := U2_v0 m c
  rw [sI1_eq, e]
  rfl
/-- The gradients' codes after region 2, one row per token. -/
theorem U4_gq (c : Dev nD) : U4 m c (Proc.devRef .tc main_v7_1) =
    shapeCast S18432x3456 (Cert.ReferenceIdeal.Own.gCode (aG m c) (hG m c)) shapeCasts_S6x3072x3456_S18432x3456 := by
  refine (Pipeline.afterRegion_arr (dat2 (U3 m) c) (U3 m c) winFacts2.arr_inj 5).trans ((arr2_5 (U3 m) c).trans ?_)
  have e : aArr2 (U3 m) c = _ := U3_v1 m c
  rw [sI2_eq, e]
  rfl
/-- The weights' codes as region 2 finds them. -/
theorem U3_wq (c : Dev nD) : U3 m c (Proc.devRef .tc main_v5_0) = Cert.ReferenceIdeal.Own.wCode (aW m c) (hW m c) :=
  (U3_of m c main_v5_0 (by decide)).trans (U2_wq m c)
/-- The activations' codes as region 3 finds them. -/
theorem U4_xq (c : Dev nD) : U4 m c (Proc.devRef .tc main_v6_1) =
    shapeCast S18432x5120 (Cert.ReferenceIdeal.Own.xCode (aX m c) (hX m c)) shapeCasts_S6x3072x5120_S18432x5120 :=
  (U4_of m c main_v6_1 (by decide)).trans (U3_xq m c)

end Cert.KernelIdeal.Own

end
-- ==== Proof.KI.Result.lean ====
/- Every result the kernel leaves over the extended reals is the reference's function of the same arguments. -/
module

public import proofs.«01_k».proof.Proof.KI.Stage
public import proofs.«01_k».proof.Proof.Gen.ReferenceIdeal.Value

@[expose] public section

set_option maxRecDepth 16384

noncomputable section

namespace Cert.KernelIdeal.Own

open Cert.KernelIdeal Cert.KernelIdeal.Gen Cert.Math
open Idealize.ShloMosaic Idealize.ShloMosaic.TcCoe Idealize.SL.Sem
open Cert.ReferenceIdeal.Own (rExp rmax xCode wCode gCode)
open Cert.ReferenceIdeal.Value (G6 G7 G8 G9 G10 G11 G12 G13 G14 G15 G16 G17)

variable (m : (ℓ : Loc nD τ sig) → Buf (Elt Ideal) ℓ)

/-- A row of the token-major layout is the token of that sequence. -/
theorem flat_x (v : FVec Ideal S6x3072x5120 .fp8e4m3) (p : Fin 6) (q : Fin 3072) (k : Fin 5120) (hp : p.val * 3072 + q.val < 18432) :
    shapeCast S18432x5120 v shapeCasts_S6x3072x5120_S18432x5120 (ix2 ⟨p.val * 3072 + q.val, hp⟩ k) = v (ix3 p q k) :=
  shapeCast_apply _ _ _ _ (by rw [Shape.rowMajor_val_two, Shape.rowMajor_val_three]; rfl)
/-- The same for the gradients' codes. -/
theorem flat_g (v : FVec Ideal S6x3072x3456 .fp8e5m2) (p : Fin 6) (q : Fin 3072) (k : Fin 3456) (hp : p.val * 3072 + q.val < 18432) :
    shapeCast S18432x3456 v shapeCasts_S6x3072x3456_S18432x3456 (ix2 ⟨p.val * 3072 + q.val, hp⟩ k) = v (ix3 p q k) :=
  shapeCast_apply _ _ _ _ (by rw [Shape.rowMajor_val_two, Shape.rowMajor_val_three]; rfl)

/-! ## The three products -/

/-- The forward output. -/
theorem res_y (c : Dev nD) : U6 m c (Proc.devRef .tc main_v6_0) = G6 (aX m c) (aW m c) (aG m c) (hX m c) (hW m c) (hG m c) := by
  refine (U6_of m c main_v6_0 (by decide)).trans <| (U5_of m c main_v6_0 (by decide)).trans <| (U4_of m c main_v6_0 (by decide)).trans ?_
  refine (Pipeline.afterRegion_arr (dat1 (U2 m) c) (U2 m c) winFacts1.arr_inj 4).trans ((arr1_4 (U2 m) c).trans ?_)
  have e : aArr1 (U2 m) c = _ := U2_v0 m c
  have w : wqArr1 (U2 m) c = _ := U2_wq m c
  rw [Cert.ReferenceIdeal.Own.G6_eq, sI1_eq, sP1_eq, e, w]
  funext i
  obtain ⟨p, q, n, rfl⟩ : ∃ (p : Fin 6) (q : Fin 3072) (n : Fin 3456), i = ix3 p q n := ⟨i 0, i 1, i 2, (ix3_eta (n0 := 6) (n1 := 3072) (n2 := 3456) i).symm⟩
  rw [rdot_fwd]
  refine congrArg₂ (· * ·) (congrArg₂ (· + ·) ofBits_zero.symm (Finset.sum_congr rfl fun k _ => ?_)) rfl
  exact congrArg (· * _) (flat_x (xCode (aX m c) (hX m c)) p q k _)

/-- The input gradient. -/
theorem res_dx (c : Dev nD) : U6 m c (Proc.devRef .tc main_v7_0) = G7 (aX m c) (aW m c) (aG m c) (hX m c) (hW m c) (hG m c) := by
  refine (U6_of m c main_v7_0 (by decide)).trans <| (U5_of m c main_v7_0 (by decide)).trans ?_
  refine (Pipeline.afterRegion_arr (dat2 (U3 m) c) (U3 m c) winFacts2.arr_inj 4).trans ((arr2_4 (U3 m) c).trans ?_)
  have e : aArr2 (U3 m) c = _ := U3_v1 m c
  have w : wqArr2 (U3 m) c = _ := U3_wq m c
  rw [Cert.ReferenceIdeal.Own.G7_eq, sI2_eq, sP2_eq, e, w]
  funext i
  obtain ⟨p, q, n, rfl⟩ : ∃ (p : Fin 6) (q : Fin 3072) (n : Fin 5120), i = ix3 p q n := ⟨i 0, i 1, i 2, (ix3_eta (n0 := 6) (n1 := 3072) (n2 := 5120) i).symm⟩
  rw [rdot_dx]
  refine congrArg₂ (· * ·) (congrArg₂ (· + ·) ofBits_zero.symm (Finset.sum_congr rfl fun k _ => ?_)) rfl
  exact congrArg (· * _) (flat_g (gCode (aG m c) (hG m c)) p q k _)

/-- The weight gradient. -/
theorem res_dw (c : Dev nD) : U6 m c (Proc.devRef .tc main_v8) = G8 (aX m c) (aW m c) (aG m c) (hX m c) (hW m c) (hG m c) := by
  refine (U6_of m c main_v8 (by decide)).trans ?_
  refine (Pipeline.afterRegion_arr (dat3 (U4 m) c) (U4 m c) winFacts3.arr_inj 4).trans ((arr3_4 (U4 m) c).trans ?_)
  have e : xqArr3 (U4 m) c = _ := U4_xq m c
  have g : gqArr3 (U4 m) c = _ := U4_gq m c
  rw [Cert.ReferenceIdeal.Own.G8_eq, sP3_eq, e, g]
  funext i
  obtain ⟨a, b, rfl⟩ : ∃ (a : Fin 5120) (b : Fin 3456), i = ix2 a b := ⟨i 0, i 1, (ix2_eta (n0 := 5120) (n1 := 3456) i).symm⟩
  rw [rdot_dw]
  refine congrArg₂ (· * ·) ?_ rfl
  refine Eq.trans ?_ ((zero_add _).symm.trans (congrArg (· + _) ofBits_zero.symm))
  refine (Fin.sum_mul_add_congr (S := 6) (n := 3072) fun p q hl => ?_).symm
  exact congrArg₂ (· * ·) (flat_x (xCode (aX m c) (hX m c)) p q a hl).symm (flat_g (gCode (aG m c) (hG m c)) p q b hl).symm

/-! ## The codes and the scales -/

/-- The weights' codes. -/
theorem res_wq (c : Dev nD) : U6 m c (Proc.devRef .tc main_v5_0) = G14 (aX m c) (aW m c) (aG m c) (hX m c) (hW m c) (hG m c) := by
  refine (U6_of m c main_v5_0 (by decide)).trans <| (U5_of m c main_v5_0 (by decide)).trans <| (U4_of m c main_v5_0 (by decide)).trans ?_
  rw [Cert.ReferenceIdeal.Own.G14_eq]
  exact U3_wq m c
/-- The activations' codes. -/
theorem res_xq (c : Dev nD) : U6 m c (Proc.devRef .tc main_v12) = G12 (aX m c) (aW m c) (aG m c) (hX m c) (hW m c) (hG m c) := by
  have h : U6 m c (Proc.devRef .tc main_v12) =
      shapeCast S6x3072x5120 (U5 m c (Proc.devRef .tc main_v6_1) : FVec Ideal S18432x5120 .fp8e4m3) shapeCasts_S18432x5120_S6x3072x5120 := by
    unfold U6; after_results; rfl
  have e : U5 m c (Proc.devRef .tc main_v6_1) = _ := (U5_of m c main_v6_1 (by decide)).trans (U4_xq m c)
  rw [h, e, Cert.ReferenceIdeal.Own.G12_eq]
  exact shapeCast_shapeCast _ _ _
/-- The gradients' codes. -/
theorem res_gq (c : Dev nD) : U6 m c (Proc.devRef .tc main_v13) = G16 (aX m c) (aW m c) (aG m c) (hX m c) (hW m c) (hG m c) := by
  have h : U6 m c (Proc.devRef .tc main_v13) =
      shapeCast S6x3072x3456 (U5 m c (Proc.devRef .tc main_v7_1) : FVec Ideal S18432x3456 .fp8e5m2) shapeCasts_S18432x3456_S6x3072x3456 := by
    unfold U6; after_results; rfl
  have e : U5 m c (Proc.devRef .tc main_v7_1) = _ := (U5_of m c main_v7_1 (by decide)).trans (U4_gq m c)
  rw [h, e, Cert.ReferenceIdeal.Own.G16_eq]
  exact shapeCast_shapeCast _ _ _

/-- The activations' scale. -/
theorem res_sx (c : Dev nD) : U6 m c (Proc.devRef .tc main_v6_3) = G13 (aX m c) (aW m c) (aG m c) (hX m c) (hW m c) (hG m c) := by
  refine (U6_of m c main_v6_3 (by decide)).trans <| (U5_of m c main_v6_3 (by decide)).trans <| (U4_of m c main_v6_3 (by decide)).trans ?_
  refine (Pipeline.afterRegion_arr (dat1 (U2 m) c) (U2 m c) winFacts1.arr_inj 7).trans ((arr1_7 (U2 m) c).trans ((out1_7_eq m c).trans ?_))
  funext j
  exact (Cert.ReferenceIdeal.Own.G13_eq _ _ _ _ _ _ j).symm
/-- The weights' scale. -/
theorem res_sw (c : Dev nD) : U6 m c (Proc.devRef .tc main_v5_2) = G15 (aX m c) (aW m c) (aG m c) (hX m c) (hW m c) (hG m c) := by
  refine (U6_of m c main_v5_2 (by decide)).trans <| (U5_of m c main_v5_2 (by decide)).trans <| (U4_of m c main_v5_2 (by decide)).trans <|
    (U3_of m c main_v5_2 (by decide)).trans ?_
  refine (Pipeline.afterRegion_arr (dat0 (U1 m) c) (U1 m c) winFacts0.arr_inj 4).trans ((arr0_4 (U1 m) c).trans ((out0_4_eq m c).trans ?_))
  funext j
  exact (Cert.ReferenceIdeal.Own.G15_eq _ _ _ _ _ _ j).symm
/-- The gradients' scale. -/
theorem res_sg (c : Dev nD) : U6 m c (Proc.devRef .tc main_v7_3) = G17 (aX m c) (aW m c) (aG m c) (hX m c) (hW m c) (hG m c) := by
  refine (U6_of m c main_v7_3 (by decide)).trans <| (U5_of m c main_v7_3 (by decide)).trans ?_
  refine (Pipeline.afterRegion_arr (dat2 (U3 m) c) (U3 m c) winFacts2.arr_inj 7).trans ((arr2_7 (U3 m) c).trans ((out2_7_eq m c).trans ?_))
  funext j
  exact (Cert.ReferenceIdeal.Own.G17_eq _ _ _ _ _ _ j).symm

/-! ## The histories -/

/-- The magnitudes of a relaid array have the bounds of the array's. -/
theorem abs_cast_le {s t : Shape} (x : s.Idx → EReal) (h : s.ShapeCasts t) (C : EReal) :
    (∀ j, max (shapeCast t x h j) (-(shapeCast t x h j)) ≤ C) ↔ ∀ i, max (x i) (-(x i)) ≤ C :=
  shapeCast_le (fun i => max (x i) (-(x i))) h C

/-- The activations' shifted history. -/
theorem res_hx (c : Dev nD) : U6 m c (Proc.devRef .tc main_v9) = G9 (aX m c) (aW m c) (aG m c) (hX m c) (hW m c) (hG m c) := by
  have h : U6 m c (Proc.devRef .tc main_v9) =
      shapeCast S16 (U5 m c (Proc.devRef .tc main_v6_2) : FVec Ideal S1x16 .f32) shapeCasts_S1x16_S16 := by
    unfold U6; after_results; rfl
  have e : U5 m c (Proc.devRef .tc main_v6_2) = out1_6 (U2 m) c :=
    (U5_of m c main_v6_2 (by decide)).trans <| (U4_of m c main_v6_2 (by decide)).trans <|
      (Pipeline.afterRegion_arr (dat1 (U2 m) c) (U2 m c) winFacts1.arr_inj 6).trans (arr1_6 (U2 m) c)
  obtain ⟨b, hb, hle⟩ := ref_hist_x (aX m c) (hX m c)
  have a : aArr1 (U2 m) c = _ := U2_v0 m c
  rw [h, e]
  unfold out1_6
  rw [blk1_0_eq, U2_v2, k1_pay2_eq]
  refine (push_eq (hX m c) _ b fun i => eq_of_bounds fun C => ?_).trans (hb.symm.trans ?_)
  · rw [amax1_le, hle, a]
    exact abs_cast_le _ _ C
  · rfl
/-- The weights' shifted history. -/
theorem res_hw (c : Dev nD) : U6 m c (Proc.devRef .tc main_v10) = G10 (aX m c) (aW m c) (aG m c) (hX m c) (hW m c) (hG m c) := by
  have h : U6 m c (Proc.devRef .tc main_v10) =
      shapeCast S16 (U5 m c (Proc.devRef .tc main_v5_1) : FVec Ideal S1x16 .f32) shapeCasts_S1x16_S16 := by
    unfold U6; after_results; rfl
  have e : U5 m c (Proc.devRef .tc main_v5_1) = out0_3 (U1 m) c :=
    (U5_of m c main_v5_1 (by decide)).trans <| (U4_of m c main_v5_1 (by decide)).trans <| (U3_of m c main_v5_1 (by decide)).trans <|
      (Pipeline.afterRegion_arr (dat0 (U1 m) c) (U1 m c) winFacts0.arr_inj 3).trans (arr0_3 (U1 m) c)
  obtain ⟨b, hb, hle⟩ := ref_hist_w (aW m c) (hW m c)
  have a : wArr (U1 m) c = _ := U1_w m c
  rw [h, e]
  unfold out0_3
  rw [blk0_0_eq, U1_v3, k0_pay5_eq]
  refine (push_eq (hW m c) _ b fun i => eq_of_bounds fun C => ?_).trans (hb.symm.trans ?_)
  · rw [amax0_le, hle, a]
  · rfl
/-- The gradients' shifted history. -/
theorem res_hg (c : Dev nD) : U6 m c (Proc.devRef .tc main_v11) = G11 (aX m c) (aW m c) (aG m c) (hX m c) (hW m c) (hG m c) := by
  have h : U6 m c (Proc.devRef .tc main_v11) =
      shapeCast S16 (U5 m c (Proc.devRef .tc main_v7_2) : FVec Ideal S1x16 .f32) shapeCasts_S1x16_S16 := by
    unfold U6; after_results; rfl
  have e : U5 m c (Proc.devRef .tc main_v7_2) = out2_6 (U3 m) c :=
    (U5_of m c main_v7_2 (by decide)).trans <|
      (Pipeline.afterRegion_arr (dat2 (U3 m) c) (U3 m c) winFacts2.arr_inj 6).trans (arr2_6 (U3 m) c)
  obtain ⟨b, hb, hle⟩ := ref_hist_g (aG m c) (hG m c)
  have a : aArr2 (U3 m) c = _ := U3_v1 m c
  rw [h, e]
  unfold out2_6
  rw [blk2_0_eq, U3_v4, k2_pay2_eq]
  refine (push_eq (hG m c) _ b fun i => eq_of_bounds fun C => ?_).trans (hb.symm.trans ?_)
  · rw [amax2_le, hle, a]
    exact abs_cast_le _ _ C
  · rfl

/-! ## The run -/

/-- The twelve result buffers are among the buffers that outlive the regions. -/
theorem main_v6_0_mem : (Proc.devRef .tc main_v6_0 : DevRef τ sig) ∈ Pipeline.ucRefs τ sig := Finset.mem_filter.mpr ⟨StableHlo.devRef_mem_tcRefs main_v6_0, by decide⟩
theorem main_v7_0_mem : (Proc.devRef .tc main_v7_0 : DevRef τ sig) ∈ Pipeline.ucRefs τ sig := Finset.mem_filter.mpr ⟨StableHlo.devRef_mem_tcRefs main_v7_0, by decide⟩
theorem main_v8_mem : (Proc.devRef .tc main_v8 : DevRef τ sig) ∈ Pipeline.ucRefs τ sig := Finset.mem_filter.mpr ⟨StableHlo.devRef_mem_tcRefs main_v8, by decide⟩
theorem main_v9_mem : (Proc.devRef .tc main_v9 : DevRef τ sig) ∈ Pipeline.ucRefs τ sig := Finset.mem_filter.mpr ⟨StableHlo.devRef_mem_tcRefs main_v9, by decide⟩
theorem main_v10_mem : (Proc.devRef .tc main_v10 : DevRef τ sig) ∈ Pipeline.ucRefs τ sig := Finset.mem_filter.mpr ⟨StableHlo.devRef_mem_tcRefs main_v10, by decide⟩
theorem main_v11_mem : (Proc.devRef .tc main_v11 : DevRef τ sig) ∈ Pipeline.ucRefs τ sig := Finset.mem_filter.mpr ⟨StableHlo.devRef_mem_tcRefs main_v11, by decide⟩
theorem main_v12_mem : (Proc.devRef .tc main_v12 : DevRef τ sig) ∈ Pipeline.ucRefs τ sig := Finset.mem_filter.mpr ⟨StableHlo.devRef_mem_tcRefs main_v12, by decide⟩
theorem main_v6_3_mem : (Proc.devRef .tc main_v6_3 : DevRef τ sig) ∈ Pipeline.ucRefs τ sig := Finset.mem_filter.mpr ⟨StableHlo.devRef_mem_tcRefs main_v6_3, by decide⟩
theorem main_v5_0_mem : (Proc.devRef .tc main_v5_0 : DevRef τ sig) ∈ Pipeline.ucRefs τ sig := Finset.mem_filter.mpr ⟨StableHlo.devRef_mem_tcRefs main_v5_0, by decide⟩
theorem main_v5_2_mem : (Proc.devRef .tc main_v5_2 : DevRef τ sig) ∈ Pipeline.ucRefs τ sig := Finset.mem_filter.mpr ⟨StableHlo.devRef_mem_tcRefs main_v5_2, by decide⟩
theorem main_v13_mem : (Proc.devRef .tc main_v13 : DevRef τ sig) ∈ Pipeline.ucRefs τ sig := Finset.mem_filter.mpr ⟨StableHlo.devRef_mem_tcRefs main_v13, by decide⟩
theorem main_v7_3_mem : (Proc.devRef .tc main_v7_3 : DevRef τ sig) ∈ Pipeline.ucRefs τ sig := Finset.mem_filter.mpr ⟨StableHlo.devRef_mem_tcRefs main_v7_3, by decide⟩

/-- Every run of the kernel ends with the reference's functions of the arguments in the result buffers and the arguments unchanged. -/
theorem value_run (ρ : Dev nD → PrngReg) : θ_run (defs (F := Ideal)) (onTc (τ := τ) (main (F := Ideal))) ⟨m, fun _ => 0, ρ⟩ fun r => ∀ c : Dev nD,
      r.2.mem ((c.tc : Thread nD τ).loc main_v6_0) = G6 (aX m c) (aW m c) (aG m c) (hX m c) (hW m c) (hG m c)
      ∧ r.2.mem ((c.tc : Thread nD τ).loc main_v7_0) = G7 (aX m c) (aW m c) (aG m c) (hX m c) (hW m c) (hG m c)
      ∧ r.2.mem ((c.tc : Thread nD τ).loc main_v8) = G8 (aX m c) (aW m c) (aG m c) (hX m c) (hW m c) (hG m c)
      ∧ r.2.mem ((c.tc : Thread nD τ).loc main_v9) = G9 (aX m c) (aW m c) (aG m c) (hX m c) (hW m c) (hG m c)
      ∧ r.2.mem ((c.tc : Thread nD τ).loc main_v10) = G10 (aX m c) (aW m c) (aG m c) (hX m c) (hW m c) (hG m c)
      ∧ r.2.mem ((c.tc : Thread nD τ).loc main_v11) = G11 (aX m c) (aW m c) (aG m c) (hX m c) (hW m c) (hG m c)
      ∧ r.2.mem ((c.tc : Thread nD τ).loc main_v12) = G12 (aX m c) (aW m c) (aG m c) (hX m c) (hW m c) (hG m c)
      ∧ r.2.mem ((c.tc : Thread nD τ).loc main_v6_3) = G13 (aX m c) (aW m c) (aG m c) (hX m c) (hW m c) (hG m c)
      ∧ r.2.mem ((c.tc : Thread nD τ).loc main_v5_0) = G14 (aX m c) (aW m c) (aG m c) (hX m c) (hW m c) (hG m c)
      ∧ r.2.mem ((c.tc : Thread nD τ).loc main_v5_2) = G15 (aX m c) (aW m c) (aG m c) (hX m c) (hW m c) (hG m c)
      ∧ r.2.mem ((c.tc : Thread nD τ).loc main_v13) = G16 (aX m c) (aW m c) (aG m c) (hX m c) (hW m c) (hG m c)
      ∧ r.2.mem ((c.tc : Thread nD τ).loc main_v7_3) = G17 (aX m c) (aW m c) (aG m c) (hX m c) (hW m c) (hG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h.1 c _ main_v6_0_mem).trans (res_y m c),
      (h.1 c _ main_v7_0_mem).trans (res_dx m c),
      (h.1 c _ main_v8_mem).trans (res_dw m c),
      (h.1 c _ main_v9_mem).trans (res_hx m c),
      (h.1 c _ main_v10_mem).trans (res_hw m c),
      (h.1 c _ main_v11_mem).trans (res_hg m c),
      (h.1 c _ main_v12_mem).trans (res_xq m c),
      (h.1 c _ main_v6_3_mem).trans (res_sx m c),
      (h.1 c _ main_v5_0_mem).trans (res_wq m c),
      (h.1 c _ main_v5_2_mem).trans (res_sw m c),
      (h.1 c _ main_v13_mem).trans (res_gq m c),
      (h.1 c _ main_v7_3_mem).trans (res_sg m c),
      (h.1 c _ main_arg0_mem).trans (U6_main_arg0 m c),
      (h.1 c _ main_arg1_mem).trans (U6_main_arg1 m c),
      (h.1 c _ main_arg2_mem).trans (U6_main_arg2 m c),
      (h.1 c _ main_arg3_mem).trans (U6_main_arg3 m c),
      (h.1 c _ main_arg4_mem).trans (U6_main_arg4 m c),
      (h.1 c _ main_arg5_mem).trans (U6_main_arg5 m c)⟩) (run_all m ρ)

end Cert.KernelIdeal.Own

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.K.Whole
public import proofs.«01_k».proof.Proof.KI.Whole
public import proofs.«01_k».proof.Proof.KI.Result

@[expose] public section

noncomputable section

namespace Cert.Proof

open Idealize.ShloMosaic Idealize.SL.Sem

/-- Both programs, started at the same arguments, leave the same twelve results over the extended reals and their arguments unchanged. -/
theorem algebraic : Cert.algebraic_KernelIdeal_ReferenceIdeal (hKernelIdeal := Cert.KernelIdeal.Gen.facts) (hReferenceIdeal := Cert.ReferenceIdeal.Gen.facts) :=
  fun m g m' g' _ he => ⟨fun c => Cert.ReferenceIdeal.Value.G6 (Cert.KernelIdeal.Own.aX m c) (Cert.KernelIdeal.Own.aW m c) (Cert.KernelIdeal.Own.aG m c) (Cert.KernelIdeal.Own.hX m c) (Cert.KernelIdeal.Own.hW m c) (Cert.KernelIdeal.Own.hG m c),
    fun c => Cert.ReferenceIdeal.Value.G7 (Cert.KernelIdeal.Own.aX m c) (Cert.KernelIdeal.Own.aW m c) (Cert.KernelIdeal.Own.aG m c) (Cert.KernelIdeal.Own.hX m c) (Cert.KernelIdeal.Own.hW m c) (Cert.KernelIdeal.Own.hG m c),
    fun c => Cert.ReferenceIdeal.Value.G8 (Cert.KernelIdeal.Own.aX m c) (Cert.KernelIdeal.Own.aW m c) (Cert.KernelIdeal.Own.aG m c) (Cert.KernelIdeal.Own.hX m c) (Cert.KernelIdeal.Own.hW m c) (Cert.KernelIdeal.Own.hG m c),
    fun c => Cert.ReferenceIdeal.Value.G9 (Cert.KernelIdeal.Own.aX m c) (Cert.KernelIdeal.Own.aW m c) (Cert.KernelIdeal.Own.aG m c) (Cert.KernelIdeal.Own.hX m c) (Cert.KernelIdeal.Own.hW m c) (Cert.KernelIdeal.Own.hG m c),
    fun c => Cert.ReferenceIdeal.Value.G10 (Cert.KernelIdeal.Own.aX m c) (Cert.KernelIdeal.Own.aW m c) (Cert.KernelIdeal.Own.aG m c) (Cert.KernelIdeal.Own.hX m c) (Cert.KernelIdeal.Own.hW m c) (Cert.KernelIdeal.Own.hG m c),
    fun c => Cert.ReferenceIdeal.Value.G11 (Cert.KernelIdeal.Own.aX m c) (Cert.KernelIdeal.Own.aW m c) (Cert.KernelIdeal.Own.aG m c) (Cert.KernelIdeal.Own.hX m c) (Cert.KernelIdeal.Own.hW m c) (Cert.KernelIdeal.Own.hG m c),
    fun c => Cert.ReferenceIdeal.Value.G12 (Cert.KernelIdeal.Own.aX m c) (Cert.KernelIdeal.Own.aW m c) (Cert.KernelIdeal.Own.aG m c) (Cert.KernelIdeal.Own.hX m c) (Cert.KernelIdeal.Own.hW m c) (Cert.KernelIdeal.Own.hG m c),
    fun c => Cert.ReferenceIdeal.Value.G13 (Cert.KernelIdeal.Own.aX m c) (Cert.KernelIdeal.Own.aW m c) (Cert.KernelIdeal.Own.aG m c) (Cert.KernelIdeal.Own.hX m c) (Cert.KernelIdeal.Own.hW m c) (Cert.KernelIdeal.Own.hG m c),
    fun c => Cert.ReferenceIdeal.Value.G14 (Cert.KernelIdeal.Own.aX m c) (Cert.KernelIdeal.Own.aW m c) (Cert.KernelIdeal.Own.aG m c) (Cert.KernelIdeal.Own.hX m c) (Cert.KernelIdeal.Own.hW m c) (Cert.KernelIdeal.Own.hG m c),
    fun c => Cert.ReferenceIdeal.Value.G15 (Cert.KernelIdeal.Own.aX m c) (Cert.KernelIdeal.Own.aW m c) (Cert.KernelIdeal.Own.aG m c) (Cert.KernelIdeal.Own.hX m c) (Cert.KernelIdeal.Own.hW m c) (Cert.KernelIdeal.Own.hG m c),
    fun c => Cert.ReferenceIdeal.Value.G16 (Cert.KernelIdeal.Own.aX m c) (Cert.KernelIdeal.Own.aW m c) (Cert.KernelIdeal.Own.aG m c) (Cert.KernelIdeal.Own.hX m c) (Cert.KernelIdeal.Own.hW m c) (Cert.KernelIdeal.Own.hG m c),
    fun c => Cert.ReferenceIdeal.Value.G17 (Cert.KernelIdeal.Own.aX m c) (Cert.KernelIdeal.Own.aW m c) (Cert.KernelIdeal.Own.aG m c) (Cert.KernelIdeal.Own.hX m c) (Cert.KernelIdeal.Own.hW m c) (Cert.KernelIdeal.Own.hG m c),
    Cert.KernelIdeal.Own.value_run m g,
    (θ_run _ _ _).mono (fun r h c => by
      obtain ⟨a0, a1, a2, a3, a4, a5⟩ := he c
      have H := h c
      rw [a0, a1, a2, a3, a4, a5] at H ⊢
      exact H) (Cert.ReferenceIdeal.Value.run m' g')⟩

/-- Every claim of the certificate. -/
theorem claim : Cert.Claim := ⟨Cert.Kernel.Gen.facts, Cert.KernelIdeal.Gen.facts, Cert.ReferenceIdeal.Gen.facts,
  fun m ρ _ => Cert.Kernel.Own.frame_run m ρ, fun m ρ _ => Cert.KernelIdeal.Own.frame_run m ρ,
  fun m ρ _ => Cert.ReferenceIdeal.Gen.frame m ρ, trivial, algebraic⟩

end Cert.Proof

end
